-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_finite_in_range [hPre_finite_in_range : Cert.Pre_finite_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_in_range [hPre_finite_in_range : Cert.Pre_finite_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_in_range [hKernelIdeal : Cert.KernelIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_in_range [hReferenceIdeal : Cert.ReferenceIdeal.Facts] [hPre_finite_in_range : Cert.Pre_finite_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_in_range [hKernelIdeal : Cert.KernelIdeal.Facts] [hReferenceIdeal : Cert.ReferenceIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_range : Cert.Pre_in_range.Facts) (hPre_finite_in_range : Cert.Pre_finite_in_range.Facts),
    quiescent_Kernel (hKernel := hKernel) (hPre_in_range := hPre_in_range)
    ∧ quiescent_KernelIdeal (hKernelIdeal := hKernelIdeal) (hPre_in_range := hPre_in_range)
    ∧ quiescent_KernelIdeal_pre_finite_in_range (hKernelIdeal := hKernelIdeal) (hPre_finite_in_range := hPre_finite_in_range)
    ∧ quiescent_ReferenceIdeal (hReferenceIdeal := hReferenceIdeal)
    ∧ quiescent_ReferenceIdeal_pre_finite_in_range (hReferenceIdeal := hReferenceIdeal) (hPre_finite_in_range := hPre_finite_in_range)
    ∧ preserves_Kernel_KernelIdeal
    ∧ algebraic_KernelIdeal_ReferenceIdeal_pre_finite_in_range (hKernelIdeal := hKernelIdeal) (hReferenceIdeal := hReferenceIdeal) (hPre_finite_in_range := hPre_finite_in_range)
-- ==== Pre_finite_in_range.lean ====
abbrev S1024x101000 : Shape := ⟨2, ![1024, 101000]⟩
abbrev S1024 : Shape := ⟨1, ![1024]⟩
abbrev S1000 : Shape := ⟨1, ![1000]⟩
abbrev S1000x100 : Shape := ⟨2, ![1000, 100]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x101000 : S_.BroadcastsInDim S1024x101000 (![] : Fin 0 → Fin S1024x101000.rank)
  reducesTo_S1024x101000_S_d0_1 : S1024x101000.ReducesTo [0, 1] S_
  bcast_S_S1000 : S_.BroadcastsInDim S1000 (![] : Fin 0 → Fin S1000.rank)
  reducesTo_S1000_S_d0 : S1000.ReducesTo [0] S_
  bcast_S_S1000x100 : S_.BroadcastsInDim S1000x100 (![] : Fin 0 → Fin S1000x100.rank)
  reducesTo_S1000x100_S_d0_1 : S1000x100.ReducesTo [0, 1] S_

variable [Facts]

def fn_part1 {F : FTy → Type} [FloatOps F] (main_arg2 : FVec F S1000 .f32) (main_arg3 : FVec F S1000x100 .f32) (main_v15 : IVec S_ 1) (main_cst_5 : FVec F S_ .f32) : IVec S_ 1 :=
  let main_v16 : FVec F S1000 .f32 := broadcastInDim S1000 ![] bcast_S_S1000 main_cst_5
  let main_v17 : IVec S1000 1 := cmpf .une main_arg2 main_v16
  let main_c_6 : IVec S_ 1 := constantI S_ 1 1#1
  let main_v18 : IVec S_ 1 := (fun x v => Host.reduce IntOp.andi x v reducesTo_S1000_S_d0 h_S_) main_v17 main_c_6
  let main_v19 : IVec S_ 1 := andi main_v15 main_v18
  let main_v20 : FVec F S1000x100 .f32 := Host.absf main_arg3
  let main_cst_7 : FVec F S_ .f32 := constant S_ .f32 0x7F800000#32
  let main_v21 : FVec F S1000x100 .f32 := broadcastInDim S1000x100 ![] bcast_S_S1000x100 main_cst_7
  let main_v22 : IVec S1000x100 1 := cmpf .olt main_v20 main_v21
  let main_c_8 : IVec S_ 1 := constantI S_ 1 1#1
  let main_v23 : IVec S_ 1 := (fun x v => Host.reduce IntOp.andi x v reducesTo_S1000x100_S_d0_1 h_S_) main_v22 main_c_8
  let main_v24 : IVec S_ 1 := andi main_v19 main_v23
  let main_cst_9 : FVec F S_ .f32 := constant S_ .f32 0x00000000#32
  let main_v25 : FVec F S1000x100 .f32 := broadcastInDim S1000x100 ![] bcast_S_S1000x100 main_cst_9
  let main_v26 : IVec S1000x100 1 := cmpf .une main_arg3 main_v25
  let main_c_10 : IVec S_ 1 := constantI S_ 1 1#1
  let main_v27 : IVec S_ 1 := (fun x v => Host.reduce IntOp.andi x v reducesTo_S1000x100_S_d0_1 h_S_) main_v26 main_c_10
  let main_v28 : IVec S_ 1 := andi main_v24 main_v27
  main_v28

def fn {F : FTy → Type} [FloatOps F] (main_arg0 : FVec F S1024x101000 .f32) (main_arg1 : IVec S1024 32) (main_arg2 : FVec F S1000 .f32) (main_arg3 : FVec F S1000x100 .f32) (main_arg4 : FVec F S1000 .f32) : IVec S_ 1 :=
  let main_c : IVec S_ 32 := constantI S_ 32 0#32
  let main_v0 : IVec S1024 32 := broadcastInDim S1024 ![] bcast_S_S1024 main_c
  let main_v1 : IVec S1024 1 := cmpi .sge main_arg1 main_v0
  let main_c_0 : IVec S_ 32 := constantI S_ 32 100000#32
  let main_v2 : IVec S1024 32 := broadcastInDim S1024 ![] bcast_S_S1024 main_c_0
  let main_v3 : IVec S1024 1 := cmpi .slt main_arg1 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  let main_v6 : FVec F S1024x101000 .f32 := Host.absf main_arg0
  let main_cst : FVec F S_ .f32 := constant S_ .f32 0x7F800000#32
  let main_v7 : FVec F S1024x101000 .f32 := broadcastInDim S1024x101000 ![] bcast_S_S1024x101000 main_cst
  let main_v8 : IVec S1024x101000 1 := cmpf .olt main_v6 main_v7
  let main_c_2 : IVec S_ 1 := constantI S_ 1 1#1
  let main_v9 : IVec S_ 1 := (fun x v => Host.reduce IntOp.andi x v reducesTo_S1024x101000_S_d0_1 h_S_) main_v8 main_c_2
  let main_v10 : IVec S_ 1 := andi main_v5 main_v9
  let main_v11 : FVec F S1000 .f32 := Host.absf main_arg2
  let main_cst_3 : FVec F S_ .f32 := constant S_ .f32 0x7F800000#32
  let main_v12 : FVec F S1000 .f32 := broadcastInDim S1000 ![] bcast_S_S1000 main_cst_3
  let main_v13 : IVec S1000 1 := cmpf .olt main_v11 main_v12
  let main_c_4 : IVec S_ 1 := constantI S_ 1 1#1
  let main_v14 : IVec S_ 1 := (fun x v => Host.reduce IntOp.andi x v reducesTo_S1000_S_d0 h_S_) main_v13 main_c_4
  let main_v15 : IVec S_ 1 := andi main_v10 main_v14
  let main_cst_5 : FVec F S_ .f32 := constant S_ .f32 0x00000000#32
  fn_part1 (F := F) main_arg2 main_arg3 main_v15 main_cst_5
-- ==== Pre_in_range.lean ====
abbrev S1024x101000 : Shape := ⟨2, ![1024, 101000]⟩
abbrev S1024 : Shape := ⟨1, ![1024]⟩
abbrev S1000 : Shape := ⟨1, ![1000]⟩
abbrev S1000x100 : Shape := ⟨2, ![1000, 100]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : FVec F S1024x101000 .f32) (main_arg1 : IVec S1024 32) (main_arg2 : FVec F S1000 .f32) (main_arg3 : FVec F S1000x100 .f32) (main_arg4 : FVec F S1000 .f32) : IVec S_ 1 :=
  let main_c : IVec S_ 32 := constantI S_ 32 0#32
  let main_v0 : IVec S1024 32 := broadcastInDim S1024 ![] bcast_S_S1024 main_c
  let main_v1 : IVec S1024 1 := cmpi .sge main_arg1 main_v0
  let main_c_0 : IVec S_ 32 := constantI S_ 32 100000#32
  let main_v2 : IVec S1024 32 := broadcastInDim S1024 ![] bcast_S_S1024 main_c_0
  let main_v3 : IVec S1024 1 := cmpi .slt main_arg1 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  main_v5
-- ==== Kernel.lean ====
abbrev S1024x101000 : Shape := ⟨2, ![1024, 101000]⟩
abbrev S1024 : Shape := ⟨1, ![1024]⟩
abbrev S1000 : Shape := ⟨1, ![1000]⟩
abbrev S1000x100 : Shape := ⟨2, ![1000, 100]⟩
abbrev S_ : Shape := ⟨0, ![]⟩
abbrev S1000x128 : Shape := ⟨2, ![1000, 128]⟩
abbrev S1024x101120 : Shape := ⟨2, ![1024, 101120]⟩
abbrev S1024x256 : Shape := ⟨2, ![1024, 256]⟩
abbrev S1024x128 : Shape := ⟨2, ![1024, 128]⟩
abbrev S32 : Shape := ⟨1, ![32]⟩
abbrev S32x8x256 : Shape := ⟨3, ![32, 8, 256]⟩
abbrev S32x256 : Shape := ⟨2, ![32, 256]⟩
abbrev S32x128 : Shape := ⟨2, ![32, 128]⟩
abbrev S16 : Shape := ⟨1, ![16]⟩
abbrev S1 : Shape := ⟨1, ![1]⟩
abbrev S1x8x256 : Shape := ⟨3, ![1, 8, 256]⟩
abbrev S8x256 : Shape := ⟨2, ![8, 256]⟩
abbrev S1x1x16 : Shape := ⟨3, ![1, 1, 16]⟩
abbrev S1x16 : Shape := ⟨2, ![1, 16]⟩
abbrev S1024x1024 : Shape := ⟨2, ![1024, 1024]⟩
abbrev S8x128x1 : Shape := ⟨3, ![8, 128, 1]⟩
abbrev S1x1024 : Shape := ⟨2, ![1, 1024]⟩
abbrev S1x1 : Shape := ⟨2, ![1, 1]⟩
abbrev S128x1024 : Shape := ⟨2, ![128, 1024]⟩
abbrev S128x256 : Shape := ⟨2, ![128, 256]⟩
abbrev S128x128 : Shape := ⟨2, ![128, 128]⟩
abbrev S1x128x1 : Shape := ⟨3, ![1, 128, 1]⟩
abbrev S128x1 : Shape := ⟨2, ![128, 1]⟩
abbrev S128 : Shape := ⟨1, ![128]⟩
abbrev S1x1x1024 : Shape := ⟨3, ![1, 1, 1024]⟩
abbrev S1x1x1 : Shape := ⟨3, ![1, 1, 1]⟩
abbrev S128x192 : Shape := ⟨2, ![128, 192]⟩
abbrev S128x64 : Shape := ⟨2, ![128, 64]⟩
abbrev S128x224 : Shape := ⟨2, ![128, 224]⟩
abbrev S128x32 : Shape := ⟨2, ![128, 32]⟩
abbrev S128x240 : Shape := ⟨2, ![128, 240]⟩
abbrev S128x16 : Shape := ⟨2, ![128, 16]⟩
abbrev S128x248 : Shape := ⟨2, ![128, 248]⟩
abbrev S128x8 : Shape := ⟨2, ![128, 8]⟩
abbrev S128x252 : Shape := ⟨2, ![128, 252]⟩
abbrev S128x4 : Shape := ⟨2, ![128, 4]⟩

abbrev nBuf : Table → Nat
  | .hbm => 66
  | .local .tc .vmem => 13
  | .local .scVector .vmem => 5
  | _ => 0

abbrev bufTy : (tb : Table) → Fin (nBuf tb) → BufTy
  | .hbm, ⟨0, _⟩ => ⟨S1024x101000, .f32⟩
  | .hbm, ⟨1, _⟩ => ⟨S1024, .i32⟩
  | .hbm, ⟨2, _⟩ => ⟨S1000, .f32⟩
  | .hbm, ⟨3, _⟩ => ⟨S1000x100, .f32⟩
  | .hbm, ⟨4, _⟩ => ⟨S1000, .f32⟩
  | .hbm, ⟨5, _⟩ => ⟨S_, .i32⟩
  | .hbm, ⟨6, _⟩ => ⟨S_, .i32⟩
  | .hbm, ⟨7, _⟩ => ⟨S1024, .i32⟩
  | .hbm, ⟨8, _⟩ => ⟨S1024, .i32⟩
  | .hbm, ⟨9, _⟩ => ⟨S1024, .i32⟩
  | .hbm, ⟨10, _⟩ => ⟨S_, .i32⟩
  | .hbm, ⟨11, _⟩ => ⟨S1024, .i32⟩
  | .hbm, ⟨12, _⟩ => ⟨S1024, .i1⟩
  | .hbm, ⟨13, _⟩ => ⟨S1024, .i32⟩
  | .hbm, ⟨14, _⟩ => ⟨S1024, .i32⟩
  | .hbm, ⟨15, _⟩ => ⟨S_, .i32⟩
  | .hbm, ⟨16, _⟩ => ⟨S1024, .i32⟩
  | .hbm, ⟨17, _⟩ => ⟨S1024, .i1⟩
  | .hbm, ⟨18, _⟩ => ⟨S1024, .i1⟩
  | .hbm, ⟨19, _⟩ => ⟨S_, .i32⟩
  | .hbm, ⟨20, _⟩ => ⟨S1024, .i32⟩
  | .hbm, ⟨21, _⟩ => ⟨S1024, .i32⟩
  | .hbm, ⟨22, _⟩ => ⟨S1024, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S1024, .i32⟩
  | .hbm, ⟨30, _⟩ => ⟨S1024, .i32⟩
  | .hbm, ⟨31, _⟩ => ⟨S_, .i32⟩
  | .hbm, ⟨32, _⟩ => ⟨S1024, .i32⟩
  | .hbm, ⟨33, _⟩ => ⟨S1024, .i1⟩
  | .hbm, ⟨34, _⟩ => ⟨S_, .i32⟩
  | .hbm, ⟨35, _⟩ => ⟨S1024, .i32⟩
  | .hbm, ⟨36, _⟩ => ⟨S1024, .i1⟩
  | .hbm, ⟨37, _⟩ => ⟨S_, .i32⟩
  | .hbm, ⟨38, _⟩ => ⟨S_, .i1⟩
  | .hbm, ⟨39, _⟩ => ⟨S1024, .i1⟩
  | .hbm, ⟨40, _⟩ => ⟨S1024, .i1⟩
  | .hbm, ⟨41, _⟩ => ⟨S1024, .i1⟩
  | .hbm, ⟨42, _⟩ => ⟨S1024, .i32⟩
  | .hbm, ⟨43, _⟩ => ⟨S1024, .i32⟩
  | .hbm, ⟨44, _⟩ => ⟨S1024, .i32⟩
  | .hbm, ⟨45, _⟩ => ⟨S_, .i32⟩
  | .hbm, ⟨46, _⟩ => ⟨S_, .f32⟩
  | .hbm, ⟨47, _⟩ => ⟨S1000x128, .f32⟩
  | .hbm, ⟨48, _⟩ => ⟨S_, .i32⟩
  | .hbm, ⟨49, _⟩ => ⟨S_, .f32⟩
  | .hbm, ⟨50, _⟩ => ⟨S1024x101120, .f32⟩
  | .hbm, ⟨51, _⟩ => ⟨S1024x256, .f32⟩
  | .hbm, ⟨52, _⟩ => ⟨S1024x128, .f32⟩
  | .hbm, ⟨53, _⟩ => ⟨S1024x1024, .f32⟩
  | .hbm, ⟨54, _⟩ => ⟨S8x128x1, .i32⟩
  | .hbm, ⟨55, _⟩ => ⟨S8x128x1, .i32⟩
  | .hbm, ⟨56, _⟩ => ⟨S_, .i32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S_, .i32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S1x1, .f32⟩
  | .hbm, ⟨65, _⟩ => ⟨S_, .f32⟩
  | .local .tc .vmem, ⟨0, _⟩ => ⟨S128x1024, .f32⟩
  | .local .tc .vmem, ⟨1, _⟩ => ⟨S128x1024, .f32⟩
  | .local .tc .vmem, ⟨2, _⟩ => ⟨S128x256, .f32⟩
  | .local .tc .vmem, ⟨3, _⟩ => ⟨S128x256, .f32⟩
  | .local .tc .vmem, ⟨4, _⟩ => ⟨S128x128, .f32⟩
  | .local .tc .vmem, ⟨5, _⟩ => ⟨S128x128, .f32⟩
  | .local .tc .vmem, ⟨6, _⟩ => ⟨S1x128x1, .i32⟩
  | .local .tc .vmem, ⟨7, _⟩ => ⟨S1x128x1, .i32⟩
  | .local .tc .vmem, ⟨8, _⟩ => ⟨S1x128x1, .i32⟩
  | .local .tc .vmem, ⟨9, _⟩ => ⟨S1x128x1, .i32⟩
  | .local .tc .vmem, ⟨10, _⟩ => ⟨S1x1024, .f32⟩
  | .local .tc .vmem, ⟨11, _⟩ => ⟨S1x1024, .f32⟩
  | .local .tc .vmem, ⟨12, _⟩ => ⟨S1x1, .f32⟩
  | .local .scVector .vmem, ⟨0, _⟩ => ⟨S1024, .i32⟩
  | .local .scVector .vmem, ⟨1, _⟩ => ⟨S32, .i32⟩
  | .local .scVector .vmem, ⟨2, _⟩ => ⟨S32x8x256, .f32⟩
  | .local .scVector .vmem, ⟨3, _⟩ => ⟨S32x256, .f32⟩
  | .local .scVector .vmem, ⟨4, _⟩ => ⟨S32x128, .f32⟩
  | _, _ => ⟨S1024x101000, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 18 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTables nBuf rfl bufTy 4 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v0 : Ref sig .tc := ⟨.hbm, 22, rfl⟩
abbrev main_c_0 : Ref sig .tc := ⟨.hbm, 23, rfl⟩
abbrev main_call1_v0 : Ref sig .tc := ⟨.hbm, 24, rfl⟩
abbrev main_call1_c : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_c_1 : Ref sig .tc := ⟨.hbm, 31, rfl⟩
abbrev main_call1_v5 : Ref sig .tc := ⟨.hbm, 32, rfl⟩
abbrev main_call1_v6 : Ref sig .tc := ⟨.hbm, 33, rfl⟩
abbrev main_call1_c_2 : Ref sig .tc := ⟨.hbm, 34, rfl⟩
abbrev main_call1_v7 : Ref sig .tc := ⟨.hbm, 35, rfl⟩
abbrev main_call1_v8 : Ref sig .tc := ⟨.hbm, 36, rfl⟩
abbrev main_call1_c_3 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_v12 : Ref sig .tc := ⟨.hbm, 41, rfl⟩
abbrev main_call1_v13 : Ref sig .tc := ⟨.hbm, 42, rfl⟩
abbrev main_call1_v14 : Ref sig .tc := ⟨.hbm, 43, rfl⟩
abbrev main_v1 : Ref sig .tc := ⟨.hbm, 44, rfl⟩
abbrev main_c_1 : Ref sig .tc := ⟨.hbm, 45, rfl⟩
abbrev main_call2_v0 : Ref sig .tc := ⟨.hbm, 46, rfl⟩
abbrev main_v2 : Ref sig .tc := ⟨.hbm, 47, rfl⟩
abbrev main_c_2 : Ref sig .tc := ⟨.hbm, 48, rfl⟩
abbrev main_call3_v0 : Ref sig .tc := ⟨.hbm, 49, rfl⟩
abbrev main_v3 : Ref sig .tc := ⟨.hbm, 50, rfl⟩
abbrev main_v4_0 : Ref sig .tc := ⟨.hbm, 51, rfl⟩
abbrev main_v4_1 : Ref sig .tc := ⟨.hbm, 52, rfl⟩
abbrev main_v5 : Ref sig .tc := ⟨.hbm, 53, rfl⟩
abbrev main_v6 : Ref sig .tc := ⟨.hbm, 54, rfl⟩
abbrev main_v7 : Ref sig .tc := ⟨.hbm, 55, rfl⟩
abbrev main_c_3 : Ref sig .tc := ⟨.hbm, 56, rfl⟩
abbrev main_call4_v0 : Ref sig .tc := ⟨.hbm, 57, rfl⟩
abbrev main_v8 : Ref sig .tc := ⟨.hbm, 58, rfl⟩
abbrev main_v9 : Ref sig .tc := ⟨.hbm, 59, rfl⟩
abbrev main_c_4 : Ref sig .tc := ⟨.hbm, 60, rfl⟩
abbrev main_call5_v0 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_v3_scv : Ref sig .scVector := ⟨.hbm, 50, rfl⟩
abbrev main_v0_scv : Ref sig .scVector := ⟨.hbm, 22, rfl⟩
abbrev main_v2_scv : Ref sig .scVector := ⟨.hbm, 47, rfl⟩
abbrev main_v4_0_scv : Ref sig .scVector := ⟨.hbm, 51, rfl⟩
abbrev main_v4_1_scv : Ref sig .scVector := ⟨.hbm, 52, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg6_0 : Ref sig .tc := ⟨.vmem, 11, rfl⟩
abbrev cc1_stg7_0 : Ref sig .tc := ⟨.vmem, 12, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem6_0 : DmaSem sig := 16
abbrev cc1_sem7_0 : DmaSem sig := 17
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := Scalar.addi v2 c0_i32
  let v4 : Index := Scalar.indexCast v3
  ![v4.toNat]
def k0_mult1 (v31 : BitVec 32) : BitVec 32 :=
  v31

def k0_off2 (i : grid0.Coords) (v31 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_3 : BitVec 32 := 0#32
  let v33 : BitVec 32 := Scalar.addi v2 c0_i32_3
  let v32 : BitVec 32 := v31
  ![v33.toNat, v32.toNat]
def k0_mult2 (v41 : BitVec 32) : BitVec 32 :=
  v41

def k0_off3 (i : grid0.Coords) (v41 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_9 : BitVec 32 := 0#32
  let v43 : BitVec 32 := Scalar.addi v2 c0_i32_9
  let v42 : BitVec 32 := v41
  ![v43.toNat, v42.toNat]
def k0_mult3 (v51 : BitVec 32) : BitVec 32 :=
  v51

def k0_off4 (i : grid0.Coords) (v51 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_14 : BitVec 32 := 0#32
  let v53 : BitVec 32 := Scalar.addi v2 c0_i32_14
  let v52 : BitVec 32 := v51
  ![v53.toNat, v52.toNat]
def k0_mult4 (v61 : BitVec 32) : BitVec 32 :=
  v61

def k0_off5 (i : grid0.Coords) (v61 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_20 : BitVec 32 := 0#32
  let v63 : BitVec 32 := Scalar.addi v2 c0_i32_20
  let v62 : BitVec 32 := v61
  ![v63.toNat, v62.toNat]
def k0_mult5 (v71 : BitVec 32) : BitVec 32 :=
  v71

def k0_off6 (i : grid0.Coords) (v71 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_25 : BitVec 32 := 0#32
  let v73 : BitVec 32 := Scalar.addi v2 c0_i32_25
  let v72 : BitVec 32 := v71
  ![v73.toNat, v72.toNat]
def k0_mult6 (v81 : BitVec 32) : BitVec 32 :=
  v81

def k0_off7 (i : grid0.Coords) (v81 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_30 : BitVec 32 := 0#32
  let v83 : BitVec 32 := Scalar.addi v2 c0_i32_30
  let v82 : BitVec 32 := v81
  ![v83.toNat, v82.toNat]
def k0_mult7 (v91 : BitVec 32) : BitVec 32 :=
  v91

def k0_off8 (i : grid0.Coords) (v91 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_35 : BitVec 32 := 0#32
  let v93 : BitVec 32 := Scalar.addi v2 c0_i32_35
  let v92 : BitVec 32 := v91
  ![v93.toNat, v92.toNat]
def k0_mult8 (v101 : BitVec 32) : BitVec 32 :=
  v101

def k0_off9 (i : grid0.Coords) (v101 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_40 : BitVec 32 := 0#32
  let v103 : BitVec 32 := Scalar.addi v2 c0_i32_40
  let v102 : BitVec 32 := v101
  ![v103.toNat, v102.toNat]
def k0_mult9 (v111 : BitVec 32) : BitVec 32 :=
  v111

def k0_off10 (i : grid0.Coords) (v111 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c8_i32 : BitVec 32 := 8#32
  let v113 : BitVec 32 := Scalar.addi v2 c8_i32
  let v112 : BitVec 32 := v111
  ![v113.toNat, v112.toNat]
def k0_mult10 (v121 : BitVec 32) : BitVec 32 :=
  v121

def k0_off11 (i : grid0.Coords) (v121 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c8_i32_51 : BitVec 32 := 8#32
  let v123 : BitVec 32 := Scalar.addi v2 c8_i32_51
  let v122 : BitVec 32 := v121
  ![v123.toNat, v122.toNat]
def k0_mult11 (v131 : BitVec 32) : BitVec 32 :=
  v131

def k0_off12 (i : grid0.Coords) (v131 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c8_i32_56 : BitVec 32 := 8#32
  let v133 : BitVec 32 := Scalar.addi v2 c8_i32_56
  let v132 : BitVec 32 := v131
  ![v133.toNat, v132.toNat]
def k0_mult12 (v141 : BitVec 32) : BitVec 32 :=
  v141

def k0_off13 (i : grid0.Coords) (v141 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c8_i32_61 : BitVec 32 := 8#32
  let v143 : BitVec 32 := Scalar.addi v2 c8_i32_61
  let v142 : BitVec 32 := v141
  ![v143.toNat, v142.toNat]
def k0_mult13 (v151 : BitVec 32) : BitVec 32 :=
  v151

def k0_off14 (i : grid0.Coords) (v151 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c8_i32_66 : BitVec 32 := 8#32
  let v153 : BitVec 32 := Scalar.addi v2 c8_i32_66
  let v152 : BitVec 32 := v151
  ![v153.toNat, v152.toNat]
def k0_mult14 (v161 : BitVec 32) : BitVec 32 :=
  v161

def k0_off15 (i : grid0.Coords) (v161 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c8_i32_71 : BitVec 32 := 8#32
  let v163 : BitVec 32 := Scalar.addi v2 c8_i32_71
  let v162 : BitVec 32 := v161
  ![v163.toNat, v162.toNat]
def k0_mult15 (v171 : BitVec 32) : BitVec 32 :=
  v171

def k0_off16 (i : grid0.Coords) (v171 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c8_i32_76 : BitVec 32 := 8#32
  let v173 : BitVec 32 := Scalar.addi v2 c8_i32_76
  let v172 : BitVec 32 := v171
  ![v173.toNat, v172.toNat]
def k0_mult16 (v181 : BitVec 32) : BitVec 32 :=
  v181

def k0_off17 (i : grid0.Coords) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c8_i32_81 : BitVec 32 := 8#32
  let v183 : BitVec 32 := Scalar.addi v2 c8_i32_81
  let v182 : BitVec 32 := v181
  ![v183.toNat, v182.toNat]
def k0_off18 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_86 : BitVec 32 := 16#32
  let v190 : BitVec 32 := Scalar.addi v2 c16_i32_86
  let v191 : Index := Scalar.indexCast v190
  ![v191.toNat]
def k0_mult17 (v203 : BitVec 32) : BitVec 32 :=
  v203

def k0_off19 (i : grid0.Coords) (v203 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_91 : BitVec 32 := 16#32
  let v205 : BitVec 32 := Scalar.addi v2 c16_i32_91
  let v204 : BitVec 32 := v203
  ![v205.toNat, v204.toNat]
def k0_mult18 (v213 : BitVec 32) : BitVec 32 :=
  v213

def k0_off20 (i : grid0.Coords) (v213 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_97 : BitVec 32 := 16#32
  let v215 : BitVec 32 := Scalar.addi v2 c16_i32_97
  let v214 : BitVec 32 := v213
  ![v215.toNat, v214.toNat]
def k0_mult19 (v223 : BitVec 32) : BitVec 32 :=
  v223

def k0_off21 (i : grid0.Coords) (v223 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_102 : BitVec 32 := 16#32
  let v225 : BitVec 32 := Scalar.addi v2 c16_i32_102
  let v224 : BitVec 32 := v223
  ![v225.toNat, v224.toNat]
def k0_mult20 (v233 : BitVec 32) : BitVec 32 :=
  v233

def k0_off22 (i : grid0.Coords) (v233 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_107 : BitVec 32 := 16#32
  let v235 : BitVec 32 := Scalar.addi v2 c16_i32_107
  let v234 : BitVec 32 := v233
  ![v235.toNat, v234.toNat]
def k0_mult21 (v243 : BitVec 32) : BitVec 32 :=
  v243

def k0_off23 (i : grid0.Coords) (v243 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_112 : BitVec 32 := 16#32
  let v245 : BitVec 32 := Scalar.addi v2 c16_i32_112
  let v244 : BitVec 32 := v243
  ![v245.toNat, v244.toNat]
def k0_mult22 (v253 : BitVec 32) : BitVec 32 :=
  v253

def k0_off24 (i : grid0.Coords) (v253 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_117 : BitVec 32 := 16#32
  let v255 : BitVec 32 := Scalar.addi v2 c16_i32_117
  let v254 : BitVec 32 := v253
  ![v255.toNat, v254.toNat]
def k0_mult23 (v263 : BitVec 32) : BitVec 32 :=
  v263

def k0_off25 (i : grid0.Coords) (v263 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_122 : BitVec 32 := 16#32
  let v265 : BitVec 32 := Scalar.addi v2 c16_i32_122
  let v264 : BitVec 32 := v263
  ![v265.toNat, v264.toNat]
def k0_mult24 (v273 : BitVec 32) : BitVec 32 :=
  v273

def k0_off26 (i : grid0.Coords) (v273 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_127 : BitVec 32 := 16#32
  let v275 : BitVec 32 := Scalar.addi v2 c16_i32_127
  let v274 : BitVec 32 := v273
  ![v275.toNat, v274.toNat]
def k0_mult25 (v283 : BitVec 32) : BitVec 32 :=
  v283

def k0_off27 (i : grid0.Coords) (v283 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c24_i32 : BitVec 32 := 24#32
  let v285 : BitVec 32 := Scalar.addi v2 c24_i32
  let v284 : BitVec 32 := v283
  ![v285.toNat, v284.toNat]
def k0_mult26 (v293 : BitVec 32) : BitVec 32 :=
  v293

def k0_off28 (i : grid0.Coords) (v293 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c24_i32_137 : BitVec 32 := 24#32
  let v295 : BitVec 32 := Scalar.addi v2 c24_i32_137
  let v294 : BitVec 32 := v293
  ![v295.toNat, v294.toNat]
def k0_mult27 (v303 : BitVec 32) : BitVec 32 :=
  v303

def k0_off29 (i : grid0.Coords) (v303 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c24_i32_142 : BitVec 32 := 24#32
  let v305 : BitVec 32 := Scalar.addi v2 c24_i32_142
  let v304 : BitVec 32 := v303
  ![v305.toNat, v304.toNat]
def k0_mult28 (v313 : BitVec 32) : BitVec 32 :=
  v313

def k0_off30 (i : grid0.Coords) (v313 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c24_i32_147 : BitVec 32 := 24#32
  let v315 : BitVec 32 := Scalar.addi v2 c24_i32_147
  let v314 : BitVec 32 := v313
  ![v315.toNat, v314.toNat]
def k0_mult29 (v323 : BitVec 32) : BitVec 32 :=
  v323

def k0_off31 (i : grid0.Coords) (v323 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c24_i32_152 : BitVec 32 := 24#32
  let v325 : BitVec 32 := Scalar.addi v2 c24_i32_152
  let v324 : BitVec 32 := v323
  ![v325.toNat, v324.toNat]
def k0_mult30 (v333 : BitVec 32) : BitVec 32 :=
  v333

def k0_off32 (i : grid0.Coords) (v333 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c24_i32_157 : BitVec 32 := 24#32
  let v335 : BitVec 32 := Scalar.addi v2 c24_i32_157
  let v334 : BitVec 32 := v333
  ![v335.toNat, v334.toNat]
def k0_mult31 (v343 : BitVec 32) : BitVec 32 :=
  v343

def k0_off33 (i : grid0.Coords) (v343 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c24_i32_162 : BitVec 32 := 24#32
  let v345 : BitVec 32 := Scalar.addi v2 c24_i32_162
  let v344 : BitVec 32 := v343
  ![v345.toNat, v344.toNat]
def k0_mult32 (v353 : BitVec 32) : BitVec 32 :=
  v353

def k0_off34 (i : grid0.Coords) (v353 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c24_i32_167 : BitVec 32 := 24#32
  let v355 : BitVec 32 := Scalar.addi v2 c24_i32_167
  let v354 : BitVec 32 := v353
  ![v355.toNat, v354.toNat]

def k0_chk32 (i : grid0.Coords) (v353 : BitVec 32) : Prop :=
  (128 ∣ (k0_mult32 v353).toNat) ∧
  (∀ a, (k0_off34 i v353) a + S8x256.size a ≤ S1024x101120.size a)
theorem k0_mult32_dvd : ∀ (i : grid0.Coords) (v353 : BitVec 32) (k0_hw32 : k0_chk32 i v353), 128 ∣ (k0_mult32 v353).toNat := fun i v353 k0_hw32 => k0_hw32.1
theorem k0_off34_inb : ∀ (i : grid0.Coords) (v353 : BitVec 32) (k0_hw32 : k0_chk32 i v353), ∀ a, (k0_off34 i v353) a + S8x256.size a ≤ S1024x101120.size a := fun i v353 k0_hw32 => k0_hw32.2

def k0_off35 (i : grid0.Coords) (v31 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_3 : BitVec 32 := 0#32
  let v33 : BitVec 32 := Scalar.addi v2 c0_i32_3
  let v32 : BitVec 32 := v31
  ![v33.toNat, v32.toNat]

def k0_chk1 (i : grid0.Coords) (v31 : BitVec 32) : Prop :=
  (128 ∣ (k0_mult1 v31).toNat) ∧
  (∀ a, (k0_off2 i v31) a + S8x256.size a ≤ S1024x101120.size a) ∧
  (∀ a, (k0_off35 i v31) a + S8x256.size a ≤ S1024x101120.size a)
theorem k0_mult1_dvd : ∀ (i : grid0.Coords) (v31 : BitVec 32) (k0_hw1 : k0_chk1 i v31), 128 ∣ (k0_mult1 v31).toNat := fun i v31 k0_hw1 => k0_hw1.1
theorem k0_off2_inb : ∀ (i : grid0.Coords) (v31 : BitVec 32) (k0_hw1 : k0_chk1 i v31), ∀ a, (k0_off2 i v31) a + S8x256.size a ≤ S1024x101120.size a := fun i v31 k0_hw1 => k0_hw1.2.1
theorem k0_off35_inb : ∀ (i : grid0.Coords) (v31 : BitVec 32) (k0_hw1 : k0_chk1 i v31), ∀ a, (k0_off35 i v31) a + S8x256.size a ≤ S1024x101120.size a := fun i v31 k0_hw1 => k0_hw1.2.2

def k0_off36 (i : grid0.Coords) (v41 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_9 : BitVec 32 := 0#32
  let v43 : BitVec 32 := Scalar.addi v2 c0_i32_9
  let v42 : BitVec 32 := v41
  ![v43.toNat, v42.toNat]

def k0_chk2 (i : grid0.Coords) (v41 : BitVec 32) : Prop :=
  (128 ∣ (k0_mult2 v41).toNat) ∧
  (∀ a, (k0_off3 i v41) a + S8x256.size a ≤ S1024x101120.size a) ∧
  (∀ a, (k0_off36 i v41) a + S8x256.size a ≤ S1024x101120.size a)
theorem k0_mult2_dvd : ∀ (i : grid0.Coords) (v41 : BitVec 32) (k0_hw2 : k0_chk2 i v41), 128 ∣ (k0_mult2 v41).toNat := fun i v41 k0_hw2 => k0_hw2.1
theorem k0_off3_inb : ∀ (i : grid0.Coords) (v41 : BitVec 32) (k0_hw2 : k0_chk2 i v41), ∀ a, (k0_off3 i v41) a + S8x256.size a ≤ S1024x101120.size a := fun i v41 k0_hw2 => k0_hw2.2.1
theorem k0_off36_inb : ∀ (i : grid0.Coords) (v41 : BitVec 32) (k0_hw2 : k0_chk2 i v41), ∀ a, (k0_off36 i v41) a + S8x256.size a ≤ S1024x101120.size a := fun i v41 k0_hw2 => k0_hw2.2.2

def k0_off37 (i : grid0.Coords) (v51 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_14 : BitVec 32 := 0#32
  let v53 : BitVec 32 := Scalar.addi v2 c0_i32_14
  let v52 : BitVec 32 := v51
  ![v53.toNat, v52.toNat]

def k0_chk3 (i : grid0.Coords) (v51 : BitVec 32) : Prop :=
  (128 ∣ (k0_mult3 v51).toNat) ∧
  (∀ a, (k0_off4 i v51) a + S8x256.size a ≤ S1024x101120.size a) ∧
  (∀ a, (k0_off37 i v51) a + S8x256.size a ≤ S1024x101120.size a)
theorem k0_mult3_dvd : ∀ (i : grid0.Coords) (v51 : BitVec 32) (k0_hw3 : k0_chk3 i v51), 128 ∣ (k0_mult3 v51).toNat := fun i v51 k0_hw3 => k0_hw3.1
theorem k0_off4_inb : ∀ (i : grid0.Coords) (v51 : BitVec 32) (k0_hw3 : k0_chk3 i v51), ∀ a, (k0_off4 i v51) a + S8x256.size a ≤ S1024x101120.size a := fun i v51 k0_hw3 => k0_hw3.2.1
theorem k0_off37_inb : ∀ (i : grid0.Coords) (v51 : BitVec 32) (k0_hw3 : k0_chk3 i v51), ∀ a, (k0_off37 i v51) a + S8x256.size a ≤ S1024x101120.size a := fun i v51 k0_hw3 => k0_hw3.2.2

def k0_off38 (i : grid0.Coords) (v61 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_20 : BitVec 32 := 0#32
  let v63 : BitVec 32 := Scalar.addi v2 c0_i32_20
  let v62 : BitVec 32 := v61
  ![v63.toNat, v62.toNat]

def k0_chk4 (i : grid0.Coords) (v61 : BitVec 32) : Prop :=
  (128 ∣ (k0_mult4 v61).toNat) ∧
  (∀ a, (k0_off5 i v61) a + S8x256.size a ≤ S1024x101120.size a) ∧
  (∀ a, (k0_off38 i v61) a + S8x256.size a ≤ S1024x101120.size a)
theorem k0_mult4_dvd : ∀ (i : grid0.Coords) (v61 : BitVec 32) (k0_hw4 : k0_chk4 i v61), 128 ∣ (k0_mult4 v61).toNat := fun i v61 k0_hw4 => k0_hw4.1
theorem k0_off5_inb : ∀ (i : grid0.Coords) (v61 : BitVec 32) (k0_hw4 : k0_chk4 i v61), ∀ a, (k0_off5 i v61) a + S8x256.size a ≤ S1024x101120.size a := fun i v61 k0_hw4 => k0_hw4.2.1
theorem k0_off38_inb : ∀ (i : grid0.Coords) (v61 : BitVec 32) (k0_hw4 : k0_chk4 i v61), ∀ a, (k0_off38 i v61) a + S8x256.size a ≤ S1024x101120.size a := fun i v61 k0_hw4 => k0_hw4.2.2

def k0_off39 (i : grid0.Coords) (v71 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_25 : BitVec 32 := 0#32
  let v73 : BitVec 32 := Scalar.addi v2 c0_i32_25
  let v72 : BitVec 32 := v71
  ![v73.toNat, v72.toNat]

def k0_chk5 (i : grid0.Coords) (v71 : BitVec 32) : Prop :=
  (128 ∣ (k0_mult5 v71).toNat) ∧
  (∀ a, (k0_off6 i v71) a + S8x256.size a ≤ S1024x101120.size a) ∧
  (∀ a, (k0_off39 i v71) a + S8x256.size a ≤ S1024x101120.size a)
theorem k0_mult5_dvd : ∀ (i : grid0.Coords) (v71 : BitVec 32) (k0_hw5 : k0_chk5 i v71), 128 ∣ (k0_mult5 v71).toNat := fun i v71 k0_hw5 => k0_hw5.1
theorem k0_off6_inb : ∀ (i : grid0.Coords) (v71 : BitVec 32) (k0_hw5 : k0_chk5 i v71), ∀ a, (k0_off6 i v71) a + S8x256.size a ≤ S1024x101120.size a := fun i v71 k0_hw5 => k0_hw5.2.1
theorem k0_off39_inb : ∀ (i : grid0.Coords) (v71 : BitVec 32) (k0_hw5 : k0_chk5 i v71), ∀ a, (k0_off39 i v71) a + S8x256.size a ≤ S1024x101120.size a := fun i v71 k0_hw5 => k0_hw5.2.2

def k0_off40 (i : grid0.Coords) (v81 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_30 : BitVec 32 := 0#32
  let v83 : BitVec 32 := Scalar.addi v2 c0_i32_30
  let v82 : BitVec 32 := v81
  ![v83.toNat, v82.toNat]

def k0_chk6 (i : grid0.Coords) (v81 : BitVec 32) : Prop :=
  (128 ∣ (k0_mult6 v81).toNat) ∧
  (∀ a, (k0_off7 i v81) a + S8x256.size a ≤ S1024x101120.size a) ∧
  (∀ a, (k0_off40 i v81) a + S8x256.size a ≤ S1024x101120.size a)
theorem k0_mult6_dvd : ∀ (i : grid0.Coords) (v81 : BitVec 32) (k0_hw6 : k0_chk6 i v81), 128 ∣ (k0_mult6 v81).toNat := fun i v81 k0_hw6 => k0_hw6.1
theorem k0_off7_inb : ∀ (i : grid0.Coords) (v81 : BitVec 32) (k0_hw6 : k0_chk6 i v81), ∀ a, (k0_off7 i v81) a + S8x256.size a ≤ S1024x101120.size a := fun i v81 k0_hw6 => k0_hw6.2.1
theorem k0_off40_inb : ∀ (i : grid0.Coords) (v81 : BitVec 32) (k0_hw6 : k0_chk6 i v81), ∀ a, (k0_off40 i v81) a + S8x256.size a ≤ S1024x101120.size a := fun i v81 k0_hw6 => k0_hw6.2.2

def k0_off41 (i : grid0.Coords) (v91 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_35 : BitVec 32 := 0#32
  let v93 : BitVec 32 := Scalar.addi v2 c0_i32_35
  let v92 : BitVec 32 := v91
  ![v93.toNat, v92.toNat]

def k0_chk7 (i : grid0.Coords) (v91 : BitVec 32) : Prop :=
  (128 ∣ (k0_mult7 v91).toNat) ∧
  (∀ a, (k0_off8 i v91) a + S8x256.size a ≤ S1024x101120.size a) ∧
  (∀ a, (k0_off41 i v91) a + S8x256.size a ≤ S1024x101120.size a)
theorem k0_mult7_dvd : ∀ (i : grid0.Coords) (v91 : BitVec 32) (k0_hw7 : k0_chk7 i v91), 128 ∣ (k0_mult7 v91).toNat := fun i v91 k0_hw7 => k0_hw7.1
theorem k0_off8_inb : ∀ (i : grid0.Coords) (v91 : BitVec 32) (k0_hw7 : k0_chk7 i v91), ∀ a, (k0_off8 i v91) a + S8x256.size a ≤ S1024x101120.size a := fun i v91 k0_hw7 => k0_hw7.2.1
theorem k0_off41_inb : ∀ (i : grid0.Coords) (v91 : BitVec 32) (k0_hw7 : k0_chk7 i v91), ∀ a, (k0_off41 i v91) a + S8x256.size a ≤ S1024x101120.size a := fun i v91 k0_hw7 => k0_hw7.2.2

def k0_off42 (i : grid0.Coords) (v101 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_40 : BitVec 32 := 0#32
  let v103 : BitVec 32 := Scalar.addi v2 c0_i32_40
  let v102 : BitVec 32 := v101
  ![v103.toNat, v102.toNat]

def k0_chk8 (i : grid0.Coords) (v101 : BitVec 32) : Prop :=
  (128 ∣ (k0_mult8 v101).toNat) ∧
  (∀ a, (k0_off9 i v101) a + S8x256.size a ≤ S1024x101120.size a) ∧
  (∀ a, (k0_off42 i v101) a + S8x256.size a ≤ S1024x101120.size a)
theorem k0_mult8_dvd : ∀ (i : grid0.Coords) (v101 : BitVec 32) (k0_hw8 : k0_chk8 i v101), 128 ∣ (k0_mult8 v101).toNat := fun i v101 k0_hw8 => k0_hw8.1
theorem k0_off9_inb : ∀ (i : grid0.Coords) (v101 : BitVec 32) (k0_hw8 : k0_chk8 i v101), ∀ a, (k0_off9 i v101) a + S8x256.size a ≤ S1024x101120.size a := fun i v101 k0_hw8 => k0_hw8.2.1
theorem k0_off42_inb : ∀ (i : grid0.Coords) (v101 : BitVec 32) (k0_hw8 : k0_chk8 i v101), ∀ a, (k0_off42 i v101) a + S8x256.size a ≤ S1024x101120.size a := fun i v101 k0_hw8 => k0_hw8.2.2

def k0_off43 (i : grid0.Coords) (v111 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c8_i32 : BitVec 32 := 8#32
  let v113 : BitVec 32 := Scalar.addi v2 c8_i32
  let v112 : BitVec 32 := v111
  ![v113.toNat, v112.toNat]

def k0_chk9 (i : grid0.Coords) (v111 : BitVec 32) : Prop :=
  (128 ∣ (k0_mult9 v111).toNat) ∧
  (∀ a, (k0_off10 i v111) a + S8x256.size a ≤ S1024x101120.size a) ∧
  (∀ a, (k0_off43 i v111) a + S8x256.size a ≤ S1024x101120.size a)
theorem k0_mult9_dvd : ∀ (i : grid0.Coords) (v111 : BitVec 32) (k0_hw9 : k0_chk9 i v111), 128 ∣ (k0_mult9 v111).toNat := fun i v111 k0_hw9 => k0_hw9.1
theorem k0_off10_inb : ∀ (i : grid0.Coords) (v111 : BitVec 32) (k0_hw9 : k0_chk9 i v111), ∀ a, (k0_off10 i v111) a + S8x256.size a ≤ S1024x101120.size a := fun i v111 k0_hw9 => k0_hw9.2.1
theorem k0_off43_inb : ∀ (i : grid0.Coords) (v111 : BitVec 32) (k0_hw9 : k0_chk9 i v111), ∀ a, (k0_off43 i v111) a + S8x256.size a ≤ S1024x101120.size a := fun i v111 k0_hw9 => k0_hw9.2.2

def k0_off44 (i : grid0.Coords) (v121 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c8_i32_51 : BitVec 32 := 8#32
  let v123 : BitVec 32 := Scalar.addi v2 c8_i32_51
  let v122 : BitVec 32 := v121
  ![v123.toNat, v122.toNat]

def k0_chk10 (i : grid0.Coords) (v121 : BitVec 32) : Prop :=
  (128 ∣ (k0_mult10 v121).toNat) ∧
  (∀ a, (k0_off11 i v121) a + S8x256.size a ≤ S1024x101120.size a) ∧
  (∀ a, (k0_off44 i v121) a + S8x256.size a ≤ S1024x101120.size a)
theorem k0_mult10_dvd : ∀ (i : grid0.Coords) (v121 : BitVec 32) (k0_hw10 : k0_chk10 i v121), 128 ∣ (k0_mult10 v121).toNat := fun i v121 k0_hw10 => k0_hw10.1
theorem k0_off11_inb : ∀ (i : grid0.Coords) (v121 : BitVec 32) (k0_hw10 : k0_chk10 i v121), ∀ a, (k0_off11 i v121) a + S8x256.size a ≤ S1024x101120.size a := fun i v121 k0_hw10 => k0_hw10.2.1
theorem k0_off44_inb : ∀ (i : grid0.Coords) (v121 : BitVec 32) (k0_hw10 : k0_chk10 i v121), ∀ a, (k0_off44 i v121) a + S8x256.size a ≤ S1024x101120.size a := fun i v121 k0_hw10 => k0_hw10.2.2

def k0_off45 (i : grid0.Coords) (v131 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c8_i32_56 : BitVec 32 := 8#32
  let v133 : BitVec 32 := Scalar.addi v2 c8_i32_56
  let v132 : BitVec 32 := v131
  ![v133.toNat, v132.toNat]

def k0_chk11 (i : grid0.Coords) (v131 : BitVec 32) : Prop :=
  (128 ∣ (k0_mult11 v131).toNat) ∧
  (∀ a, (k0_off12 i v131) a + S8x256.size a ≤ S1024x101120.size a) ∧
  (∀ a, (k0_off45 i v131) a + S8x256.size a ≤ S1024x101120.size a)
theorem k0_mult11_dvd : ∀ (i : grid0.Coords) (v131 : BitVec 32) (k0_hw11 : k0_chk11 i v131), 128 ∣ (k0_mult11 v131).toNat := fun i v131 k0_hw11 => k0_hw11.1
theorem k0_off12_inb : ∀ (i : grid0.Coords) (v131 : BitVec 32) (k0_hw11 : k0_chk11 i v131), ∀ a, (k0_off12 i v131) a + S8x256.size a ≤ S1024x101120.size a := fun i v131 k0_hw11 => k0_hw11.2.1
theorem k0_off45_inb : ∀ (i : grid0.Coords) (v131 : BitVec 32) (k0_hw11 : k0_chk11 i v131), ∀ a, (k0_off45 i v131) a + S8x256.size a ≤ S1024x101120.size a := fun i v131 k0_hw11 => k0_hw11.2.2

def k0_off46 (i : grid0.Coords) (v141 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c8_i32_61 : BitVec 32 := 8#32
  let v143 : BitVec 32 := Scalar.addi v2 c8_i32_61
  let v142 : BitVec 32 := v141
  ![v143.toNat, v142.toNat]

def k0_chk12 (i : grid0.Coords) (v141 : BitVec 32) : Prop :=
  (128 ∣ (k0_mult12 v141).toNat) ∧
  (∀ a, (k0_off13 i v141) a + S8x256.size a ≤ S1024x101120.size a) ∧
  (∀ a, (k0_off46 i v141) a + S8x256.size a ≤ S1024x101120.size a)
theorem k0_mult12_dvd : ∀ (i : grid0.Coords) (v141 : BitVec 32) (k0_hw12 : k0_chk12 i v141), 128 ∣ (k0_mult12 v141).toNat := fun i v141 k0_hw12 => k0_hw12.1
theorem k0_off13_inb : ∀ (i : grid0.Coords) (v141 : BitVec 32) (k0_hw12 : k0_chk12 i v141), ∀ a, (k0_off13 i v141) a + S8x256.size a ≤ S1024x101120.size a := fun i v141 k0_hw12 => k0_hw12.2.1
theorem k0_off46_inb : ∀ (i : grid0.Coords) (v141 : BitVec 32) (k0_hw12 : k0_chk12 i v141), ∀ a, (k0_off46 i v141) a + S8x256.size a ≤ S1024x101120.size a := fun i v141 k0_hw12 => k0_hw12.2.2

def k0_off47 (i : grid0.Coords) (v151 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c8_i32_66 : BitVec 32 := 8#32
  let v153 : BitVec 32 := Scalar.addi v2 c8_i32_66
  let v152 : BitVec 32 := v151
  ![v153.toNat, v152.toNat]

def k0_chk13 (i : grid0.Coords) (v151 : BitVec 32) : Prop :=
  (128 ∣ (k0_mult13 v151).toNat) ∧
  (∀ a, (k0_off14 i v151) a + S8x256.size a ≤ S1024x101120.size a) ∧
  (∀ a, (k0_off47 i v151) a + S8x256.size a ≤ S1024x101120.size a)
theorem k0_mult13_dvd : ∀ (i : grid0.Coords) (v151 : BitVec 32) (k0_hw13 : k0_chk13 i v151), 128 ∣ (k0_mult13 v151).toNat := fun i v151 k0_hw13 => k0_hw13.1
theorem k0_off14_inb : ∀ (i : grid0.Coords) (v151 : BitVec 32) (k0_hw13 : k0_chk13 i v151), ∀ a, (k0_off14 i v151) a + S8x256.size a ≤ S1024x101120.size a := fun i v151 k0_hw13 => k0_hw13.2.1
theorem k0_off47_inb : ∀ (i : grid0.Coords) (v151 : BitVec 32) (k0_hw13 : k0_chk13 i v151), ∀ a, (k0_off47 i v151) a + S8x256.size a ≤ S1024x101120.size a := fun i v151 k0_hw13 => k0_hw13.2.2

def k0_off48 (i : grid0.Coords) (v161 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c8_i32_71 : BitVec 32 := 8#32
  let v163 : BitVec 32 := Scalar.addi v2 c8_i32_71
  let v162 : BitVec 32 := v161
  ![v163.toNat, v162.toNat]

def k0_chk14 (i : grid0.Coords) (v161 : BitVec 32) : Prop :=
  (128 ∣ (k0_mult14 v161).toNat) ∧
  (∀ a, (k0_off15 i v161) a + S8x256.size a ≤ S1024x101120.size a) ∧
  (∀ a, (k0_off48 i v161) a + S8x256.size a ≤ S1024x101120.size a)
theorem k0_mult14_dvd : ∀ (i : grid0.Coords) (v161 : BitVec 32) (k0_hw14 : k0_chk14 i v161), 128 ∣ (k0_mult14 v161).toNat := fun i v161 k0_hw14 => k0_hw14.1
theorem k0_off15_inb : ∀ (i : grid0.Coords) (v161 : BitVec 32) (k0_hw14 : k0_chk14 i v161), ∀ a, (k0_off15 i v161) a + S8x256.size a ≤ S1024x101120.size a := fun i v161 k0_hw14 => k0_hw14.2.1
theorem k0_off48_inb : ∀ (i : grid0.Coords) (v161 : BitVec 32) (k0_hw14 : k0_chk14 i v161), ∀ a, (k0_off48 i v161) a + S8x256.size a ≤ S1024x101120.size a := fun i v161 k0_hw14 => k0_hw14.2.2

def k0_off49 (i : grid0.Coords) (v171 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c8_i32_76 : BitVec 32 := 8#32
  let v173 : BitVec 32 := Scalar.addi v2 c8_i32_76
  let v172 : BitVec 32 := v171
  ![v173.toNat, v172.toNat]

def k0_chk15 (i : grid0.Coords) (v171 : BitVec 32) : Prop :=
  (128 ∣ (k0_mult15 v171).toNat) ∧
  (∀ a, (k0_off16 i v171) a + S8x256.size a ≤ S1024x101120.size a) ∧
  (∀ a, (k0_off49 i v171) a + S8x256.size a ≤ S1024x101120.size a)
theorem k0_mult15_dvd : ∀ (i : grid0.Coords) (v171 : BitVec 32) (k0_hw15 : k0_chk15 i v171), 128 ∣ (k0_mult15 v171).toNat := fun i v171 k0_hw15 => k0_hw15.1
theorem k0_off16_inb : ∀ (i : grid0.Coords) (v171 : BitVec 32) (k0_hw15 : k0_chk15 i v171), ∀ a, (k0_off16 i v171) a + S8x256.size a ≤ S1024x101120.size a := fun i v171 k0_hw15 => k0_hw15.2.1
theorem k0_off49_inb : ∀ (i : grid0.Coords) (v171 : BitVec 32) (k0_hw15 : k0_chk15 i v171), ∀ a, (k0_off49 i v171) a + S8x256.size a ≤ S1024x101120.size a := fun i v171 k0_hw15 => k0_hw15.2.2

def k0_off50 (i : grid0.Coords) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c8_i32_81 : BitVec 32 := 8#32
  let v183 : BitVec 32 := Scalar.addi v2 c8_i32_81
  let v182 : BitVec 32 := v181
  ![v183.toNat, v182.toNat]

def k0_chk16 (i : grid0.Coords) (v181 : BitVec 32) : Prop :=
  (128 ∣ (k0_mult16 v181).toNat) ∧
  (∀ a, (k0_off17 i v181) a + S8x256.size a ≤ S1024x101120.size a) ∧
  (∀ a, (k0_off50 i v181) a + S8x256.size a ≤ S1024x101120.size a)
theorem k0_mult16_dvd : ∀ (i : grid0.Coords) (v181 : BitVec 32) (k0_hw16 : k0_chk16 i v181), 128 ∣ (k0_mult16 v181).toNat := fun i v181 k0_hw16 => k0_hw16.1
theorem k0_off17_inb : ∀ (i : grid0.Coords) (v181 : BitVec 32) (k0_hw16 : k0_chk16 i v181), ∀ a, (k0_off17 i v181) a + S8x256.size a ≤ S1024x101120.size a := fun i v181 k0_hw16 => k0_hw16.2.1
theorem k0_off50_inb : ∀ (i : grid0.Coords) (v181 : BitVec 32) (k0_hw16 : k0_chk16 i v181), ∀ a, (k0_off50 i v181) a + S8x256.size a ≤ S1024x101120.size a := fun i v181 k0_hw16 => k0_hw16.2.2

def k0_off51 (i : grid0.Coords) (v203 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_91 : BitVec 32 := 16#32
  let v205 : BitVec 32 := Scalar.addi v2 c16_i32_91
  let v204 : BitVec 32 := v203
  ![v205.toNat, v204.toNat]

def k0_chk17 (i : grid0.Coords) (v203 : BitVec 32) : Prop :=
  (128 ∣ (k0_mult17 v203).toNat) ∧
  (∀ a, (k0_off19 i v203) a + S8x256.size a ≤ S1024x101120.size a) ∧
  (∀ a, (k0_off51 i v203) a + S8x256.size a ≤ S1024x101120.size a)
theorem k0_mult17_dvd : ∀ (i : grid0.Coords) (v203 : BitVec 32) (k0_hw17 : k0_chk17 i v203), 128 ∣ (k0_mult17 v203).toNat := fun i v203 k0_hw17 => k0_hw17.1
theorem k0_off19_inb : ∀ (i : grid0.Coords) (v203 : BitVec 32) (k0_hw17 : k0_chk17 i v203), ∀ a, (k0_off19 i v203) a + S8x256.size a ≤ S1024x101120.size a := fun i v203 k0_hw17 => k0_hw17.2.1
theorem k0_off51_inb : ∀ (i : grid0.Coords) (v203 : BitVec 32) (k0_hw17 : k0_chk17 i v203), ∀ a, (k0_off51 i v203) a + S8x256.size a ≤ S1024x101120.size a := fun i v203 k0_hw17 => k0_hw17.2.2

def k0_off52 (i : grid0.Coords) (v213 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_97 : BitVec 32 := 16#32
  let v215 : BitVec 32 := Scalar.addi v2 c16_i32_97
  let v214 : BitVec 32 := v213
  ![v215.toNat, v214.toNat]

def k0_chk18 (i : grid0.Coords) (v213 : BitVec 32) : Prop :=
  (128 ∣ (k0_mult18 v213).toNat) ∧
  (∀ a, (k0_off20 i v213) a + S8x256.size a ≤ S1024x101120.size a) ∧
  (∀ a, (k0_off52 i v213) a + S8x256.size a ≤ S1024x101120.size a)
theorem k0_mult18_dvd : ∀ (i : grid0.Coords) (v213 : BitVec 32) (k0_hw18 : k0_chk18 i v213), 128 ∣ (k0_mult18 v213).toNat := fun i v213 k0_hw18 => k0_hw18.1
theorem k0_off20_inb : ∀ (i : grid0.Coords) (v213 : BitVec 32) (k0_hw18 : k0_chk18 i v213), ∀ a, (k0_off20 i v213) a + S8x256.size a ≤ S1024x101120.size a := fun i v213 k0_hw18 => k0_hw18.2.1
theorem k0_off52_inb : ∀ (i : grid0.Coords) (v213 : BitVec 32) (k0_hw18 : k0_chk18 i v213), ∀ a, (k0_off52 i v213) a + S8x256.size a ≤ S1024x101120.size a := fun i v213 k0_hw18 => k0_hw18.2.2

def k0_off53 (i : grid0.Coords) (v223 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_102 : BitVec 32 := 16#32
  let v225 : BitVec 32 := Scalar.addi v2 c16_i32_102
  let v224 : BitVec 32 := v223
  ![v225.toNat, v224.toNat]

def k0_chk19 (i : grid0.Coords) (v223 : BitVec 32) : Prop :=
  (128 ∣ (k0_mult19 v223).toNat) ∧
  (∀ a, (k0_off21 i v223) a + S8x256.size a ≤ S1024x101120.size a) ∧
  (∀ a, (k0_off53 i v223) a + S8x256.size a ≤ S1024x101120.size a)
theorem k0_mult19_dvd : ∀ (i : grid0.Coords) (v223 : BitVec 32) (k0_hw19 : k0_chk19 i v223), 128 ∣ (k0_mult19 v223).toNat := fun i v223 k0_hw19 => k0_hw19.1
theorem k0_off21_inb : ∀ (i : grid0.Coords) (v223 : BitVec 32) (k0_hw19 : k0_chk19 i v223), ∀ a, (k0_off21 i v223) a + S8x256.size a ≤ S1024x101120.size a := fun i v223 k0_hw19 => k0_hw19.2.1
theorem k0_off53_inb : ∀ (i : grid0.Coords) (v223 : BitVec 32) (k0_hw19 : k0_chk19 i v223), ∀ a, (k0_off53 i v223) a + S8x256.size a ≤ S1024x101120.size a := fun i v223 k0_hw19 => k0_hw19.2.2

def k0_off54 (i : grid0.Coords) (v233 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_107 : BitVec 32 := 16#32
  let v235 : BitVec 32 := Scalar.addi v2 c16_i32_107
  let v234 : BitVec 32 := v233
  ![v235.toNat, v234.toNat]

def k0_chk20 (i : grid0.Coords) (v233 : BitVec 32) : Prop :=
  (128 ∣ (k0_mult20 v233).toNat) ∧
  (∀ a, (k0_off22 i v233) a + S8x256.size a ≤ S1024x101120.size a) ∧
  (∀ a, (k0_off54 i v233) a + S8x256.size a ≤ S1024x101120.size a)
theorem k0_mult20_dvd : ∀ (i : grid0.Coords) (v233 : BitVec 32) (k0_hw20 : k0_chk20 i v233), 128 ∣ (k0_mult20 v233).toNat := fun i v233 k0_hw20 => k0_hw20.1
theorem k0_off22_inb : ∀ (i : grid0.Coords) (v233 : BitVec 32) (k0_hw20 : k0_chk20 i v233), ∀ a, (k0_off22 i v233) a + S8x256.size a ≤ S1024x101120.size a := fun i v233 k0_hw20 => k0_hw20.2.1
theorem k0_off54_inb : ∀ (i : grid0.Coords) (v233 : BitVec 32) (k0_hw20 : k0_chk20 i v233), ∀ a, (k0_off54 i v233) a + S8x256.size a ≤ S1024x101120.size a := fun i v233 k0_hw20 => k0_hw20.2.2

def k0_off55 (i : grid0.Coords) (v243 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_112 : BitVec 32 := 16#32
  let v245 : BitVec 32 := Scalar.addi v2 c16_i32_112
  let v244 : BitVec 32 := v243
  ![v245.toNat, v244.toNat]

def k0_chk21 (i : grid0.Coords) (v243 : BitVec 32) : Prop :=
  (128 ∣ (k0_mult21 v243).toNat) ∧
  (∀ a, (k0_off23 i v243) a + S8x256.size a ≤ S1024x101120.size a) ∧
  (∀ a, (k0_off55 i v243) a + S8x256.size a ≤ S1024x101120.size a)
theorem k0_mult21_dvd : ∀ (i : grid0.Coords) (v243 : BitVec 32) (k0_hw21 : k0_chk21 i v243), 128 ∣ (k0_mult21 v243).toNat := fun i v243 k0_hw21 => k0_hw21.1
theorem k0_off23_inb : ∀ (i : grid0.Coords) (v243 : BitVec 32) (k0_hw21 : k0_chk21 i v243), ∀ a, (k0_off23 i v243) a + S8x256.size a ≤ S1024x101120.size a := fun i v243 k0_hw21 => k0_hw21.2.1
theorem k0_off55_inb : ∀ (i : grid0.Coords) (v243 : BitVec 32) (k0_hw21 : k0_chk21 i v243), ∀ a, (k0_off55 i v243) a + S8x256.size a ≤ S1024x101120.size a := fun i v243 k0_hw21 => k0_hw21.2.2

def k0_off56 (i : grid0.Coords) (v253 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_117 : BitVec 32 := 16#32
  let v255 : BitVec 32 := Scalar.addi v2 c16_i32_117
  let v254 : BitVec 32 := v253
  ![v255.toNat, v254.toNat]

def k0_chk22 (i : grid0.Coords) (v253 : BitVec 32) : Prop :=
  (128 ∣ (k0_mult22 v253).toNat) ∧
  (∀ a, (k0_off24 i v253) a + S8x256.size a ≤ S1024x101120.size a) ∧
  (∀ a, (k0_off56 i v253) a + S8x256.size a ≤ S1024x101120.size a)
theorem k0_mult22_dvd : ∀ (i : grid0.Coords) (v253 : BitVec 32) (k0_hw22 : k0_chk22 i v253), 128 ∣ (k0_mult22 v253).toNat := fun i v253 k0_hw22 => k0_hw22.1
theorem k0_off24_inb : ∀ (i : grid0.Coords) (v253 : BitVec 32) (k0_hw22 : k0_chk22 i v253), ∀ a, (k0_off24 i v253) a + S8x256.size a ≤ S1024x101120.size a := fun i v253 k0_hw22 => k0_hw22.2.1
theorem k0_off56_inb : ∀ (i : grid0.Coords) (v253 : BitVec 32) (k0_hw22 : k0_chk22 i v253), ∀ a, (k0_off56 i v253) a + S8x256.size a ≤ S1024x101120.size a := fun i v253 k0_hw22 => k0_hw22.2.2

def k0_off57 (i : grid0.Coords) (v263 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_122 : BitVec 32 := 16#32
  let v265 : BitVec 32 := Scalar.addi v2 c16_i32_122
  let v264 : BitVec 32 := v263
  ![v265.toNat, v264.toNat]

def k0_chk23 (i : grid0.Coords) (v263 : BitVec 32) : Prop :=
  (128 ∣ (k0_mult23 v263).toNat) ∧
  (∀ a, (k0_off25 i v263) a + S8x256.size a ≤ S1024x101120.size a) ∧
  (∀ a, (k0_off57 i v263) a + S8x256.size a ≤ S1024x101120.size a)
theorem k0_mult23_dvd : ∀ (i : grid0.Coords) (v263 : BitVec 32) (k0_hw23 : k0_chk23 i v263), 128 ∣ (k0_mult23 v263).toNat := fun i v263 k0_hw23 => k0_hw23.1
theorem k0_off25_inb : ∀ (i : grid0.Coords) (v263 : BitVec 32) (k0_hw23 : k0_chk23 i v263), ∀ a, (k0_off25 i v263) a + S8x256.size a ≤ S1024x101120.size a := fun i v263 k0_hw23 => k0_hw23.2.1
theorem k0_off57_inb : ∀ (i : grid0.Coords) (v263 : BitVec 32) (k0_hw23 : k0_chk23 i v263), ∀ a, (k0_off57 i v263) a + S8x256.size a ≤ S1024x101120.size a := fun i v263 k0_hw23 => k0_hw23.2.2

def k0_off58 (i : grid0.Coords) (v273 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_127 : BitVec 32 := 16#32
  let v275 : BitVec 32 := Scalar.addi v2 c16_i32_127
  let v274 : BitVec 32 := v273
  ![v275.toNat, v274.toNat]

def k0_chk24 (i : grid0.Coords) (v273 : BitVec 32) : Prop :=
  (128 ∣ (k0_mult24 v273).toNat) ∧
  (∀ a, (k0_off26 i v273) a + S8x256.size a ≤ S1024x101120.size a) ∧
  (∀ a, (k0_off58 i v273) a + S8x256.size a ≤ S1024x101120.size a)
theorem k0_mult24_dvd : ∀ (i : grid0.Coords) (v273 : BitVec 32) (k0_hw24 : k0_chk24 i v273), 128 ∣ (k0_mult24 v273).toNat := fun i v273 k0_hw24 => k0_hw24.1
theorem k0_off26_inb : ∀ (i : grid0.Coords) (v273 : BitVec 32) (k0_hw24 : k0_chk24 i v273), ∀ a, (k0_off26 i v273) a + S8x256.size a ≤ S1024x101120.size a := fun i v273 k0_hw24 => k0_hw24.2.1
theorem k0_off58_inb : ∀ (i : grid0.Coords) (v273 : BitVec 32) (k0_hw24 : k0_chk24 i v273), ∀ a, (k0_off58 i v273) a + S8x256.size a ≤ S1024x101120.size a := fun i v273 k0_hw24 => k0_hw24.2.2

def k0_off59 (i : grid0.Coords) (v283 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c24_i32 : BitVec 32 := 24#32
  let v285 : BitVec 32 := Scalar.addi v2 c24_i32
  let v284 : BitVec 32 := v283
  ![v285.toNat, v284.toNat]

def k0_chk25 (i : grid0.Coords) (v283 : BitVec 32) : Prop :=
  (128 ∣ (k0_mult25 v283).toNat) ∧
  (∀ a, (k0_off27 i v283) a + S8x256.size a ≤ S1024x101120.size a) ∧
  (∀ a, (k0_off59 i v283) a + S8x256.size a ≤ S1024x101120.size a)
theorem k0_mult25_dvd : ∀ (i : grid0.Coords) (v283 : BitVec 32) (k0_hw25 : k0_chk25 i v283), 128 ∣ (k0_mult25 v283).toNat := fun i v283 k0_hw25 => k0_hw25.1
theorem k0_off27_inb : ∀ (i : grid0.Coords) (v283 : BitVec 32) (k0_hw25 : k0_chk25 i v283), ∀ a, (k0_off27 i v283) a + S8x256.size a ≤ S1024x101120.size a := fun i v283 k0_hw25 => k0_hw25.2.1
theorem k0_off59_inb : ∀ (i : grid0.Coords) (v283 : BitVec 32) (k0_hw25 : k0_chk25 i v283), ∀ a, (k0_off59 i v283) a + S8x256.size a ≤ S1024x101120.size a := fun i v283 k0_hw25 => k0_hw25.2.2

def k0_off60 (i : grid0.Coords) (v293 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c24_i32_137 : BitVec 32 := 24#32
  let v295 : BitVec 32 := Scalar.addi v2 c24_i32_137
  let v294 : BitVec 32 := v293
  ![v295.toNat, v294.toNat]

def k0_chk26 (i : grid0.Coords) (v293 : BitVec 32) : Prop :=
  (128 ∣ (k0_mult26 v293).toNat) ∧
  (∀ a, (k0_off28 i v293) a + S8x256.size a ≤ S1024x101120.size a) ∧
  (∀ a, (k0_off60 i v293) a + S8x256.size a ≤ S1024x101120.size a)
theorem k0_mult26_dvd : ∀ (i : grid0.Coords) (v293 : BitVec 32) (k0_hw26 : k0_chk26 i v293), 128 ∣ (k0_mult26 v293).toNat := fun i v293 k0_hw26 => k0_hw26.1
theorem k0_off28_inb : ∀ (i : grid0.Coords) (v293 : BitVec 32) (k0_hw26 : k0_chk26 i v293), ∀ a, (k0_off28 i v293) a + S8x256.size a ≤ S1024x101120.size a := fun i v293 k0_hw26 => k0_hw26.2.1
theorem k0_off60_inb : ∀ (i : grid0.Coords) (v293 : BitVec 32) (k0_hw26 : k0_chk26 i v293), ∀ a, (k0_off60 i v293) a + S8x256.size a ≤ S1024x101120.size a := fun i v293 k0_hw26 => k0_hw26.2.2

def k0_off61 (i : grid0.Coords) (v303 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c24_i32_142 : BitVec 32 := 24#32
  let v305 : BitVec 32 := Scalar.addi v2 c24_i32_142
  let v304 : BitVec 32 := v303
  ![v305.toNat, v304.toNat]

def k0_chk27 (i : grid0.Coords) (v303 : BitVec 32) : Prop :=
  (128 ∣ (k0_mult27 v303).toNat) ∧
  (∀ a, (k0_off29 i v303) a + S8x256.size a ≤ S1024x101120.size a) ∧
  (∀ a, (k0_off61 i v303) a + S8x256.size a ≤ S1024x101120.size a)
theorem k0_mult27_dvd : ∀ (i : grid0.Coords) (v303 : BitVec 32) (k0_hw27 : k0_chk27 i v303), 128 ∣ (k0_mult27 v303).toNat := fun i v303 k0_hw27 => k0_hw27.1
theorem k0_off29_inb : ∀ (i : grid0.Coords) (v303 : BitVec 32) (k0_hw27 : k0_chk27 i v303), ∀ a, (k0_off29 i v303) a + S8x256.size a ≤ S1024x101120.size a := fun i v303 k0_hw27 => k0_hw27.2.1
theorem k0_off61_inb : ∀ (i : grid0.Coords) (v303 : BitVec 32) (k0_hw27 : k0_chk27 i v303), ∀ a, (k0_off61 i v303) a + S8x256.size a ≤ S1024x101120.size a := fun i v303 k0_hw27 => k0_hw27.2.2

def k0_off62 (i : grid0.Coords) (v313 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c24_i32_147 : BitVec 32 := 24#32
  let v315 : BitVec 32 := Scalar.addi v2 c24_i32_147
  let v314 : BitVec 32 := v313
  ![v315.toNat, v314.toNat]

def k0_chk28 (i : grid0.Coords) (v313 : BitVec 32) : Prop :=
  (128 ∣ (k0_mult28 v313).toNat) ∧
  (∀ a, (k0_off30 i v313) a + S8x256.size a ≤ S1024x101120.size a) ∧
  (∀ a, (k0_off62 i v313) a + S8x256.size a ≤ S1024x101120.size a)
theorem k0_mult28_dvd : ∀ (i : grid0.Coords) (v313 : BitVec 32) (k0_hw28 : k0_chk28 i v313), 128 ∣ (k0_mult28 v313).toNat := fun i v313 k0_hw28 => k0_hw28.1
theorem k0_off30_inb : ∀ (i : grid0.Coords) (v313 : BitVec 32) (k0_hw28 : k0_chk28 i v313), ∀ a, (k0_off30 i v313) a + S8x256.size a ≤ S1024x101120.size a := fun i v313 k0_hw28 => k0_hw28.2.1
theorem k0_off62_inb : ∀ (i : grid0.Coords) (v313 : BitVec 32) (k0_hw28 : k0_chk28 i v313), ∀ a, (k0_off62 i v313) a + S8x256.size a ≤ S1024x101120.size a := fun i v313 k0_hw28 => k0_hw28.2.2

def k0_off63 (i : grid0.Coords) (v323 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c24_i32_152 : BitVec 32 := 24#32
  let v325 : BitVec 32 := Scalar.addi v2 c24_i32_152
  let v324 : BitVec 32 := v323
  ![v325.toNat, v324.toNat]

def k0_chk29 (i : grid0.Coords) (v323 : BitVec 32) : Prop :=
  (128 ∣ (k0_mult29 v323).toNat) ∧
  (∀ a, (k0_off31 i v323) a + S8x256.size a ≤ S1024x101120.size a) ∧
  (∀ a, (k0_off63 i v323) a + S8x256.size a ≤ S1024x101120.size a)
theorem k0_mult29_dvd : ∀ (i : grid0.Coords) (v323 : BitVec 32) (k0_hw29 : k0_chk29 i v323), 128 ∣ (k0_mult29 v323).toNat := fun i v323 k0_hw29 => k0_hw29.1
theorem k0_off31_inb : ∀ (i : grid0.Coords) (v323 : BitVec 32) (k0_hw29 : k0_chk29 i v323), ∀ a, (k0_off31 i v323) a + S8x256.size a ≤ S1024x101120.size a := fun i v323 k0_hw29 => k0_hw29.2.1
theorem k0_off63_inb : ∀ (i : grid0.Coords) (v323 : BitVec 32) (k0_hw29 : k0_chk29 i v323), ∀ a, (k0_off63 i v323) a + S8x256.size a ≤ S1024x101120.size a := fun i v323 k0_hw29 => k0_hw29.2.2

def k0_off64 (i : grid0.Coords) (v333 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c24_i32_157 : BitVec 32 := 24#32
  let v335 : BitVec 32 := Scalar.addi v2 c24_i32_157
  let v334 : BitVec 32 := v333
  ![v335.toNat, v334.toNat]

def k0_chk30 (i : grid0.Coords) (v333 : BitVec 32) : Prop :=
  (128 ∣ (k0_mult30 v333).toNat) ∧
  (∀ a, (k0_off32 i v333) a + S8x256.size a ≤ S1024x101120.size a) ∧
  (∀ a, (k0_off64 i v333) a + S8x256.size a ≤ S1024x101120.size a)
theorem k0_mult30_dvd : ∀ (i : grid0.Coords) (v333 : BitVec 32) (k0_hw30 : k0_chk30 i v333), 128 ∣ (k0_mult30 v333).toNat := fun i v333 k0_hw30 => k0_hw30.1
theorem k0_off32_inb : ∀ (i : grid0.Coords) (v333 : BitVec 32) (k0_hw30 : k0_chk30 i v333), ∀ a, (k0_off32 i v333) a + S8x256.size a ≤ S1024x101120.size a := fun i v333 k0_hw30 => k0_hw30.2.1
theorem k0_off64_inb : ∀ (i : grid0.Coords) (v333 : BitVec 32) (k0_hw30 : k0_chk30 i v333), ∀ a, (k0_off64 i v333) a + S8x256.size a ≤ S1024x101120.size a := fun i v333 k0_hw30 => k0_hw30.2.2

def k0_off65 (i : grid0.Coords) (v343 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c24_i32_162 : BitVec 32 := 24#32
  let v345 : BitVec 32 := Scalar.addi v2 c24_i32_162
  let v344 : BitVec 32 := v343
  ![v345.toNat, v344.toNat]

def k0_chk31 (i : grid0.Coords) (v343 : BitVec 32) : Prop :=
  (128 ∣ (k0_mult31 v343).toNat) ∧
  (∀ a, (k0_off33 i v343) a + S8x256.size a ≤ S1024x101120.size a) ∧
  (∀ a, (k0_off65 i v343) a + S8x256.size a ≤ S1024x101120.size a)
theorem k0_mult31_dvd : ∀ (i : grid0.Coords) (v343 : BitVec 32) (k0_hw31 : k0_chk31 i v343), 128 ∣ (k0_mult31 v343).toNat := fun i v343 k0_hw31 => k0_hw31.1
theorem k0_off33_inb : ∀ (i : grid0.Coords) (v343 : BitVec 32) (k0_hw31 : k0_chk31 i v343), ∀ a, (k0_off33 i v343) a + S8x256.size a ≤ S1024x101120.size a := fun i v343 k0_hw31 => k0_hw31.2.1
theorem k0_off65_inb : ∀ (i : grid0.Coords) (v343 : BitVec 32) (k0_hw31 : k0_chk31 i v343), ∀ a, (k0_off65 i v343) a + S8x256.size a ≤ S1024x101120.size a := fun i v343 k0_hw31 => k0_hw31.2.2

def k0_off66 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_2880_r1 : BitVec 32 := 0#32
  ![v2.toNat, 0]
def k0_off67 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_2880_r2 : BitVec 32 := 0#32
  ![v2.toNat, 0]
abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S128x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x128x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x128x1 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1024x101000 : Shape := ⟨2, ![1024, 101000]⟩
abbrev S1024 : Shape := ⟨1, ![1024]⟩
abbrev S1000 : Shape := ⟨1, ![1000]⟩
abbrev S1000x100 : Shape := ⟨2, ![1000, 100]⟩
abbrev S_ : Shape := ⟨0, ![]⟩
abbrev S1024x1000 : Shape := ⟨2, ![1024, 1000]⟩
abbrev S1x1000 : Shape := ⟨2, ![1, 1000]⟩
abbrev S1024x1 : Shape := ⟨2, ![1024, 1]⟩
abbrev S1024x1x1 : Shape := ⟨3, ![1024, 1, 1]⟩
abbrev S1 : Shape := ⟨1, ![1]⟩
abbrev S1x1x1 : Shape := ⟨3, ![1, 1, 1]⟩
abbrev S100 : Shape := ⟨1, ![100]⟩
abbrev S1x100 : Shape := ⟨2, ![1, 100]⟩
abbrev S1024x100 : Shape := ⟨2, ![1024, 100]⟩
abbrev S1024x100x1 : Shape := ⟨3, ![1024, 100, 1]⟩

abbrev nBuf : Space → Nat
  | .hbm => 259
  | .vmem => 0
  | .smem => 0
  | _ => 0

abbrev hbmTy0_0 (i : Nat) : BufTy := match i % 128 with
  | 0 => ⟨S1024x101000, .f32⟩
  | 1 => ⟨S1024, .i32⟩
  | 2 => ⟨S1000, .f32⟩
  | 3 => ⟨S1000x100, .f32⟩
  | 4 => ⟨S1000, .f32⟩
  | 5 => ⟨S_, .i32⟩
  | 6 => ⟨S_, .i32⟩
  | 7 => ⟨S1024, .i32⟩
  | 8 => ⟨S1024, .i32⟩
  | 9 => ⟨S1024, .i32⟩
  | 10 => ⟨S_, .i32⟩
  | 11 => ⟨S1024, .i32⟩
  | 12 => ⟨S1024, .i1⟩
  | 13 => ⟨S1024, .i32⟩
  | 14 => ⟨S1024, .i32⟩
  | 15 => ⟨S_, .i32⟩
  | 16 => ⟨S1024, .i32⟩
  | 17 => ⟨S1024, .i1⟩
  | 18 => ⟨S1024, .i1⟩
  | 19 => ⟨S_, .i32⟩
  | 20 => ⟨S1024, .i32⟩
  | 21 => ⟨S1024, .i32⟩
  | 22 => ⟨S1024, .i32⟩
  | 23 => ⟨S_, .i32⟩
  | 24 => ⟨S_, .i32⟩
  | 25 => ⟨S_, .i32⟩
  | 26 => ⟨S_, .i1⟩
  | 27 => ⟨S_, .i32⟩
  | 28 => ⟨S_, .i32⟩
  | 29 => ⟨S1024, .i32⟩
  | 30 => ⟨S1024, .i32⟩
  | 31 => ⟨S_, .i32⟩
  | 32 => ⟨S1024, .i32⟩
  | 33 => ⟨S1024, .i1⟩
  | 34 => ⟨S_, .i32⟩
  | 35 => ⟨S1024, .i32⟩
  | 36 => ⟨S1024, .i1⟩
  | 37 => ⟨S_, .i32⟩
  | 38 => ⟨S_, .i1⟩
  | 39 => ⟨S1024, .i1⟩
  | 40 => ⟨S1024, .i1⟩
  | 41 => ⟨S1024, .i1⟩
  | 42 => ⟨S1024, .i32⟩
  | 43 => ⟨S1024, .i32⟩
  | 44 => ⟨S1024, .i32⟩
  | 45 => ⟨S1024x1000, .f32⟩
  | 46 => ⟨S1x1000, .f32⟩
  | 47 => ⟨S_, .f32⟩
  | 48 => ⟨S1024, .f32⟩
  | 49 => ⟨S_, .f32⟩
  | 50 => ⟨S1024, .f32⟩
  | 51 => ⟨S1024, .f32⟩
  | 52 => ⟨S1024x1, .f32⟩
  | 53 => ⟨S1024x1000, .f32⟩
  | 54 => ⟨S1024x1000, .f32⟩
  | 55 => ⟨S1024x1000, .f32⟩
  | 56 => ⟨S_, .f32⟩
  | 57 => ⟨S1024, .f32⟩
  | 58 => ⟨S1024x1, .f32⟩
  | 59 => ⟨S1024x1, .f32⟩
  | 60 => ⟨S1024x1000, .f32⟩
  | 61 => ⟨S1024x1000, .f32⟩
  | 62 => ⟨S1024x1000, .f32⟩
  | 63 => ⟨S1024x1, .i32⟩
  | 64 => ⟨S_, .i32⟩
  | 65 => ⟨S1024x1, .i32⟩
  | 66 => ⟨S1024x1, .i1⟩
  | 67 => ⟨S_, .i32⟩
  | 68 => ⟨S1024x1, .i32⟩
  | 69 => ⟨S1024x1, .i32⟩
  | 70 => ⟨S1024x1, .i32⟩
  | 71 => ⟨S1024x1x1, .i32⟩
  | 72 => ⟨S1, .i32⟩
  | 73 => ⟨S_, .i32⟩
  | 74 => ⟨S1024x1x1, .i32⟩
  | 75 => ⟨S1024x1x1, .i1⟩
  | 76 => ⟨S1x1x1, .i32⟩
  | 77 => ⟨S1024x1x1, .i32⟩
  | 78 => ⟨S1024x1x1, .i1⟩
  | 79 => ⟨S1024x1x1, .i1⟩
  | 80 => ⟨S_, .i1⟩
  | 81 => ⟨S1024x1, .i1⟩
  | 82 => ⟨S1024x1, .f32⟩
  | 83 => ⟨S_, .f32⟩
  | 84 => ⟨S1024x1, .f32⟩
  | 85 => ⟨S1024x1, .f32⟩
  | 86 => ⟨S1024, .f32⟩
  | 87 => ⟨S1024x1, .i32⟩
  | 88 => ⟨S_, .i32⟩
  | 89 => ⟨S1024x1, .i32⟩
  | 90 => ⟨S1024x1, .i1⟩
  | 91 => ⟨S_, .i32⟩
  | 92 => ⟨S1024x1, .i32⟩
  | 93 => ⟨S1024x1, .i32⟩
  | 94 => ⟨S1024x1, .i32⟩
  | 95 => ⟨S1024x1x1, .i32⟩
  | 96 => ⟨S1, .i32⟩
  | 97 => ⟨S_, .i32⟩
  | 98 => ⟨S1024x1x1, .i32⟩
  | 99 => ⟨S1024x1x1, .i1⟩
  | 100 => ⟨S1x1x1, .i32⟩
  | 101 => ⟨S1024x1x1, .i32⟩
  | 102 => ⟨S1024x1x1, .i1⟩
  | 103 => ⟨S1024x1x1, .i1⟩
  | 104 => ⟨S_, .i1⟩
  | 105 => ⟨S1024x1, .i1⟩
  | 106 => ⟨S1024x1, .f32⟩
  | 107 => ⟨S_, .f32⟩
  | 108 => ⟨S1024x1, .f32⟩
  | 109 => ⟨S1024x1, .f32⟩
  | 110 => ⟨S1024, .f32⟩
  | 111 => ⟨S_, .f32⟩
  | 112 => ⟨S1024, .f32⟩
  | 113 => ⟨S1024, .f32⟩
  | 114 => ⟨S1024, .f32⟩
  | 115 => ⟨S1024x1000, .f32⟩
  | 116 => ⟨S_, .f32⟩
  | 117 => ⟨S1024, .f32⟩
  | 118 => ⟨S_, .f32⟩
  | 119 => ⟨S1024, .f32⟩
  | 120 => ⟨S1024, .f32⟩
  | 121 => ⟨S1024, .f32⟩
  | 122 => ⟨S1024, .f32⟩
  | 123 => ⟨S_, .f32⟩
  | 124 => ⟨S1024, .f32⟩
  | 125 => ⟨S1024, .f32⟩
  | 126 => ⟨S1024x1, .i32⟩
  | 127 => ⟨S_, .i32⟩
  | _ => ⟨S1024x101000, .f32⟩

abbrev hbmTy0_1 (i : Nat) : BufTy := match i % 128 with
  | 0 => ⟨S1024x1, .i32⟩
  | 1 => ⟨S1024x1, .i32⟩
  | 2 => ⟨S_, .i32⟩
  | 3 => ⟨S1024x1, .i32⟩
  | 4 => ⟨S1024x1, .i32⟩
  | 5 => ⟨S100, .i32⟩
  | 6 => ⟨S1x100, .i32⟩
  | 7 => ⟨S1024x100, .i32⟩
  | 8 => ⟨S1024x100, .i32⟩
  | 9 => ⟨S1024x100, .i32⟩
  | 10 => ⟨S_, .i32⟩
  | 11 => ⟨S1024x100, .i32⟩
  | 12 => ⟨S1024x100, .i1⟩
  | 13 => ⟨S_, .i32⟩
  | 14 => ⟨S1024x100, .i32⟩
  | 15 => ⟨S1024x100, .i32⟩
  | 16 => ⟨S1024x100, .i32⟩
  | 17 => ⟨S1024x100x1, .i32⟩
  | 18 => ⟨S1, .i32⟩
  | 19 => ⟨S_, .i32⟩
  | 20 => ⟨S1024x100x1, .i32⟩
  | 21 => ⟨S1024x100x1, .i1⟩
  | 22 => ⟨S1x1x1, .i32⟩
  | 23 => ⟨S1024x100x1, .i32⟩
  | 24 => ⟨S1024x100x1, .i1⟩
  | 25 => ⟨S1024x100x1, .i1⟩
  | 26 => ⟨S_, .i1⟩
  | 27 => ⟨S1024x100, .i1⟩
  | 28 => ⟨S1024x100, .f32⟩
  | 29 => ⟨S_, .f32⟩
  | 30 => ⟨S1024x100, .f32⟩
  | 31 => ⟨S1024x100, .f32⟩
  | 32 => ⟨S_, .i32⟩
  | 33 => ⟨S1024, .i32⟩
  | 34 => ⟨S1024, .i1⟩
  | 35 => ⟨S_, .i32⟩
  | 36 => ⟨S1024, .i32⟩
  | 37 => ⟨S1024, .i32⟩
  | 38 => ⟨S1024, .i32⟩
  | 39 => ⟨S1024x1, .i32⟩
  | 40 => ⟨S1024x100, .f32⟩
  | 41 => ⟨S_, .i32⟩
  | 42 => ⟨S1024, .i32⟩
  | 43 => ⟨S1024, .i1⟩
  | 44 => ⟨S_, .i32⟩
  | 45 => ⟨S1024, .i32⟩
  | 46 => ⟨S1024, .i32⟩
  | 47 => ⟨S1024, .i32⟩
  | 48 => ⟨S1024x1, .i32⟩
  | 49 => ⟨S1024, .f32⟩
  | 50 => ⟨S_, .f32⟩
  | 51 => ⟨S1024, .f32⟩
  | 52 => ⟨S_, .f32⟩
  | 53 => ⟨S1024, .f32⟩
  | 54 => ⟨S1024, .f32⟩
  | 55 => ⟨S1024x1, .f32⟩
  | 56 => ⟨S1024x100, .f32⟩
  | 57 => ⟨S1024x100, .f32⟩
  | 58 => ⟨S1024x100, .f32⟩
  | 59 => ⟨S_, .f32⟩
  | 60 => ⟨S1024, .f32⟩
  | 61 => ⟨S1024x1, .f32⟩
  | 62 => ⟨S1024x1, .f32⟩
  | 63 => ⟨S1024x100, .f32⟩
  | 64 => ⟨S1024x100, .f32⟩
  | 65 => ⟨S1024x1, .i32⟩
  | 66 => ⟨S_, .i32⟩
  | 67 => ⟨S1024x1, .i32⟩
  | 68 => ⟨S1024x1, .i1⟩
  | 69 => ⟨S_, .i32⟩
  | 70 => ⟨S1024x1, .i32⟩
  | 71 => ⟨S1024x1, .i32⟩
  | 72 => ⟨S1024x1, .i32⟩
  | 73 => ⟨S1024x1x1, .i32⟩
  | 74 => ⟨S1, .i32⟩
  | 75 => ⟨S_, .i32⟩
  | 76 => ⟨S1024x1x1, .i32⟩
  | 77 => ⟨S1024x1x1, .i1⟩
  | 78 => ⟨S1x1x1, .i32⟩
  | 79 => ⟨S1024x1x1, .i32⟩
  | 80 => ⟨S1024x1x1, .i1⟩
  | 81 => ⟨S1024x1x1, .i1⟩
  | 82 => ⟨S_, .i1⟩
  | 83 => ⟨S1024x1, .i1⟩
  | 84 => ⟨S1024x1, .f32⟩
  | 85 => ⟨S_, .f32⟩
  | 86 => ⟨S1024x1, .f32⟩
  | 87 => ⟨S1024x1, .f32⟩
  | 88 => ⟨S1024, .f32⟩
  | 89 => ⟨S1024x1, .i32⟩
  | 90 => ⟨S_, .i32⟩
  | 91 => ⟨S1024x1, .i32⟩
  | 92 => ⟨S1024x1, .i1⟩
  | 93 => ⟨S_, .i32⟩
  | 94 => ⟨S1024x1, .i32⟩
  | 95 => ⟨S1024x1, .i32⟩
  | 96 => ⟨S1024x1, .i32⟩
  | 97 => ⟨S1024x1x1, .i32⟩
  | 98 => ⟨S1, .i32⟩
  | 99 => ⟨S_, .i32⟩
  | 100 => ⟨S1024x1x1, .i32⟩
  | 101 => ⟨S1024x1x1, .i1⟩
  | 102 => ⟨S1x1x1, .i32⟩
  | 103 => ⟨S1024x1x1, .i32⟩
  | 104 => ⟨S1024x1x1, .i1⟩
  | 105 => ⟨S1024x1x1, .i1⟩
  | 106 => ⟨S_, .i1⟩
  | 107 => ⟨S1024x1, .i1⟩
  | 108 => ⟨S1024x1, .f32⟩
  | 109 => ⟨S_, .f32⟩
  | 110 => ⟨S1024x1, .f32⟩
  | 111 => ⟨S1024x1, .f32⟩
  | 112 => ⟨S1024, .f32⟩
  | 113 => ⟨S_, .f32⟩
  | 114 => ⟨S1024, .f32⟩
  | 115 => ⟨S1024, .f32⟩
  | 116 => ⟨S1024, .f32⟩
  | 117 => ⟨S1024x100, .f32⟩
  | 118 => ⟨S_, .f32⟩
  | 119 => ⟨S1024, .f32⟩
  | 120 => ⟨S_, .f32⟩
  | 121 => ⟨S1024, .f32⟩
  | 122 => ⟨S1024, .f32⟩
  | 123 => ⟨S1024, .f32⟩
  | 124 => ⟨S1024, .f32⟩
  | 125 => ⟨S1024, .f32⟩
  | 126 => ⟨S1024, .f32⟩
  | 127 => ⟨S_, .f32⟩
  | _ => ⟨S1024x101000, .f32⟩

abbrev hbmTy0_2 (i : Nat) : BufTy := match i % 128 with
  | 0 => ⟨S_, .f32⟩
  | 1 => ⟨S_, .f32⟩
  | 2 => ⟨S_, .f32⟩
  | _ => ⟨S1024x101000, .f32⟩

abbrev hbmTy (i : Nat) : BufTy := match i / 128 with
  | 0 => hbmTy0_0 i
  | 1 => hbmTy0_1 i
  | 2 => hbmTy0_2 i
  | _ => ⟨S1024x101000, .f32⟩

abbrev bufTy : (tb : Table) → Fin (tcTables nBuf tb) → BufTy
  | .hbm, ⟨i, _⟩ => hbmTy i
  | _, _ => ⟨S1024x101000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v0 : Ref sig .tc := ⟨.hbm, 22, rfl⟩
abbrev main_c_0 : Ref sig .tc := ⟨.hbm, 23, rfl⟩
abbrev main_call1_v0 : Ref sig .tc := ⟨.hbm, 24, rfl⟩
abbrev main_call1_c : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_c_1 : Ref sig .tc := ⟨.hbm, 31, rfl⟩
abbrev main_call1_v5 : Ref sig .tc := ⟨.hbm, 32, rfl⟩
abbrev main_call1_v6 : Ref sig .tc := ⟨.hbm, 33, rfl⟩
abbrev main_call1_c_2 : Ref sig .tc := ⟨.hbm, 34, rfl⟩
abbrev main_call1_v7 : Ref sig .tc := ⟨.hbm, 35, rfl⟩
abbrev main_call1_v8 : Ref sig .tc := ⟨.hbm, 36, rfl⟩
abbrev main_call1_c_3 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_v12 : Ref sig .tc := ⟨.hbm, 41, rfl⟩
abbrev main_call1_v13 : Ref sig .tc := ⟨.hbm, 42, rfl⟩
abbrev main_call1_v14 : Ref sig .tc := ⟨.hbm, 43, rfl⟩
abbrev main_v1 : Ref sig .tc := ⟨.hbm, 44, rfl⟩
abbrev main_v2 : Ref sig .tc := ⟨.hbm, 45, rfl⟩
abbrev main_v3 : Ref sig .tc := ⟨.hbm, 46, rfl⟩
abbrev main_call2_cst : Ref sig .tc := ⟨.hbm, 47, rfl⟩
abbrev main_call2_v0 : Ref sig .tc := ⟨.hbm, 48, rfl⟩
abbrev main_call2_cst_0 : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_call2_v5 : Ref sig .tc := ⟨.hbm, 54, rfl⟩
abbrev main_call2_v6 : Ref sig .tc := ⟨.hbm, 55, rfl⟩
abbrev main_call2_cst_1 : Ref sig .tc := ⟨.hbm, 56, rfl⟩
abbrev main_call2_v7 : Ref sig .tc := ⟨.hbm, 57, rfl⟩
abbrev main_call2_v8 : Ref sig .tc := ⟨.hbm, 58, rfl⟩
abbrev main_call2_v9 : Ref sig .tc := ⟨.hbm, 59, rfl⟩
abbrev main_call2_v10 : Ref sig .tc := ⟨.hbm, 60, rfl⟩
abbrev main_v4 : Ref sig .tc := ⟨.hbm, 61, rfl⟩
abbrev main_v5 : Ref sig .tc := ⟨.hbm, 62, rfl⟩
abbrev main_v6 : Ref sig .tc := ⟨.hbm, 63, rfl⟩
abbrev main_call3_c : Ref sig .tc := ⟨.hbm, 64, rfl⟩
abbrev main_call3_v0 : Ref sig .tc := ⟨.hbm, 65, rfl⟩
abbrev main_call3_v1 : Ref sig .tc := ⟨.hbm, 66, rfl⟩
abbrev main_call3_c_0 : Ref sig .tc := ⟨.hbm, 67, rfl⟩
abbrev main_call3_v2 : Ref sig .tc := ⟨.hbm, 68, rfl⟩
abbrev main_call3_v3 : Ref sig .tc := ⟨.hbm, 69, rfl⟩
abbrev main_call3_v4 : Ref sig .tc := ⟨.hbm, 70, rfl⟩
abbrev main_call3_v5 : Ref sig .tc := ⟨.hbm, 71, rfl⟩
abbrev main_call3_c_1 : Ref sig .tc := ⟨.hbm, 72, rfl⟩
abbrev main_call3_c_2 : Ref sig .tc := ⟨.hbm, 73, rfl⟩
abbrev main_call3_v6 : Ref sig .tc := ⟨.hbm, 74, rfl⟩
abbrev main_call3_v7 : Ref sig .tc := ⟨.hbm, 75, rfl⟩
abbrev main_call3_v8 : Ref sig .tc := ⟨.hbm, 76, rfl⟩
abbrev main_call3_v9 : Ref sig .tc := ⟨.hbm, 77, rfl⟩
abbrev main_call3_v10 : Ref sig .tc := ⟨.hbm, 78, rfl⟩
abbrev main_call3_v11 : Ref sig .tc := ⟨.hbm, 79, rfl⟩
abbrev main_call3_c_3 : Ref sig .tc := ⟨.hbm, 80, rfl⟩
abbrev main_call3_v12 : Ref sig .tc := ⟨.hbm, 81, rfl⟩
abbrev main_call3_v13 : Ref sig .tc := ⟨.hbm, 82, rfl⟩
abbrev main_call3_cst : Ref sig .tc := ⟨.hbm, 83, rfl⟩
abbrev main_call3_v14 : Ref sig .tc := ⟨.hbm, 84, rfl⟩
abbrev main_v7 : Ref sig .tc := ⟨.hbm, 85, rfl⟩
abbrev main_v8 : Ref sig .tc := ⟨.hbm, 86, rfl⟩
abbrev main_v9 : Ref sig .tc := ⟨.hbm, 87, rfl⟩
abbrev main_call4_c : Ref sig .tc := ⟨.hbm, 88, rfl⟩
abbrev main_call4_v0 : Ref sig .tc := ⟨.hbm, 89, rfl⟩
abbrev main_call4_v1 : Ref sig .tc := ⟨.hbm, 90, rfl⟩
abbrev main_call4_c_0 : Ref sig .tc := ⟨.hbm, 91, rfl⟩
abbrev main_call4_v2 : Ref sig .tc := ⟨.hbm, 92, rfl⟩
abbrev main_call4_v3 : Ref sig .tc := ⟨.hbm, 93, rfl⟩
abbrev main_call4_v4 : Ref sig .tc := ⟨.hbm, 94, rfl⟩
abbrev main_call4_v5 : Ref sig .tc := ⟨.hbm, 95, rfl⟩
abbrev main_call4_c_1 : Ref sig .tc := ⟨.hbm, 96, rfl⟩
abbrev main_call4_c_2 : Ref sig .tc := ⟨.hbm, 97, rfl⟩
abbrev main_call4_v6 : Ref sig .tc := ⟨.hbm, 98, rfl⟩
abbrev main_call4_v7 : Ref sig .tc := ⟨.hbm, 99, rfl⟩
abbrev main_call4_v8 : Ref sig .tc := ⟨.hbm, 100, rfl⟩
abbrev main_call4_v9 : Ref sig .tc := ⟨.hbm, 101, rfl⟩
abbrev main_call4_v10 : Ref sig .tc := ⟨.hbm, 102, rfl⟩
abbrev main_call4_v11 : Ref sig .tc := ⟨.hbm, 103, rfl⟩
abbrev main_call4_c_3 : Ref sig .tc := ⟨.hbm, 104, rfl⟩
abbrev main_call4_v12 : Ref sig .tc := ⟨.hbm, 105, rfl⟩
abbrev main_call4_v13 : Ref sig .tc := ⟨.hbm, 106, rfl⟩
abbrev main_call4_cst : Ref sig .tc := ⟨.hbm, 107, rfl⟩
abbrev main_call4_v14 : Ref sig .tc := ⟨.hbm, 108, rfl⟩
abbrev main_v10 : Ref sig .tc := ⟨.hbm, 109, rfl⟩
abbrev main_v11 : Ref sig .tc := ⟨.hbm, 110, rfl⟩
abbrev main_cst : Ref sig .tc := ⟨.hbm, 111, rfl⟩
abbrev main_v12 : Ref sig .tc := ⟨.hbm, 112, rfl⟩
abbrev main_v13 : Ref sig .tc := ⟨.hbm, 113, rfl⟩
abbrev main_v14 : Ref sig .tc := ⟨.hbm, 114, rfl⟩
abbrev main_v15 : Ref sig .tc := ⟨.hbm, 115, rfl⟩
abbrev main_cst_1 : Ref sig .tc := ⟨.hbm, 116, rfl⟩
abbrev main_v16 : Ref sig .tc := ⟨.hbm, 117, rfl⟩
abbrev main_cst_2 : Ref sig .tc := ⟨.hbm, 118, rfl⟩
abbrev main_v17 : Ref sig .tc := ⟨.hbm, 119, rfl⟩
abbrev main_v18 : Ref sig .tc := ⟨.hbm, 120, rfl⟩
abbrev main_v19 : Ref sig .tc := ⟨.hbm, 121, rfl⟩
abbrev main_v20 : Ref sig .tc := ⟨.hbm, 122, rfl⟩
abbrev main_cst_3 : Ref sig .tc := ⟨.hbm, 123, rfl⟩
abbrev main_v21 : Ref sig .tc := ⟨.hbm, 124, rfl⟩
abbrev main_v22 : Ref sig .tc := ⟨.hbm, 125, rfl⟩
abbrev main_v23 : Ref sig .tc := ⟨.hbm, 126, rfl⟩
abbrev main_c_4 : Ref sig .tc := ⟨.hbm, 127, rfl⟩
abbrev main_v24 : Ref sig .tc := ⟨.hbm, 128, rfl⟩
abbrev main_v25 : Ref sig .tc := ⟨.hbm, 129, rfl⟩
abbrev main_c_5 : Ref sig .tc := ⟨.hbm, 130, rfl⟩
abbrev main_v26 : Ref sig .tc := ⟨.hbm, 131, rfl⟩
abbrev main_v27 : Ref sig .tc := ⟨.hbm, 132, rfl⟩
abbrev main_v28 : Ref sig .tc := ⟨.hbm, 133, rfl⟩
abbrev main_v29 : Ref sig .tc := ⟨.hbm, 134, rfl⟩
abbrev main_v30 : Ref sig .tc := ⟨.hbm, 135, rfl⟩
abbrev main_v31 : Ref sig .tc := ⟨.hbm, 136, rfl⟩
abbrev main_v32 : Ref sig .tc := ⟨.hbm, 137, rfl⟩
abbrev main_call5_c : Ref sig .tc := ⟨.hbm, 138, rfl⟩
abbrev main_call5_v0 : Ref sig .tc := ⟨.hbm, 139, rfl⟩
abbrev main_call5_v1 : Ref sig .tc := ⟨.hbm, 140, rfl⟩
abbrev main_call5_c_0 : Ref sig .tc := ⟨.hbm, 141, rfl⟩
abbrev main_call5_v2 : Ref sig .tc := ⟨.hbm, 142, rfl⟩
abbrev main_call5_v3 : Ref sig .tc := ⟨.hbm, 143, rfl⟩
abbrev main_call5_v4 : Ref sig .tc := ⟨.hbm, 144, rfl⟩
abbrev main_call5_v5 : Ref sig .tc := ⟨.hbm, 145, rfl⟩
abbrev main_call5_c_1 : Ref sig .tc := ⟨.hbm, 146, rfl⟩
abbrev main_call5_c_2 : Ref sig .tc := ⟨.hbm, 147, rfl⟩
abbrev main_call5_v6 : Ref sig .tc := ⟨.hbm, 148, rfl⟩
abbrev main_call5_v7 : Ref sig .tc := ⟨.hbm, 149, rfl⟩
abbrev main_call5_v8 : Ref sig .tc := ⟨.hbm, 150, rfl⟩
abbrev main_call5_v9 : Ref sig .tc := ⟨.hbm, 151, rfl⟩
abbrev main_call5_v10 : Ref sig .tc := ⟨.hbm, 152, rfl⟩
abbrev main_call5_v11 : Ref sig .tc := ⟨.hbm, 153, rfl⟩
abbrev main_call5_c_3 : Ref sig .tc := ⟨.hbm, 154, rfl⟩
abbrev main_call5_v12 : Ref sig .tc := ⟨.hbm, 155, rfl⟩
abbrev main_call5_v13 : Ref sig .tc := ⟨.hbm, 156, rfl⟩
abbrev main_call5_cst : Ref sig .tc := ⟨.hbm, 157, rfl⟩
abbrev main_call5_v14 : Ref sig .tc := ⟨.hbm, 158, rfl⟩
abbrev main_v33 : Ref sig .tc := ⟨.hbm, 159, rfl⟩
abbrev main_c_6 : Ref sig .tc := ⟨.hbm, 160, rfl⟩
abbrev main_v34 : Ref sig .tc := ⟨.hbm, 161, rfl⟩
abbrev main_v35 : Ref sig .tc := ⟨.hbm, 162, rfl⟩
abbrev main_c_7 : Ref sig .tc := ⟨.hbm, 163, rfl⟩
abbrev main_v36 : Ref sig .tc := ⟨.hbm, 164, rfl⟩
abbrev main_v37 : Ref sig .tc := ⟨.hbm, 165, rfl⟩
abbrev main_v38 : Ref sig .tc := ⟨.hbm, 166, rfl⟩
abbrev main_v39 : Ref sig .tc := ⟨.hbm, 167, rfl⟩
abbrev main_v40 : Ref sig .tc := ⟨.hbm, 168, rfl⟩
abbrev main_c_8 : Ref sig .tc := ⟨.hbm, 169, rfl⟩
abbrev main_v41 : Ref sig .tc := ⟨.hbm, 170, rfl⟩
abbrev main_v42 : Ref sig .tc := ⟨.hbm, 171, rfl⟩
abbrev main_c_9 : Ref sig .tc := ⟨.hbm, 172, rfl⟩
abbrev main_v43 : Ref sig .tc := ⟨.hbm, 173, rfl⟩
abbrev main_v44 : Ref sig .tc := ⟨.hbm, 174, rfl⟩
abbrev main_v45 : Ref sig .tc := ⟨.hbm, 175, rfl⟩
abbrev main_v46 : Ref sig .tc := ⟨.hbm, 176, rfl⟩
abbrev main_v47 : Ref sig .tc := ⟨.hbm, 177, rfl⟩
abbrev main_call6_cst : Ref sig .tc := ⟨.hbm, 178, rfl⟩
abbrev main_call6_v0 : Ref sig .tc := ⟨.hbm, 179, rfl⟩
abbrev main_call6_cst_0 : Ref sig .tc := ⟨.hbm, 180, rfl⟩
abbrev main_call6_v1 : Ref sig .tc := ⟨.hbm, 181, rfl⟩
abbrev main_call6_v2 : Ref sig .tc := ⟨.hbm, 182, rfl⟩
abbrev main_call6_v3 : Ref sig .tc := ⟨.hbm, 183, rfl⟩
abbrev main_call6_v4 : Ref sig .tc := ⟨.hbm, 184, rfl⟩
abbrev main_call6_v5 : Ref sig .tc := ⟨.hbm, 185, rfl⟩
abbrev main_call6_v6 : Ref sig .tc := ⟨.hbm, 186, rfl⟩
abbrev main_call6_cst_1 : Ref sig .tc := ⟨.hbm, 187, rfl⟩
abbrev main_call6_v7 : Ref sig .tc := ⟨.hbm, 188, rfl⟩
abbrev main_call6_v8 : Ref sig .tc := ⟨.hbm, 189, rfl⟩
abbrev main_call6_v9 : Ref sig .tc := ⟨.hbm, 190, rfl⟩
abbrev main_call6_v10 : Ref sig .tc := ⟨.hbm, 191, rfl⟩
abbrev main_v48 : Ref sig .tc := ⟨.hbm, 192, rfl⟩
abbrev main_v49 : Ref sig .tc := ⟨.hbm, 193, rfl⟩
abbrev main_call7_c : Ref sig .tc := ⟨.hbm, 194, rfl⟩
abbrev main_call7_v0 : Ref sig .tc := ⟨.hbm, 195, rfl⟩
abbrev main_call7_v1 : Ref sig .tc := ⟨.hbm, 196, rfl⟩
abbrev main_call7_c_0 : Ref sig .tc := ⟨.hbm, 197, rfl⟩
abbrev main_call7_v2 : Ref sig .tc := ⟨.hbm, 198, rfl⟩
abbrev main_call7_v3 : Ref sig .tc := ⟨.hbm, 199, rfl⟩
abbrev main_call7_v4 : Ref sig .tc := ⟨.hbm, 200, rfl⟩
abbrev main_call7_v5 : Ref sig .tc := ⟨.hbm, 201, rfl⟩
abbrev main_call7_c_1 : Ref sig .tc := ⟨.hbm, 202, rfl⟩
abbrev main_call7_c_2 : Ref sig .tc := ⟨.hbm, 203, rfl⟩
abbrev main_call7_v6 : Ref sig .tc := ⟨.hbm, 204, rfl⟩
abbrev main_call7_v7 : Ref sig .tc := ⟨.hbm, 205, rfl⟩
abbrev main_call7_v8 : Ref sig .tc := ⟨.hbm, 206, rfl⟩
abbrev main_call7_v9 : Ref sig .tc := ⟨.hbm, 207, rfl⟩
abbrev main_call7_v10 : Ref sig .tc := ⟨.hbm, 208, rfl⟩
abbrev main_call7_v11 : Ref sig .tc := ⟨.hbm, 209, rfl⟩
abbrev main_call7_c_3 : Ref sig .tc := ⟨.hbm, 210, rfl⟩
abbrev main_call7_v12 : Ref sig .tc := ⟨.hbm, 211, rfl⟩
abbrev main_call7_v13 : Ref sig .tc := ⟨.hbm, 212, rfl⟩
abbrev main_call7_cst : Ref sig .tc := ⟨.hbm, 213, rfl⟩
abbrev main_call7_v14 : Ref sig .tc := ⟨.hbm, 214, rfl⟩
abbrev main_v50 : Ref sig .tc := ⟨.hbm, 215, rfl⟩
abbrev main_v51 : Ref sig .tc := ⟨.hbm, 216, rfl⟩
abbrev main_v52 : Ref sig .tc := ⟨.hbm, 217, rfl⟩
abbrev main_call8_c : Ref sig .tc := ⟨.hbm, 218, rfl⟩
abbrev main_call8_v0 : Ref sig .tc := ⟨.hbm, 219, rfl⟩
abbrev main_call8_v1 : Ref sig .tc := ⟨.hbm, 220, rfl⟩
abbrev main_call8_c_0 : Ref sig .tc := ⟨.hbm, 221, rfl⟩
abbrev main_call8_v2 : Ref sig .tc := ⟨.hbm, 222, rfl⟩
abbrev main_call8_v3 : Ref sig .tc := ⟨.hbm, 223, rfl⟩
abbrev main_call8_v4 : Ref sig .tc := ⟨.hbm, 224, rfl⟩
abbrev main_call8_v5 : Ref sig .tc := ⟨.hbm, 225, rfl⟩
abbrev main_call8_c_1 : Ref sig .tc := ⟨.hbm, 226, rfl⟩
abbrev main_call8_c_2 : Ref sig .tc := ⟨.hbm, 227, rfl⟩
abbrev main_call8_v6 : Ref sig .tc := ⟨.hbm, 228, rfl⟩
abbrev main_call8_v7 : Ref sig .tc := ⟨.hbm, 229, rfl⟩
abbrev main_call8_v8 : Ref sig .tc := ⟨.hbm, 230, rfl⟩
abbrev main_call8_v9 : Ref sig .tc := ⟨.hbm, 231, rfl⟩
abbrev main_call8_v10 : Ref sig .tc := ⟨.hbm, 232, rfl⟩
abbrev main_call8_v11 : Ref sig .tc := ⟨.hbm, 233, rfl⟩
abbrev main_call8_c_3 : Ref sig .tc := ⟨.hbm, 234, rfl⟩
abbrev main_call8_v12 : Ref sig .tc := ⟨.hbm, 235, rfl⟩
abbrev main_call8_v13 : Ref sig .tc := ⟨.hbm, 236, rfl⟩
abbrev main_call8_cst : Ref sig .tc := ⟨.hbm, 237, rfl⟩
abbrev main_call8_v14 : Ref sig .tc := ⟨.hbm, 238, rfl⟩
abbrev main_v53 : Ref sig .tc := ⟨.hbm, 239, rfl⟩
abbrev main_v54 : Ref sig .tc := ⟨.hbm, 240, rfl⟩
abbrev main_cst_10 : Ref sig .tc := ⟨.hbm, 241, rfl⟩
abbrev main_v55 : Ref sig .tc := ⟨.hbm, 242, rfl⟩
abbrev main_v56 : Ref sig .tc := ⟨.hbm, 243, rfl⟩
abbrev main_v57 : Ref sig .tc := ⟨.hbm, 244, rfl⟩
abbrev main_v58 : Ref sig .tc := ⟨.hbm, 245, rfl⟩
abbrev main_cst_11 : Ref sig .tc := ⟨.hbm, 246, rfl⟩
abbrev main_v59 : Ref sig .tc := ⟨.hbm, 247, rfl⟩
abbrev main_cst_12 : Ref sig .tc := ⟨.hbm, 248, rfl⟩
abbrev main_v60 : Ref sig .tc := ⟨.hbm, 249, rfl⟩
abbrev main_v61 : Ref sig .tc := ⟨.hbm, 250, rfl⟩
abbrev main_v62 : Ref sig .tc := ⟨.hbm, 251, rfl⟩
abbrev main_v63 : Ref sig .tc := ⟨.hbm, 252, rfl⟩
abbrev main_v64 : Ref sig .tc := ⟨.hbm, 253, rfl⟩
abbrev main_v65 : Ref sig .tc := ⟨.hbm, 254, rfl⟩
abbrev main_cst_13 : Ref sig .tc := ⟨.hbm, 255, rfl⟩
abbrev main_v66 : Ref sig .tc := ⟨.hbm, 256, rfl⟩
abbrev main_cst_14 : Ref sig .tc := ⟨.hbm, 257, rfl⟩
abbrev main_v67 : Ref sig .tc := ⟨.hbm, 258, rfl⟩

abbrev nD : Nat := 1
abbrev τ : Topo := Topo.v7x

variable {F : FTy → Type} [FloatOps F]
-- ==== Proof.Word.lean ====
/-
  The two words the programs make of a target: its group (the floor of the hundredth part) and its position within
  the group (the remainder), and what they read as for a target in range.
-/
module

public import Idealize.ShloMosaic.Lib.Affine
public import Idealize.ShloMosaic.PureOps

@[expose] public section

namespace Cert.Proof.Word

open Idealize.ShloMosaic

/-- The sign of a word as a word. -/
def sgn (t : BitVec 32) : BitVec 32 := if t = 0 then 0 else if t.msb then -1 else 1

/-- The floor of `t / 100`. -/
def grp (t : BitVec 32) : BitVec 32 :=
  Scalar.select (IntOp.andi (IntOp.cmpi .ne (sgn t) (sgn 100#32)) (IntOp.cmpi .ne (IntOp.remsi .host t 100#32) 0#32))
    (IntOp.subi (IntOp.divsi .host t 100#32) 1#32) (IntOp.divsi .host t 100#32)

/-- The divisor, as the programs guard it against zero. -/
def dvs : BitVec 32 := Scalar.select (IntOp.cmpi .eq 100#32 0#32) 1#32 100#32

/-- The remainder of `t` by 100 with the divisor's sign. -/
def pos (t : BitVec 32) : BitVec 32 :=
  Scalar.select (IntOp.andi (IntOp.cmpi .ne (IntOp.cmpi .slt (IntOp.remsi .host t dvs) 0#32) (IntOp.cmpi .slt dvs 0#32))
      (IntOp.cmpi .ne (IntOp.remsi .host t dvs) 0#32))
    (IntOp.addi (IntOp.remsi .host t dvs) dvs) (IntOp.remsi .host t dvs)

theorem dvs_eq : dvs = 100#32 := by decide

theorem msb_false {t : BitVec 32} (h : t.toNat < 100000) : t.msb = false := by
  rw [BitVec.msb_eq_decide]; exact decide_eq_false (by omega)

theorem div_word {t : BitVec 32} (h : t.toNat < 100000) : IntOp.divsi .host t 100#32 = BitVec.ofNat 32 (t.toNat / 100) := by
  have hm := msb_false h
  unfold IntOp.divsi
  rw [if_neg (by unfold IntOp.SDivCorner; simp)]
  apply BitVec.eq_of_toNat_eq
  rw [BitVec.sdiv_eq, hm]
  simp [show (100#32).msb = false by decide, BitVec.toNat_udiv]
  omega

theorem rem_word {t : BitVec 32} (h : t.toNat < 100000) : IntOp.remsi .host t 100#32 = BitVec.ofNat 32 (t.toNat % 100) := by
  have hm := msb_false h
  unfold IntOp.remsi
  rw [if_neg (by unfold IntOp.SDivCorner; simp)]
  apply BitVec.eq_of_toNat_eq
  rw [BitVec.srem_eq, hm]
  simp [show (100#32).msb = false by decide, BitVec.toNat_umod]
  omega

theorem grp_word {t : BitVec 32} (h : t.toNat < 100000) : grp t = BitVec.ofNat 32 (t.toNat / 100) := by
  have hm := msb_false h
  unfold grp
  rw [div_word h, rem_word h]
  by_cases h0 : t = 0
  · subst h0; decide
  have e : sgn t = sgn 100#32 := by
    unfold sgn; rw [if_neg h0, hm]; rfl
  have e2 : IntOp.cmpi .ne (sgn t) (sgn 100#32) = 0#1 := by rw [e]; decide
  rw [e2]
  have e3 : ∀ b : BitVec 1, IntOp.andi 0#1 b = 0#1 := by decide
  rw [e3]; rfl

theorem pos_word {t : BitVec 32} (h : t.toNat < 100000) : pos t = BitVec.ofNat 32 (t.toNat % 100) := by
  unfold pos
  rw [dvs_eq, rem_word h]
  have key : ∀ n : Fin 100, IntOp.cmpi .slt (BitVec.ofNat 32 n.val) 0#32 = 0#1 := by decide
  rw [key ⟨t.toNat % 100, Nat.mod_lt _ (by omega)⟩]
  have e2 : IntOp.cmpi .ne (0#1) (IntOp.cmpi .slt 100#32 0#32) = 0#1 := by decide
  have e3 : ∀ b : BitVec 1, IntOp.andi 0#1 b = 0#1 := by decide
  rw [e2, e3]; rfl

theorem grp_toNat {t : BitVec 32} (h : t.toNat < 100000) : (grp t).toNat = t.toNat / 100 := by
  rw [grp_word h, BitVec.toNat_ofNat]; omega

theorem pos_toNat {t : BitVec 32} (h : t.toNat < 100000) : (pos t).toNat = t.toNat % 100 := by
  rw [pos_word h, BitVec.toNat_ofNat]; omega

/-- A word both of whose range tests hold is below the range's end. -/
theorem in_range {v : BitVec 32} (e : IntOp.andi (IntOp.cmpi .sge v 0#32) (IntOp.cmpi .slt v 100000#32) = 1#1) : v.toNat < 100000 := by
  have andi_ofBool (p q : Bool) : IntOp.andi (BitVec.ofBool p) (BitVec.ofBool q) = BitVec.ofBool (p && q) := by cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

end Cert.Proof.Word

end
-- ==== Proof.Range.lean ====
/-
  What the two preconditions say of the argument arrays, element by element.
-/
module

public import proofs.«01_k».proof.Proof.Word
public import proofs.«01_k».proof.Proof.Gen.Pre_in_range
public import Idealize.ShloMosaic.Lib.ReduceAll
public import Idealize.ShloMosaic.PureOps.Ideal

@[expose] public section

noncomputable section

namespace Cert.Proof.Range

open Idealize.ShloMosaic

theorem lt_of_in_range {F : FTy → Type} [FloatOps F] (a0 : FVec F ⟨2, ![1024, 101000]⟩ .f32) (a1 : IVec ⟨1, ![1024]⟩ 32)
    (a2 : FVec F ⟨1, ![1000]⟩ .f32) (a3 : FVec F ⟨2, ![1000, 100]⟩ .f32) (a4 : FVec F ⟨1, ![1000]⟩ .f32)
    (h : Cert.Pre_in_range.fn a0 a1 a2 a3 a4 = fun _ => 1#1) (x : (⟨1, ![1024]⟩ : Shape).Idx) : (a1 x).toNat < 100000 := by
  have e := congrFun h default
  dsimp only [Cert.Pre_in_range.fn] at e
  exact Word.in_range (Host.reduce_andi_all _ _ _ _ _ e x)

end Cert.Proof.Range

end
-- ==== Proof.Hw.Copies.lean ====
/-
  The stretches of a task's program that only copy, run through by the steps of `Copy`.
-/
module

public import proofs.«01_k».proof.Proof.Hw.Copy

@[expose] public section

noncomputable section

namespace Cert.Proof.Hw

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Copies

variable {d : Dev nD} {L : grid0.Coords}

/-- The group of sixteen columns that a cut of the printed program leaves half copied. -/
abbrev held (f9 : S32x8x256.Idx → Elt F .f32) (s t o : ℕ) (inb : ∀ a, (![s, t, o] : Fin 3 → ℕ) a + S1x1x16.size a ≤ S32x8x256.size a) : FVec F S16 .f32 :=
  shapeCast S16 ((b9).view.readAt (Elt F) (Rect.unit (s := S32x8x256) ![s, t, o] S1x1x16.size inb).toLoadRect f9) shapeCasts_S1x1x16_S16

theorem wpT_ret {α : Type} {a : α} {A : sProp 𝕄} {Q : α → sProp 𝕄} (h : A ⊢ Q a) : A ⊢ wpT d L (.ret a) Q :=
  h.trans (le_wp_ret _ _ _ a Q)

set_option maxHeartbeats 0 in
set_option maxRecDepth 100000 in
/-- The middle stretch of the program: 257 of the 512 copies. -/
theorem copies_b {f9 : S32x8x256.Idx → Elt F .f32} {f10 : S32x256.Idx → Elt F .f32} {R : sProp 𝕄} :
    Cp d L 183 f9 f10 R ⊢ wpT d L (k0_part138 L bpV (Memref.isWhole_whole _) gV (Memref.isWhole_whole _) gwV (Memref.isWhole_whole _) winV (Memref.isWhole_whole _)
        wgV (Memref.isWhole_whole _) b7 (Memref.isWhole_whole _) b8 (Memref.isWhole_whole _) b9 (Memref.isWhole_whole _) b10 (Memref.isWhole_whole _)
        b11 (Memref.isWhole_whole _) cc0_scratch5 cc0_scratch6 cc0_scoped0 cc0_scoped1 cc0_scoped2
        (held f9 11 3 112 inb_S32x8x256_S1x1x16_11_3_112))
      fun v => iprop(⌜v = held f9 27 3 128 inb_S32x8x256_S1x1x16_27_3_128⌝ ∗ Cp d L 440 f9 f10 R) := by
  refine cp_load10 fun _ => ?_
  refine cp_store rfl rfl rfl ?_
  iterate 256
    refine cp_load9 ?_
    refine cp_load10 fun _ => ?_
    refine cp_store rfl rfl rfl ?_
  refine cp_load9 ?_
  refine wpT_ret ?_
  iintro H
  isplitr
  · ipureintro; rfl
  · iexact H

set_option maxHeartbeats 0 in
set_option maxRecDepth 100000 in
/-- The last stretch: the rest of the copies, and what comes after them. -/
theorem copies_c {f9 : S32x8x256.Idx → Elt F .f32} {f10 : S32x256.Idx → Elt F .f32} {R : sProp 𝕄} {Q : PUnit → sProp 𝕄}
    {h1 h2 h3}
    (h : Cp d L 512 f9 f10 R ⊢ wpT d L (.op (.enqueueDma b10 (.here (winV.slice (Rect.unit (s := S1024x256) (k0_off66 L) S32x256.size (k0_off66_inb L)) (fun _ => rfl)))
      (.dma cc0_scoped1.sem) h1 h2 h3) .ret) Q) :
    Cp d L 440 f9 f10 R ⊢ wpT d L (k0_part139 L bpV (Memref.isWhole_whole _) gV (Memref.isWhole_whole _) gwV (Memref.isWhole_whole _) winV (Memref.isWhole_whole _)
        wgV (Memref.isWhole_whole _) b7 (Memref.isWhole_whole _) b8 (Memref.isWhole_whole _) b9 (Memref.isWhole_whole _) b10 (Memref.isWhole_whole _)
        b11 (Memref.isWhole_whole _) cc0_scratch5 cc0_scratch6 cc0_scoped0 cc0_scoped1 cc0_scoped2
        (held f9 27 3 128 inb_S32x8x256_S1x1x16_27_3_128)) Q := by
  refine cp_load10 fun _ => ?_
  refine cp_store rfl rfl rfl ?_
  iterate 71
    refine cp_load9 ?_
    refine cp_load10 fun _ => ?_
    refine cp_store rfl rfl rfl ?_
  exact h

end Copies

end Cert.Proof.Hw
-- ==== Proof.Id.Setup.lean ====
/-
  The SparseCore call of the kernel as the launch theorem sees it, the ghost state the proof keeps, the names of
  the buffers its tasks use, and the contents it leaves: for each row the 256-column window of the padded
  predictions that holds the row's group, and the row of the padded group weights.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Batch
public import Idealize.ShloMosaic.Lib.Writes
public import Idealize.ShloMosaic.Lib.ValueIdxCore
public import Idealize.ShloMosaic.Lib.ValueLayout
public import Idealize.ShloMosaic.Lib.Tactic
public import proofs.«01_k».proof.Proof.Gen.KernelIdeal

@[expose] public section

noncomputable section

namespace Cert.Proof.Id

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The ghost state: the handshakes' and the pipeline's rounds, and the transfers' counters. -/
abbrev UH : Type := URounds (GSem nD τ sig) ℕ
abbrev UU : Type := UH × (UR sig nD τ × Counters)

local notation "𝕄" => MT nD τ sig (HIx 1) (Elt F) ℕ UU ℕ

abbrev EH : Emb UH (MT nD τ sig (HIx 1) (Elt F) ℕ UU ℕ) := embL

abbrev EP : Emb (UR sig nD τ) (MT nD τ sig (HIx 1) (Elt F) ℕ UU ℕ) := (Emb.inl : Emb (UR sig nD τ) (UR sig nD τ × Counters)).trans embR

/-! ## The buffers -/

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

abbrev bpLoc (d : Dev nD) : Loc nD τ sig := (SparseCore.T d).loc main_v3
abbrev gLoc (d : Dev nD) : Loc nD τ sig := (SparseCore.T d).loc main_v0
abbrev gwLoc (d : Dev nD) : Loc nD τ sig := (SparseCore.T d).loc main_v2
abbrev winLoc (d : Dev nD) : Loc nD τ sig := (SparseCore.T d).loc main_v4_0
abbrev wgLoc (d : Dev nD) : Loc nD τ sig := (SparseCore.T d).loc main_v4_1

/-- The padded predictions, the groups, the padded group weights, the windows and the gathered weights, as a task names them. -/
abbrev bpV : Memref sig .scVector .hbm S1024x101120 .f32 := Memref.whole main_v3_scv
abbrev gV : Memref sig .scVector .hbm S1024 .i32 := Memref.whole main_v0_scv
abbrev gwV : Memref sig .scVector .hbm S1000x128 .f32 := Memref.whole main_v2_scv
abbrev winV : Memref sig .scVector .hbm S1024x256 .f32 := Memref.whole main_v4_0_scv
abbrev wgV : Memref sig .scVector .hbm S1024x128 .f32 := Memref.whole main_v4_1_scv
/-- A task's own buffers: all groups, its 32 groups, its 32 eight-row windows, its 32 rows, its 32 weight rows. -/
abbrev b7 : Memref sig .scVector .vmem S1024 .i32 := Memref.whole cc0_scratch0
abbrev b8 : Memref sig .scVector .vmem S32 .i32 := Memref.whole cc0_scratch1
abbrev b9 : Memref sig .scVector .vmem S32x8x256 .f32 := Memref.whole cc0_scratch2
abbrev b10 : Memref sig .scVector .vmem S32x256 .f32 := Memref.whole cc0_scratch3
abbrev b11 : Memref sig .scVector .vmem S32x128 .f32 := Memref.whole cc0_scratch4

/-- The task's program, at its coordinates. -/
abbrev taskProg [FloatOps F] [Named F] (L : grid0.Coords) :=
  cc0_k (F := F) L bpV (Memref.isWhole_whole _) gV (Memref.isWhole_whole _) gwV (Memref.isWhole_whole _) winV (Memref.isWhole_whole _)
    wgV (Memref.isWhole_whole _) b7 (Memref.isWhole_whole _) b8 (Memref.isWhole_whole _) b9 (Memref.isWhole_whole _) b10 (Memref.isWhole_whole _)
    b11 (Memref.isWhole_whole _) cc0_scratch5 cc0_scratch6 cc0_scoped0 cc0_scoped1 cc0_scoped2

/-! ## The contents -/

/-- The task's first row. -/
def row0 (L : grid0.Coords) : ℕ := 64 * (L 1).val + 32 * (L 0).val

theorem row0_le (L : grid0.Coords) : row0 L + 32 ≤ 1024 := by
  have h0 : (L 0).val < 2 := (L 0).isLt
  have h1 : (L 1).val < 16 := (L 1).isLt
  unfold row0; omega

/-- The first column of the window that holds group `g`. -/
def colN (g : BitVec 32) : ℕ := (1000 + 100 * g.toNat) / 128 * 128

theorem colN_le {g : BitVec 32} (h : g.toNat < 1000) : colN g + 256 ≤ 101120 := by unfold colN; omega
theorem colN_dvd (g : BitVec 32) : 128 ∣ colN g := ⟨_, Nat.mul_comm _ _⟩

/-- The same as a task computes it. -/
def colW (g : BitVec 32) : BitVec 32 :=
  IntOp.muli (IntOp.shrui .vector (IntOp.addi 1000#32 (IntOp.muli g 100#32)) 7#32) 128#32

theorem colW_toNat {g : BitVec 32} (h : g.toNat < 1000) : (colW g).toNat = colN g := by
  have e1 : (IntOp.addi 1000#32 (IntOp.muli g 100#32)).toNat = 1000 + 100 * g.toNat := by
    unfold IntOp.addi IntOp.muli
    rw [BitVec.toNat_add, BitVec.toNat_mul, BitVec.toNat_ofNat, BitVec.toNat_ofNat]; omega
  have e2 : (IntOp.shrui ArithUnit.vector (IntOp.addi 1000#32 (IntOp.muli g 100#32)) 7#32).toNat = (1000 + 100 * g.toNat) / 128 := by
    unfold IntOp.shrui
    rw [if_pos (by decide), BitVec.ushiftRight_eq', BitVec.toNat_ushiftRight, e1, Nat.shiftRight_eq_div_pow]; rfl
  unfold colW
  rw [show ∀ a : BitVec 32, IntOp.muli a 128#32 = a * 128#32 from fun _ => rfl, BitVec.toNat_mul, e2, BitVec.toNat_ofNat]
  unfold colN; omega

/-- Entry `(r, k)` of the windows. -/
def winAt (fbp : S1024x101120.Idx → Elt F .f32) (fg : S1024.Idx → BitVec 32) (r k : ℕ) : Elt F .f32 :=
  fbp (ix2 (Fin.ofNat 1024 r) (Fin.ofNat 101120 (colN (fg (ix1 (Fin.ofNat 1024 r))) + k)))
/-- The windows: row `r` is the 256 columns from the window's first column on, of row `r`. -/
def winVal (fbp : S1024x101120.Idx → Elt F .f32) (fg : S1024.Idx → BitVec 32) : S1024x256.Idx → Elt F .f32 :=
  fun y => winAt fbp fg (y 0).val (y 1).val
/-- The gathered weights: row `r` is row `g r` of the padded group weights. -/
def wgVal (fgw : S1000x128.Idx → Elt F .f32) (fg : S1024.Idx → BitVec 32) : S1024x128.Idx → Elt F .f32 :=
  fun y => fgw (ix2 (Fin.ofNat 1000 (fg (ix1 (y 0))).toNat) (y 1))

end Cert.Proof.Id
-- ==== Proof.Id.Copy.lean ====
/-
  A task's steps, one lemma per kind of operation, each taking the assertion that holds before it to the one after:
  the issue of window `k` of the 32 on the one semaphore, its wait, and the three operations that copy sixteen columns
  of the right one of a window's eight rows. The lemmas are applied one after the other to the task's program.
-/
module

public import proofs.«01_k».proof.Proof.Id.Setup

@[expose] public section

noncomputable section

namespace Cert.Proof.Id

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

section Steps

variable (d : Dev nD) (L : grid0.Coords)

/-- The task's weakest precondition. -/
abbrev wpT {α : Type} (p : Prog (TpuEff nD τ sig (Elt F) Λ₀ (thr d L).2) α) (Q : α → sProp 𝕄) : sProp 𝕄 :=
  wp frame (wpE (defs₀ (F := F)) 𝒱₀ (thr d L) none) Set.univ p Q

/-! ## The copies -/

/-- The rows while they are copied: the first `n` groups of sixteen columns hold what they are to hold. -/
def cp (n : ℕ) (f9 : S32x8x256.Idx → Elt F .f32) (f10 : S32x256.Idx → Elt F .f32) : S32x256.Idx → Elt F .f32 :=
  fun y => if 16 * (y 0).val + (y 1).val / 16 < n then f9 (ix3 (y 0) (Fin.ofNat 8 (y 0).val) (y 1)) else f10 y

/-- The state while the rows are copied. -/
def Cp (n : ℕ) (f9 : S32x8x256.Idx → Elt F .f32) (f10 : S32x256.Idx → Elt F .f32) (R : sProp 𝕄) : sProp 𝕄 :=
  iprop(((b9).view.loc (thr d L) ↦{fullShare} f9) ∗ ((b10).view.loc (thr d L) ↦{fullShare} cp n f9 f10) ∗ R)

variable {d L}

theorem cp_load9 {n : ℕ} {α : Type} {Q : α → sProp 𝕄} {f9 : S32x8x256.Idx → Elt F .f32} {f10 : S32x256.Idx → Elt F .f32} {R : sProp 𝕄}
    {r : LoadRect S32x8x256} {hl : (b9).view.LoadsAt r} {k : (r.shape.Idx → Elt F .f32) → Prog (TpuEff nD τ sig (Elt F) Λ₀ (thr d L).2) α}
    (h : Cp d L n f9 f10 R ⊢ wpT d L (k ((b9).view.readAt (Elt F) r f9)) Q) :
    Cp d L n f9 f10 R ⊢ wpT d L (.op (.load b9 r hl) k) Q := by
  unfold Cp at h ⊢
  iintro ⟨H9, H10, HR⟩
  iapply (wp_load 𝒱₀ (thr d L) none Set.univ (m := b9) (r := r) (hl := hl) (S := Finset.univ) (Finset.subset_univ _)) $$ H9
  iintro H9
  iapply h
  isplitl [H9]; · iexact H9
  isplitl [H10]; · iexact H10
  iexact HR

theorem cp_load10 {n : ℕ} {α : Type} {Q : α → sProp 𝕄} {f9 : S32x8x256.Idx → Elt F .f32} {f10 : S32x256.Idx → Elt F .f32} {R : sProp 𝕄}
    {r : LoadRect S32x256} {hl : (b10).view.LoadsAt r} {k : (r.shape.Idx → Elt F .f32) → Prog (TpuEff nD τ sig (Elt F) Λ₀ (thr d L).2) α}
    (h : ∀ v, Cp d L n f9 f10 R ⊢ wpT d L (k v) Q) :
    Cp d L n f9 f10 R ⊢ wpT d L (.op (.load b10 r hl) k) Q := by
  unfold Cp at h ⊢
  iintro ⟨H9, H10, HR⟩
  iapply (wp_load 𝒱₀ (thr d L) none Set.univ (m := b10) (r := r) (hl := hl) (S := Finset.univ) (Finset.subset_univ _)) $$ H10
  iintro H10
  iapply (h _)
  isplitl [H9]; · iexact H9
  isplitl [H10]; · iexact H10
  iexact HR

/-- What a group of sixteen columns reads as. -/
theorem read16 {s t o : ℕ} {f9 : S32x8x256.Idx → Elt F .f32}
    {inb : ∀ a, (![s, t, o] : Fin 3 → ℕ) a + S1x1x16.size a ≤ S32x8x256.size a}
    {h1 : S1x1x16.ShapeCasts S16} {h2 : S16.ShapeCasts S1x16} (x : S1x16.Idx) :
    shapeCast S1x16 (shapeCast S16 ((b9).view.readAt (Elt F) (Rect.unit (s := S32x8x256) ![s, t, o] S1x1x16.size inb).toLoadRect f9) h1) h2 x
      = f9 (ix3 (Fin.ofNat 32 s) (Fin.ofNat 8 t) (Fin.ofNat 256 (o + (x 1).val))) := by
  have hs : s < 32 := by have := inb 0; simp [S1x1x16, S32x8x256] at this; omega
  have ht : t < 8 := by have := inb 1; simp [S1x1x16, S32x8x256] at this; omega
  have ho : o + 16 ≤ 256 := by have := inb 2; simp [S1x1x16, S32x8x256] at this; omega
  have hx : (x 1).val < 16 := (x 1).isLt
  unfold shapeCast
  rw [View.readAt_rect, View.read_apply, cast_eq]
  congr 1
  have e1 : Shape.reshapeEquiv h2 x = ix1 (⟨(x 1).val, hx⟩ : Fin 16) := by
    refine Shape.reshapeEquiv_eq_of_rowMajor _ ?_
    rw [Shape.rowMajor_val_one, Shape.rowMajor_val_two]
    have h0 : (x 0).val = 0 := by have : (x 0).val < 1 := (x 0).isLt; omega
    show (x 1).val = (x 0).val * 16 + (x 1).val
    omega
  have e2 : Shape.reshapeEquiv h1 (ix1 (⟨(x 1).val, hx⟩ : Fin 16)) = ix3 (0 : Fin 1) (0 : Fin 1) (⟨(x 1).val, hx⟩ : Fin 16) := by
    refine Shape.reshapeEquiv_eq_of_rowMajor _ ?_
    rw [Shape.rowMajor_val_one, Shape.rowMajor_val_three]
    show (0 * 1 + 0) * 16 + (x 1).val = (x 1).val
    omega
  rw [e1, e2]
  refine Rect.emb_eq_of_coords _ _ _ fun a => ?_
  match a with
  | ⟨0, _⟩ => show s % 32 = s + 1 * 0; omega
  | ⟨1, _⟩ => show t % 8 = t + 1 * 0; omega
  | ⟨2, _⟩ => show (o + (x 1).val) % 256 = o + 1 * (x 1).val; omega

theorem cp_store {n s t o : ℕ} {α : Type} {Q : α → sProp 𝕄} {f9 : S32x8x256.Idx → Elt F .f32} {f10 : S32x256.Idx → Elt F .f32} {R : sProp 𝕄}
    {inb : ∀ a, (![s, t, o] : Fin 3 → ℕ) a + S1x1x16.size a ≤ S32x8x256.size a}
    {inb' : ∀ a, (![s, o] : Fin 2 → ℕ) a + S1x16.size a ≤ S32x256.size a}
    {h1 : S1x1x16.ShapeCasts S16} {h2 : S16.ShapeCasts S1x16} {hx hm}
    {k : PUnit → Prog (TpuEff nD τ sig (Elt F) Λ₀ (thr d L).2) α}
    (ht : t = s % 8) (ho : o % 16 = 0) (hn : n = 16 * s + o / 16)
    (h : Cp d L (16 * s + o / 16 + 1) f9 f10 R ⊢ wpT d L (k ⟨⟩) Q) :
    Cp d L n f9 f10 R ⊢ wpT d L (.op (.store b10 (Rect.unit (s := S32x256) ![s, o] S1x16.size inb')
      (shapeCast S1x16 (shapeCast S16 ((b9).view.readAt (Elt F) (Rect.unit (s := S32x8x256) ![s, t, o] S1x1x16.size inb).toLoadRect f9) h1) h2)
      Finset.univ hx hm) k) Q := by
  have hs : s < 32 := by have := inb' 0; simp [S1x16, S32x256] at this; omega
  have ho' : o + 16 ≤ 256 := by have := inb' 1; simp [S1x16, S32x256] at this; omega
  subst hn ht
  have key : ((b10).access (Rect.unit (s := S32x256) ![s, o] S1x16.size inb')).write (Elt F) (cp (16 * s + o / 16) f9 f10)
      (shapeCast S1x16 (shapeCast S16 ((b9).view.readAt (Elt F) (Rect.unit (s := S32x8x256) ![s, s % 8, o] S1x1x16.size inb).toLoadRect f9) h1) h2)
      Finset.univ = cp (16 * s + o / 16 + 1) f9 f10 := by
    funext y
    have hy0 : (y 0).val < 32 := (y 0).isLt
    have hy1 : (y 1).val < 256 := (y 1).isLt
    by_cases hy : 16 * (y 0).val + (y 1).val / 16 = 16 * s + o / 16
    · have hy0' : (y 0).val = s := by omega
      have hx1 : (y 1).val - o < 16 := by omega
      have ey : ((b10).access (Rect.unit (s := S32x256) ![s, o] S1x16.size inb')).emb (ix2 (0 : Fin 1) (⟨(y 1).val - o, hx1⟩ : Fin 16)) = y := by
        refine Rect.emb_eq_of_coords _ _ _ fun a => ?_
        match a with
        | ⟨0, _⟩ => show (y 0).val = s + 1 * 0; omega
        | ⟨1, _⟩ => show (y 1).val = o + 1 * ((y 1).val - o); omega
      conv_lhs => rw [← ey]
      rw [View.write_emb_of_mem _ _ (Finset.mem_univ _), cast_eq, read16]
      unfold cp
      rw [if_pos (by omega)]
      congr 1
      funext a
      match a with
      | ⟨0, _⟩ => exact Fin.ext (show s % 32 = (y 0).val by omega)
      | ⟨1, _⟩ => exact Fin.ext (show (s % 8) % 8 = (y 0).val % 8 by omega)
      | ⟨2, _⟩ => exact Fin.ext (show (o + ((y 1).val - o)) % 256 = (y 1).val by omega)
    · have hw := View.write_of_not_mem (v := (b10).access (Rect.unit (s := S32x256) ![s, o] S1x16.size inb')) (Val := Elt F) (cp (16 * s + o / 16) f9 f10)
        (shapeCast S1x16 (shapeCast S16 ((b9).view.readAt (Elt F) (Rect.unit (s := S32x8x256) ![s, s % 8, o] S1x1x16.size inb).toLoadRect f9) h1) h2)
        Finset.univ (i := y) (by
          show y ∉ ((View.whole cc0_scratch3).slice (Rect.unit (s := S32x256) ![s, o] S1x16.size inb')).set
          rw [View.set_slice_whole]
          intro hmem
          have hall := Rect.mem_set_unit.mp hmem
          have a0 := hall 0
          have a1 := hall 1
          simp [S1x16] at a0 a1
          exact hy (by omega))
      rw [hw]
      unfold cp
      by_cases h' : 16 * (y 0).val + (y 1).val / 16 < 16 * s + o / 16
      · rw [if_pos h', if_pos (by omega)]
      · rw [if_neg h', if_neg (by omega)]
  unfold Cp at h ⊢
  iintro ⟨H9, H10, HR⟩
  iapply (wp_store 𝒱₀ (thr d L) none Set.univ (m := b10) (hx := hx) (hm := hm) (S := Finset.univ) (Finset.subset_univ _)) $$ H10
  rw [key]
  iintro H10
  iapply h
  isplitl [H9]; · iexact H9
  isplitl [H10]; · iexact H10
  iexact HR

end Steps

end Cert.Proof.Id
-- ==== Proof.Id.Copies.lean ====
/-
  The stretches of a task's program that only copy, run through by the steps of `Copy`.
-/
module

public import proofs.«01_k».proof.Proof.Id.Copy

@[expose] public section

noncomputable section

namespace Cert.Proof.Id

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

section Copies

variable {d : Dev nD} {L : grid0.Coords}

/-- The group of sixteen columns that a cut of the printed program leaves half copied. -/
abbrev held (f9 : S32x8x256.Idx → Elt F .f32) (s t o : ℕ) (inb : ∀ a, (![s, t, o] : Fin 3 → ℕ) a + S1x1x16.size a ≤ S32x8x256.size a) : FVec F S16 .f32 :=
  shapeCast S16 ((b9).view.readAt (Elt F) (Rect.unit (s := S32x8x256) ![s, t, o] S1x1x16.size inb).toLoadRect f9) shapeCasts_S1x1x16_S16

theorem wpT_ret {α : Type} {a : α} {A : sProp 𝕄} {Q : α → sProp 𝕄} (h : A ⊢ Q a) : A ⊢ wpT d L (.ret a) Q :=
  h.trans (le_wp_ret _ _ _ a Q)

set_option maxHeartbeats 0 in
set_option maxRecDepth 100000 in
/-- The middle stretch of the program: 257 of the 512 copies. -/
theorem copies_b {f9 : S32x8x256.Idx → Elt F .f32} {f10 : S32x256.Idx → Elt F .f32} {R : sProp 𝕄} :
    Cp d L 183 f9 f10 R ⊢ wpT d L (k0_part138 L bpV (Memref.isWhole_whole _) gV (Memref.isWhole_whole _) gwV (Memref.isWhole_whole _) winV (Memref.isWhole_whole _)
        wgV (Memref.isWhole_whole _) b7 (Memref.isWhole_whole _) b8 (Memref.isWhole_whole _) b9 (Memref.isWhole_whole _) b10 (Memref.isWhole_whole _)
        b11 (Memref.isWhole_whole _) cc0_scratch5 cc0_scratch6 cc0_scoped0 cc0_scoped1 cc0_scoped2
        (held f9 11 3 112 inb_S32x8x256_S1x1x16_11_3_112))
      fun v => iprop(⌜v = held f9 27 3 128 inb_S32x8x256_S1x1x16_27_3_128⌝ ∗ Cp d L 440 f9 f10 R) := by
  refine cp_load10 fun _ => ?_
  refine cp_store rfl rfl rfl ?_
  iterate 256
    refine cp_load9 ?_
    refine cp_load10 fun _ => ?_
    refine cp_store rfl rfl rfl ?_
  refine cp_load9 ?_
  refine wpT_ret ?_
  iintro H
  isplitr
  · ipureintro; rfl
  · iexact H

set_option maxHeartbeats 0 in
set_option maxRecDepth 100000 in
/-- The last stretch: the rest of the copies, and what comes after them. -/
theorem copies_c {f9 : S32x8x256.Idx → Elt F .f32} {f10 : S32x256.Idx → Elt F .f32} {R : sProp 𝕄} {Q : PUnit → sProp 𝕄}
    {h1 h2 h3}
    (h : Cp d L 512 f9 f10 R ⊢ wpT d L (.op (.enqueueDma b10 (.here (winV.slice (Rect.unit (s := S1024x256) (k0_off66 L) S32x256.size (k0_off66_inb L)) (fun _ => rfl)))
      (.dma cc0_scoped1.sem) h1 h2 h3) .ret) Q) :
    Cp d L 440 f9 f10 R ⊢ wpT d L (k0_part139 L bpV (Memref.isWhole_whole _) gV (Memref.isWhole_whole _) gwV (Memref.isWhole_whole _) winV (Memref.isWhole_whole _)
        wgV (Memref.isWhole_whole _) b7 (Memref.isWhole_whole _) b8 (Memref.isWhole_whole _) b9 (Memref.isWhole_whole _) b10 (Memref.isWhole_whole _)
        b11 (Memref.isWhole_whole _) cc0_scratch5 cc0_scratch6 cc0_scoped0 cc0_scoped1 cc0_scoped2
        (held f9 27 3 128 inb_S32x8x256_S1x1x16_27_3_128)) Q := by
  refine cp_load10 fun _ => ?_
  refine cp_store rfl rfl rfl ?_
  iterate 71
    refine cp_load9 ?_
    refine cp_load10 fun _ => ?_
    refine cp_store rfl rfl rfl ?_
  exact h

end Copies

end Cert.Proof.Id
-- ==== Proof.Id.Issue.lean ====
/-
  The steps of a task that fetches its 32 windows on one semaphore: the groups they depend on are read, each window is
  issued, and they are all waited for.
-/
module

public import proofs.«01_k».proof.Proof.Id.Copies

@[expose] public section

noncomputable section

namespace Cert.Proof.Id

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## The windows' offsets and columns -/

/-- The offsets of a window's slice, as the program computes them. -/
def winOff (i : grid0.Coords) (c v : BitVec 32) : Fin 2 → ℕ :=
  ![(Scalar.addi (Scalar.muli (Scalar.addi (Scalar.muli (BitVec.ofNat 32 (i 1).val) 2#32) (BitVec.ofNat 32 (i 0).val)) 32#32) c).toNat, v.toNat]

omit [FloatOps F] [Named F] in
theorem winOff_eq (L : grid0.Coords) {c : BitVec 32} (hc : c.toNat ≤ 24) (v : BitVec 32) : winOff L c v = ![row0 L + c.toNat, v.toNat] := by
  have h0 : (L 0).val < 2 := (L 0).isLt
  have h1 : (L 1).val < 16 := (L 1).isLt
  unfold winOff
  congr 1
  show (((BitVec.ofNat 32 (L 1).val * 2#32 + BitVec.ofNat 32 (L 0).val) * 32#32) + c).toNat = row0 L + c.toNat
  rw [BitVec.toNat_add, BitVec.toNat_mul, BitVec.toNat_add, BitVec.toNat_mul]
  simp only [BitVec.toNat_ofNat]
  unfold row0; omega

/-- What a window's slice needs of its offsets. -/
theorem win_ok {fg : S1024.Idx → BitVec 32} (hg : ∀ x, (fg x).toNat < 1000) (L : grid0.Coords) {w : BitVec 32} {x : S1024.Idx}
    (c : BitVec 32) (hc : c.toNat ≤ 24) (hw : w = colW (fg x)) :
    128 ∣ w.toNat ∧ (∀ a, winOff L c w a + S8x256.size a ≤ S1024x101120.size a) := by
  subst hw
  rw [winOff_eq L hc, colW_toNat (hg x)]
  refine ⟨colN_dvd _, fun a => ?_⟩
  have hr := row0_le L
  have hl := colN_le (hg x)
  match a with
  | ⟨0, _⟩ => show row0 L + c.toNat + 8 ≤ 1024; omega
  | ⟨1, _⟩ => show colN (fg x) + 256 ≤ 101120; omega

theorem off_at {fg : S1024.Idx → BitVec 32} (hg : ∀ x, (fg x).toNat < 1000) (L : grid0.Coords) {w : BitVec 32} {k : ℕ}
    (c : BitVec 32) (hc : c.toNat = k / 8 * 8) (hk : k < 32) (hw : w = colW (fg (ix1 (Fin.ofNat 1024 (row0 L + k))))) :
    winOff L c w = ![row0 L + k / 8 * 8, colN (fg (ix1 (Fin.ofNat 1024 (row0 L + k))))] := by
  subst hw
  rw [winOff_eq L (by omega), colW_toNat (hg _), hc]

/-- The column a task computes for entry `t` of sixteen groups. -/
theorem col_at {fg : S1024.Idx → BitVec 32} {v : S16.Idx → BitVec 32} {r k : ℕ}
    (hv : ∀ x : Fin 16, v (ix1 x) = fg (ix1 (Fin.ofNat 1024 (r + x.val))))
    {t : ℕ} {h1 : S16.ShapeCasts S16} {hs} {hp} (ht : t < 16) (hk : r + t = k) :
    extractAt (s := S1) ![0] (extractStridedSlice S1 ![t] (muli (shrui (addi (broadcast S16 1000#32) (muli (shapeCast S16 v h1) (broadcast S16 100#32))) (broadcast S16 7#32)) (broadcast S16 128#32) : IVec S16 32) hs) hp
      = colW (fg (ix1 (Fin.ofNat 1024 k))) := by
  subst hk
  have e := hv ⟨t, ht⟩
  show colW (shapeCast S16 v h1 _) = _
  unfold shapeCast
  rw [show ∀ x : S16.Idx, Shape.reshapeEquiv h1 x = x from fun x => Shape.reshapeEquiv_eq_of_rowMajor _ rfl]
  rw [← e]
  congr 2
  funext a
  match a with
  | ⟨0, _⟩ => exact Fin.ext (show t + 0 = t by omega)

section Issue

variable (d : Dev nD) (L : grid0.Coords)

/-- What the windows' buffer holds once they have all landed. -/
def f9v (fbp : S1024x101120.Idx → Elt F .f32) (fg : S1024.Idx → BitVec 32) : S32x8x256.Idx → Elt F .f32 := fun y =>
  fbp (ix2 (Fin.ofNat 1024 (row0 L + (y 0).val / 8 * 8 + (y 1).val))
    (Fin.ofNat 101120 (colN (fg (ix1 (Fin.ofNat 1024 (row0 L + (y 0).val)))) + (y 2).val)))

/-- The elements of window `k` in the buffer. -/
def wset (k : ℕ) : Finset S32x8x256.Idx := Finset.univ.filter fun y => (y 0).val = k

/-- What window `k` delivers. -/
def dlv (fbp : S1024x101120.Idx → Elt F .f32) (fg : S1024.Idx → BitVec 32) (k : Fin 32) : sProp 𝕄 :=
  iprop((b9).view.loc (thr d L) ↦[wset k.val]{fullShare} f9v L fbp fg)

instance (fbp : S1024x101120.Idx → Elt F .f32) (fg : S1024.Idx → BitVec 32) (k : Fin 32) : Storable (upEmb : UEmb _ 𝕄) (dlv d L fbp fg k) := by
  unfold dlv; infer_instance

/-- What one window counts for on the semaphore. -/
abbrev winN : ℕ := ((b9.slice (Rect.unit (s := S32x8x256) ![0, 0, 0] S1x8x256.size inb_S32x8x256_S1x8x256_0_0_0) (fun _ => rfl)).squeeze S8x256 squeezes_S1x8x256_S8x256).view.dmaCredit

/-- The state while windows are issued: the first `n` are. -/
def Iss (n : ℕ) (fbp : S1024x101120.Idx → Elt F .f32) (fg : S1024.Idx → BitVec 32) (q : PosShare TreeShare) (f0 : S32x8x256.Idx → Elt F .f32) (R : sProp 𝕄) : sProp 𝕄 :=
  iprop(((b7).view.loc (thr d L) ↦{fullShare} fg)
    ∗ Transfers.Batch countersEmb (thr d L) (.dma cc0_scratch5.sem) (default : HIx 1) winN (dlv d L fbp fg) n 0
    ∗ bigSep (Transfers.pending n) (fun k : Fin 32 => iprop((b9).view.loc (thr d L) ↦[wset k.val]{fullShare} f0))
    ∗ bigSep (Transfers.pending n) (fun k : Fin 32 => iprop((bpV).view.loc (thr d L) ↦{Transfers.shareTok q 32 k} fbp)) ∗ R)

variable {d L}
variable {fbp : S1024x101120.Idx → Elt F .f32} {fg : S1024.Idx → BitVec 32} {q : PosShare TreeShare} {f0 : S32x8x256.Idx → Elt F .f32}

/-- Sixteen groups read as they are. -/
theorem read7 {off : Fin 1 → ℕ} {r : ℕ} (hoff : off = ![r]) (hr : r + 16 ≤ 1024) {inb : ∀ a, off a + S16.size a ≤ S1024.size a} (x : Fin 16) :
    (b7).view.readAt (Elt F) (Rect.unit (s := S1024) off S16.size inb).toLoadRect fg (ix1 x) = fg (ix1 (Fin.ofNat 1024 (r + x.val))) := by
  subst hoff
  rw [View.readAt_rect, View.read_apply, cast_eq]
  congr 1
  refine Rect.emb_eq_of_coords _ _ _ fun a => ?_
  have := x.isLt
  match a with
  | ⟨0, _⟩ => show (r + x.val) % 1024 = r + 1 * x.val; omega

theorem iss_load7 {n : ℕ} {α : Type} {R : sProp 𝕄} {Q : α → sProp 𝕄} {off : Fin 1 → ℕ} {r : ℕ} (hoff : off = ![r]) (hr : r + 16 ≤ 1024)
    {inb : ∀ a, off a + S16.size a ≤ S1024.size a} {hl : (b7).view.LoadsAt (Rect.unit (s := S1024) off S16.size inb).toLoadRect}
    {k : (S16.Idx → BitVec 32) → Prog (TpuEff nD τ sig (Elt F) Λ₀ (thr d L).2) α}
    (h : ∀ v : S16.Idx → BitVec 32, (∀ x : Fin 16, v (ix1 x) = fg (ix1 (Fin.ofNat 1024 (r + x.val)))) → Iss d L n fbp fg q f0 R ⊢ wpT d L (k v) Q) :
    Iss d L n fbp fg q f0 R ⊢ wpT d L (.op (.load b7 (Rect.unit (s := S1024) off S16.size inb).toLoadRect hl) k) Q := by
  unfold Iss at h ⊢
  iintro ⟨H7, HR⟩
  iapply (wp_load 𝒱₀ (thr d L) none Set.univ (m := b7) (hl := hl) (S := Finset.univ) (Finset.subset_univ _)) $$ H7
  iintro H7
  iapply (h _ (read7 hoff hr))
  isplitl [H7]; · iexact H7
  iexact HR

theorem wpT_assume {α : Type} {Q : α → sProp 𝕄} {A : sProp 𝕄} {P : Prop} {dec : Decidable P}
    {k : PLift P → Prog (TpuEff nD τ sig (Elt F) Λ₀ (thr d L).2) α} (hP : P) (h : A ⊢ wpT d L (k ⟨hP⟩) Q) :
    A ⊢ wpT d L (.op (.assume P dec) k) Q :=
  h.trans (wp_assume 𝒱₀ (thr d L) none Set.univ hP)

/-- What a window's slice writes into the buffer. -/
theorem win_write {k : ℕ} (hk : k < 32) {inb : ∀ a, (![k, 0, 0] : Fin 3 → ℕ) a + S1x8x256.size a ≤ S32x8x256.size a} {hst} {off : Fin 2 → ℕ}
    (hg : ∀ x, (fg x).toNat < 1000)
    (hoff : off = ![row0 L + k / 8 * 8, colN (fg (ix1 (Fin.ofNat 1024 (row0 L + k))))]) {inb' : ∀ a, off a + S8x256.size a ≤ S1024x101120.size a} {hst'} :
    ∀ y ∈ wset k, ((b9.slice (Rect.unit (s := S32x8x256) ![k, 0, 0] S1x8x256.size inb) hst).squeeze S8x256 squeezes_S1x8x256_S8x256).view.write (Elt F) f0
      (ReadAs.same.apply ((bpV.slice (Rect.unit (s := S1024x101120) off S8x256.size inb') hst').view.read (Elt F) fbp)) Finset.univ y
      = f9v L fbp fg y := by
  intro y hy
  subst hoff
  have hy0 : (y 0).val = k := (Finset.mem_filter.mp hy).2
  have hy1 : (y 1).val < 8 := (y 1).isLt
  have hy2 : (y 2).val < 256 := (y 2).isLt
  have ey : ((b9.slice (Rect.unit (s := S32x8x256) ![k, 0, 0] S1x8x256.size inb) hst).squeeze S8x256 squeezes_S1x8x256_S8x256).view.emb (ix2 (⟨(y 1).val, hy1⟩ : Fin 8) (⟨(y 2).val, hy2⟩ : Fin 256)) = y := by
    show (Rect.unit (s := S32x8x256) ![k, 0, 0] S1x8x256.size inb).emb (Shape.reshapeEquiv squeezes_S1x8x256_S8x256.numel_eq (ix2 (⟨(y 1).val, hy1⟩ : Fin 8) (⟨(y 2).val, hy2⟩ : Fin 256))) = y
    have e2 : Shape.reshapeEquiv squeezes_S1x8x256_S8x256.numel_eq (ix2 (⟨(y 1).val, hy1⟩ : Fin 8) (⟨(y 2).val, hy2⟩ : Fin 256)) = ix3 (0 : Fin 1) (⟨(y 1).val, hy1⟩ : Fin 8) (⟨(y 2).val, hy2⟩ : Fin 256) := by
      refine Shape.reshapeEquiv_eq_of_rowMajor _ ?_
      rw [Shape.rowMajor_val_two, Shape.rowMajor_val_three]
      show (0 * 8 + (y 1).val) * 256 + (y 2).val = (y 1).val * 256 + (y 2).val
      omega
    rw [e2]
    refine Rect.emb_eq_of_coords _ _ _ fun a => ?_
    match a with
    | ⟨0, _⟩ => show (y 0).val = k + 1 * 0; omega
    | ⟨1, _⟩ => show (y 1).val = 0 + 1 * (y 1).val; omega
    | ⟨2, _⟩ => show (y 2).val = 0 + 1 * (y 2).val; omega
  conv_lhs => rw [← ey]
  rw [View.write_emb_of_mem _ _ (Finset.mem_univ _), cast_eq]
  show (bpV.slice (Rect.unit (s := S1024x101120) ![row0 L + k / 8 * 8, colN (fg (ix1 (Fin.ofNat 1024 (row0 L + k))))] S8x256.size inb') hst').view.read (Elt F) fbp _ = _
  rw [View.read_apply, cast_eq]
  unfold f9v
  congr 1
  have hr := row0_le L
  have hl := colN_le (hg (ix1 (Fin.ofNat 1024 (row0 L + k))))
  refine Rect.emb_eq_of_coords _ _ _ fun a => ?_
  match a with
  | ⟨0, _⟩ => show (row0 L + (y 0).val / 8 * 8 + (y 1).val) % 1024 = row0 L + k / 8 * 8 + 1 * (y 1).val; rw [hy0]; omega
  | ⟨1, _⟩ =>
    show (colN (fg (ix1 (Fin.ofNat 1024 (row0 L + (y 0).val)))) + (y 2).val) % 101120 = colN (fg (ix1 (Fin.ofNat 1024 (row0 L + k)))) + 1 * (y 2).val
    rw [hy0]; omega

theorem win_sub {k : ℕ} {inb : ∀ a, (![k, 0, 0] : Fin 3 → ℕ) a + S1x8x256.size a ≤ S32x8x256.size a} {hst} :
    ((b9.slice (Rect.unit (s := S32x8x256) ![k, 0, 0] S1x8x256.size inb) hst).squeeze S8x256 squeezes_S1x8x256_S8x256).view.set ⊆ wset k := by
  intro y hy
  have hy' : y ∈ ((View.whole cc0_scratch2).slice (Rect.unit (s := S32x8x256) ![k, 0, 0] S1x8x256.size inb)).set := by
    have := hy
    rwa [show ((b9.slice (Rect.unit (s := S32x8x256) ![k, 0, 0] S1x8x256.size inb) hst).squeeze S8x256 squeezes_S1x8x256_S8x256).view.set
      = (((View.whole cc0_scratch2).slice (Rect.unit (s := S32x8x256) ![k, 0, 0] S1x8x256.size inb)).reshape S8x256 squeezes_S1x8x256_S8x256.numel_eq).set from rfl, View.set_reshape] at this
  rw [View.set_slice_whole] at hy'
  have h0 := (Rect.mem_set_unit.mp hy') 0
  simp [S1x8x256] at h0
  exact Finset.mem_filter.mpr ⟨Finset.mem_univ _, by omega⟩

theorem win_dlv {k : ℕ} (hk : k < 32) {inb : ∀ a, (![k, 0, 0] : Fin 3 → ℕ) a + S1x8x256.size a ≤ S32x8x256.size a} {hst} {off : Fin 2 → ℕ}
    (hg : ∀ x, (fg x).toNat < 1000)
    (hoff : off = ![row0 L + k / 8 * 8, colN (fg (ix1 (Fin.ofNat 1024 (row0 L + k))))]) {inb' : ∀ a, off a + S8x256.size a ≤ S1024x101120.size a} {hst'} {A : sProp 𝕄} :
    iprop(((b9).view.loc (thr d L) ↦[wset k]{fullShare} ((b9.slice (Rect.unit (s := S32x8x256) ![k, 0, 0] S1x8x256.size inb) hst).squeeze S8x256 squeezes_S1x8x256_S8x256).view.write (Elt F) f0
      (ReadAs.same.apply ((bpV.slice (Rect.unit (s := S1024x101120) off S8x256.size inb') hst').view.read (Elt F) fbp)) Finset.univ) ∗ A) ⊢ dlv d L fbp fg ⟨k, hk⟩ := by
  unfold dlv
  rw [pointsTo_congr (win_write hk hg hoff)]
  iintro ⟨H, -⟩
  iexact H

theorem iss_issue {n k : ℕ} {α : Type} {R : sProp 𝕄} {Q : α → sProp 𝕄} {inb : ∀ a, (![k, 0, 0] : Fin 3 → ℕ) a + S1x8x256.size a ≤ S32x8x256.size a} {hst} {off : Fin 2 → ℕ}
    {inb' : ∀ a, off a + S8x256.size a ≤ S1024x101120.size a} {hst'} {h1 h2 h3}
    {p : PUnit → Prog (TpuEff nD τ sig (Elt F) Λ₀ (thr d L).2) α}
    (hn : n = k) (hg : ∀ x, (fg x).toNat < 1000)
    (hoff : off = ![row0 L + k / 8 * 8, colN (fg (ix1 (Fin.ofNat 1024 (row0 L + k))))])
    (h : Iss d L (k + 1) fbp fg q f0 R ⊢ wpT d L (p ⟨⟩) Q) :
    Iss d L n fbp fg q f0 R ⊢ wpT d L (.op (.enqueueDma (bpV.slice (Rect.unit (s := S1024x101120) off S8x256.size inb') hst')
      (.here ((b9.slice (Rect.unit (s := S32x8x256) ![k, 0, 0] S1x8x256.size inb) hst).squeeze S8x256 squeezes_S1x8x256_S8x256)) (.dma cc0_scratch5.sem) h1 h2 h3) p) Q := by
  have hk : k < 32 := by have := inb 0; simp [S1x8x256, S32x8x256] at this; omega
  subst hn
  unfold Iss at h ⊢
  iintro ⟨H7, HB, Hd, Hs, HR⟩
  ihave Hd' := (BI.BIBase.Entails.of_eq (Transfers.bigSep_pending_step (fun k : Fin 32 => iprop((b9).view.loc (thr d L) ↦[wset k.val]{fullShare} f0)) n hk)) $$ Hd
  ihave Hs' := (BI.BIBase.Entails.of_eq (Transfers.bigSep_pending_step (fun k : Fin 32 => iprop((bpV).view.loc (thr d L) ↦{Transfers.shareTok q 32 k} fbp)) n hk)) $$ Hs
  icases Hd' with ⟨Hd1, Hd⟩
  icases Hs' with ⟨Hs1, Hs⟩
  ihave Hs2 := (pointsTo_split_subset (q := Transfers.shareTok q 32 ⟨n, hk⟩) (f := fbp) (S := Finset.univ)
    (Finset.subset_univ (bpV.slice (Rect.unit (s := S1024x101120) off S8x256.size inb') hst').view.set)).1 $$ Hs1
  icases Hs2 with ⟨Hs1, -⟩
  iapply (Transfers.wp_dmaBatch countersEmb 𝒱₀ (thr d L) none (src := bpV.slice (Rect.unit (s := S1024x101120) off S8x256.size inb') hst') (via := .same)
    (dst := (b9.slice (Rect.unit (s := S32x8x256) ![n, 0, 0] S1x8x256.size inb) hst).squeeze S8x256 squeezes_S1x8x256_S8x256) (sm := .dma cc0_scratch5.sem) (hsrc := h1) (hdst := h2) (hsem := h3) (k := p)
    (q := Transfers.shareTok q 32 ⟨n, hk⟩) (fs := fbp) (Sd := wset n) (fd := f0) (default : HIx 1) winN rfl win_sub hk (Nat.zero_le _) (D := dlv d L fbp fg)
    (win_dlv hk hg hoff)) $$ [Hs1 Hd1 HB]
  · isplitl [Hs1]; · iexact Hs1
    isplitl [Hd1]; · iexact Hd1
    iexact HB
  iintro HB
  iapply h
  isplitl [H7]; · iexact H7
  isplitl [HB]; · iexact HB
  isplitl [Hd]; · iexact Hd
  isplitl [Hs]; · iexact Hs
  iexact HR

/-! ## The waits -/

/-- The waits a thread has made are those it had made, and others that are nobody's to pay. -/
def Ow (thr : Thread nD τ) (O : CellTallies nD τ sig (HIx 1)) (W : Waits sig (HIx 1)) : sProp 𝕄 :=
  iprop(∃ W', ⌜∀ p ∈ W', p ∈ W ∨ p.2 = none⌝ ∗ owes thr O W')

/-- The state while the windows are waited for: `n` have been. -/
def Wts (n : ℕ) (O : CellTallies nD τ sig (HIx 1)) (W : Waits sig (HIx 1)) (fbp : S1024x101120.Idx → Elt F .f32) (fg : S1024.Idx → BitVec 32) (R : sProp 𝕄) : sProp 𝕄 :=
  iprop(Transfers.MayWaits (thr d L) (default : HIx 1) O ∗ Ow (thr d L) O W
    ∗ Transfers.Batch countersEmb (thr d L) (.dma cc0_scratch5.sem) (default : HIx 1) winN (dlv d L fbp fg) 32 (n * winN) ∗ R)

variable {O : CellTallies nD τ sig (HIx 1)} {W : Waits sig (HIx 1)}

theorem insert_ok {W' : Waits sig (HIx 1)} {s : SemLoc sig} (h : ∀ p ∈ W', p ∈ W ∨ p.2 = none) : ∀ p ∈ insert (s, (default : HIx 1)) W', p ∈ W ∨ p.2 = none := by
  intro p hp
  rcases Finset.mem_insert.mp hp with hp | hp
  · exact .inr (hp ▸ rfl)
  · exact h p hp

theorem wts_wait {n k : ℕ} {α : Type} {R : sProp 𝕄} {Q : α → sProp 𝕄} {inb : ∀ a, (![k, 0, 0] : Fin 3 → ℕ) a + S1x8x256.size a ≤ S32x8x256.size a} {hst}
    {src : Memref sig .scVector .hbm S8x256 .f32} {h1 h2}
    {p : PUnit → Prog (TpuEff nD τ sig (Elt F) Λ₀ (thr d L).2) α}
    (hn : n = k) (hk : k < 31)
    (h : Wts (d := d) (L := L) (k + 1) O W fbp fg R ⊢ wpT d L (p ⟨⟩) Q) :
    Wts (d := d) (L := L) n O W fbp fg R ⊢ wpT d L (.op (.waitDma2 cc0_scratch5.sem src
      ((b9.slice (Rect.unit (s := S32x8x256) ![k, 0, 0] S1x8x256.size inb) hst).squeeze S8x256 squeezes_S1x8x256_S8x256) h1 h2) p) Q := by
  subst hn
  unfold Wts Ow at h ⊢
  iintro ⟨#Hmw, ⟨%W', %hW', HO⟩, HB, HR⟩
  iapply (Transfers.wp_waitBatchO countersEmb 𝒱₀ (thr d L) none (srcw := src) (dstw := (b9.slice (Rect.unit (s := S32x8x256) ![n, 0, 0] S1x8x256.size inb) hst).squeeze S8x256 squeezes_S1x8x256_S8x256) (hsrc := h1) (hdst := h2) (default : HIx 1) (N := winN) rfl (u := n * winN) (show n * winN + winN < winN * 32 by
    have : 0 < winN := by decide
    nlinarith)) $$ [HB HO]
  · isplitl [HB]; · iexact HB
    isplitl [HO]; · iexact HO
    iapply (Transfers.MayWaits.elim (SemLoc.dma cc0_scratch5.sem)) $$ Hmw
  iintro ⟨HB, HO⟩
  iapply h
  isplitr; · iexact Hmw
  isplitl [HO]
  · iexists _; isplitr
    swap; · iexact HO
    ipureintro; exact insert_ok hW'
  isplitl [HB]
  · rw [Nat.succ_mul]; iexact HB
  iexact HR

theorem bufs_join :
    (bigSep Finset.univ (dlv d L fbp fg) : sProp 𝕄) = iprop((b9).view.loc (thr d L) ↦{fullShare} f9v L fbp fg) := by
  unfold dlv
  rw [show (Finset.univ : Finset (Idx ((b9).view.loc (thr d L)))) = (Finset.univ : Finset (Fin 32)).biUnion (fun k => wset k.val) from ?_]
  · refine (pointsTo_biUnion (ℓ := (b9).view.loc (thr d L)) Finset.univ (fun k : Fin 32 => wset k.val) ?_).symm
    intro a _ b _ hab
    refine Finset.disjoint_left.mpr fun y hy hy' => hab (Fin.ext ?_)
    rw [← (Finset.mem_filter.mp hy).2, (Finset.mem_filter.mp hy').2]
  · symm
    refine Finset.eq_univ_iff_forall.mpr fun y => ?_
    have hy0 : (y 0).val < 32 := (y 0).isLt
    exact Finset.mem_biUnion.mpr ⟨⟨(y 0).val, hy0⟩, Finset.mem_univ _, Finset.mem_filter.mpr ⟨Finset.mem_univ _, rfl⟩⟩

theorem wts_last {n k : ℕ} {α : Type} {R : sProp 𝕄} {Q : α → sProp 𝕄} {inb : ∀ a, (![k, 0, 0] : Fin 3 → ℕ) a + S1x8x256.size a ≤ S32x8x256.size a} {hst}
    {src : Memref sig .scVector .hbm S8x256 .f32} {h1 h2}
    {p : PUnit → Prog (TpuEff nD τ sig (Elt F) Λ₀ (thr d L).2) α}
    (hn : n = k) (hk : k = 31)
    (h : iprop(Transfers.MayWaits (thr d L) (default : HIx 1) O ∗ Ow (thr d L) O W ∗ semVal (thr d L, .dma cc0_scratch5.sem) 0
      ∗ ((b9).view.loc (thr d L) ↦{fullShare} f9v L fbp fg) ∗ R) ⊢ wpT d L (p ⟨⟩) Q) :
    Wts (d := d) (L := L) n O W fbp fg R ⊢ wpT d L (.op (.waitDma2 cc0_scratch5.sem src
      ((b9.slice (Rect.unit (s := S32x8x256) ![k, 0, 0] S1x8x256.size inb) hst).squeeze S8x256 squeezes_S1x8x256_S8x256) h1 h2) p) Q := by
  subst hn
  rw [← bufs_join] at h
  unfold Wts Ow at *
  iintro ⟨#Hmw, ⟨%W', %hW', HO⟩, HB, HR⟩
  iapply (Transfers.wp_waitBatchLastO countersEmb 𝒱₀ (thr d L) none (srcw := src) (dstw := (b9.slice (Rect.unit (s := S32x8x256) ![n, 0, 0] S1x8x256.size inb) hst).squeeze S8x256 squeezes_S1x8x256_S8x256) (hsrc := h1) (hdst := h2) (default : HIx 1) (N := winN) rfl (show 0 < winN by decide) (u := n * winN) (show n * winN + winN = winN * 32 by
    subst hk; omega)) $$ [HB HO]
  · isplitl [HB]; · iexact HB
    isplitl [HO]; · iexact HO
    iapply (Transfers.MayWaits.elim (SemLoc.dma cc0_scratch5.sem)) $$ Hmw
  iintro ⟨HD, Hv, HO⟩
  iapply h
  isplitr; · iexact Hmw
  isplitl [HO]
  · iexists _; isplitr
    swap; · iexact HO
    ipureintro; exact insert_ok hW'
  isplitl [Hv]; · iexact Hv
  isplitl [HD]; · iexact HD
  iexact HR

end Issue

end Cert.Proof.Id
-- ==== Proof.Id.Steps.lean ====
/-
  The other steps of a task: a copy and its wait, the 32 groups it keeps, and the gather of their weight rows.
-/
module

public import proofs.«01_k».proof.Proof.Id.Issue

@[expose] public section

noncomputable section

namespace Cert.Proof.Id

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

section Tile

variable (d : Dev nD) (L : grid0.Coords)

/-- What a thread keeps through its waits. -/
abbrev Mo (O : CellTallies nD τ sig (HIx 1)) (W : Waits sig (HIx 1)) : sProp 𝕄 :=
  iprop(Transfers.MayWaits (thr d L) (default : HIx 1) O ∗ Ow (thr d L) O W)

variable {d L}
variable {O : CellTallies nD τ sig (HIx 1)} {W : Waits sig (HIx 1)}

/-! ## One copy and its wait -/

theorem loc_dma {α : Type} {Q : α → sProp 𝕄} {R : sProp 𝕄} {sp sp' : Space} {s : Shape} {e : EltTy}
    {src : Memref sig .scVector sp s e} {dst : Memref sig .scVector sp' s e} {sem : DmaSem sig} {h1 h2 h3}
    {p : PUnit → Prog (TpuEff nD τ sig (Elt F) Λ₀ (thr d L).2) α} {q : PosShare TreeShare} {fs : Buf (Elt F) (src.view.loc (thr d L))}
    {Sd : Finset (Idx (dst.view.loc (thr d L)))} {fd : Buf (Elt F) (dst.view.loc (thr d L))} (N : ℕ)
    (hN : dst.view.amount (.dma sem) = N) (hN0 : 0 < N) (hSd : dst.view.set ⊆ Sd)
    (h : iprop(Transfers.Flight countersEmb (thr d L) (.dma sem) (default : HIx 1) N
        iprop((dst.view.loc (thr d L) ↦[Sd]{fullShare} (dst.view.write (Elt F) fd (ReadAs.same.apply (src.view.read (Elt F) fs)) Finset.univ))
          ∗ (src.view.loc (thr d L) ↦[src.view.set]{q} fs)) ∗ R) ⊢ wpT d L (p ⟨⟩) Q) :
    iprop(((src.view.loc (thr d L) ↦[src.view.set]{q} fs) ∗ (dst.view.loc (thr d L) ↦[Sd]{fullShare} fd) ∗ semVal (thr d L, .dma sem) 0) ∗ R)
      ⊢ wpT d L (.op (.enqueueDma src (.here dst) (.dma sem) h1 h2 h3) p) Q := by
  iintro ⟨H, HR⟩
  iapply (Transfers.wp_dmaLocal countersEmb 𝒱₀ (thr d L) none (src := src) (via := .same) (dst := dst) (sm := .dma sem) (hsrc := h1) (hdst := h2) (hsem := h3) (k := p)
    (q := q) (fs := fs) (Sd := Sd) (fd := fd) (default : HIx 1) N hN hN0 hSd) $$ H
  iintro HF
  iapply h
  isplitl [HF]; · iexact HF
  iexact HR

theorem loc_wait {α : Type} {Q : α → sProp 𝕄} {Dv R : sProp 𝕄} {sp sp' : Space} {s s' : Shape} {e e' : EltTy} {κ' : Kind}
    {srcw : Memref sig .scVector sp' s' e'} {dstw : Memref sig κ' sp s e} {sem : DmaSem sig} {h1 h2} {N : ℕ}
    {p : PUnit → Prog (TpuEff nD τ sig (Elt F) Λ₀ (thr d L).2) α} (hN : dstw.view.dmaCredit = N)
    (h : iprop(Mo d L O W ∗ Dv ∗ semVal (thr d L, .dma sem) 0 ∗ R) ⊢ wpT d L (p ⟨⟩) Q) :
    iprop(Mo d L O W ∗ Transfers.Flight countersEmb (thr d L) (.dma sem) (default : HIx 1) N Dv ∗ R)
      ⊢ wpT d L (.op (.waitDma2 sem srcw dstw h1 h2) p) Q := by
  unfold Mo Ow at *
  iintro ⟨⟨#Hmw, ⟨%W', %hW', HO⟩⟩, HF, HR⟩
  iapply (Transfers.wp_waitLocalO countersEmb 𝒱₀ (thr d L) none (srcw := srcw) (dstw := dstw) (hsrc := h1) (hdst := h2) (k := p) (default : HIx 1) hN) $$ [HF HO]
  · isplitl [HF]; · iexact HF
    isplitl [HO]; · iexact HO
    iapply (Transfers.MayWaits.elim (SemLoc.dma sem)) $$ Hmw
  iintro ⟨HD, Hv, HO⟩
  iapply h
  isplitl [HO]
  · isplitr; · iexact Hmw
    iexists _; isplitr
    swap; · iexact HO
    ipureintro; exact insert_ok hW'
  isplitl [HD]; · iexact HD
  isplitl [Hv]; · iexact Hv
  iexact HR

/-! ## The 32 groups and the gather of the weight rows -/

/-- The task's groups while they are stored: the first `n` are. -/
def f8n (L : grid0.Coords) (n : ℕ) (fg : S1024.Idx → BitVec 32) (f8 : S32.Idx → BitVec 32) : S32.Idx → BitVec 32 :=
  fun y => if (y 0).val < n then fg (ix1 (Fin.ofNat 1024 (row0 L + (y 0).val))) else f8 y

variable {fg : S1024.Idx → BitVec 32} {f8 : S32.Idx → BitVec 32}

theorem g_load7 {α : Type} {Q : α → sProp 𝕄} {R : sProp 𝕄} {off : Fin 1 → ℕ} {r : ℕ} (hoff : off = ![r]) (hr : r + 16 ≤ 1024)
    {inb : ∀ a, off a + S16.size a ≤ S1024.size a} {hl : (b7).view.LoadsAt (Rect.unit (s := S1024) off S16.size inb).toLoadRect}
    {k : (S16.Idx → BitVec 32) → Prog (TpuEff nD τ sig (Elt F) Λ₀ (thr d L).2) α}
    (h : ∀ v : S16.Idx → BitVec 32, (∀ x : Fin 16, v (ix1 x) = fg (ix1 (Fin.ofNat 1024 (r + x.val)))) →
      iprop(((b7).view.loc (thr d L) ↦{fullShare} fg) ∗ R) ⊢ wpT d L (k v) Q) :
    iprop(((b7).view.loc (thr d L) ↦{fullShare} fg) ∗ R) ⊢ wpT d L (.op (.load b7 (Rect.unit (s := S1024) off S16.size inb).toLoadRect hl) k) Q := by
  iintro ⟨H7, HR⟩
  iapply (wp_load 𝒱₀ (thr d L) none Set.univ (m := b7) (hl := hl) (S := Finset.univ) (Finset.subset_univ _)) $$ H7
  iintro H7
  iapply (h _ (read7 hoff hr))
  isplitl [H7]; · iexact H7
  iexact HR

theorem g_load8 {α : Type} {Q : α → sProp 𝕄} {A R : sProp 𝕄} {n : ℕ}
    {r : LoadRect S32} {hl : (b8).view.LoadsAt r} {k : (r.shape.Idx → BitVec 32) → Prog (TpuEff nD τ sig (Elt F) Λ₀ (thr d L).2) α}
    (h : ∀ v, iprop(A ∗ ((b8).view.loc (thr d L) ↦{fullShare} f8n L n fg f8) ∗ R) ⊢ wpT d L (k v) Q) :
    iprop(A ∗ ((b8).view.loc (thr d L) ↦{fullShare} f8n L n fg f8) ∗ R) ⊢ wpT d L (.op (.load b8 r hl) k) Q := by
  iintro ⟨HA, H8, HR⟩
  iapply (wp_load 𝒱₀ (thr d L) none Set.univ (m := b8) (r := r) (hl := hl) (S := Finset.univ) (Finset.subset_univ _)) $$ H8
  iintro H8
  iapply (h _)
  isplitl [HA]; · iexact HA
  isplitl [H8]; · iexact H8
  iexact HR

theorem g_store8 {α : Type} {Q : α → sProp 𝕄} {A R : sProp 𝕄} {n o r : ℕ}
    {inb : ∀ a, (![o] : Fin 1 → ℕ) a + S16.size a ≤ S32.size a} {v : S16.Idx → BitVec 32} {g1 g2 : S16.ShapeCasts S16} {hx hm}
    {k : PUnit → Prog (TpuEff nD τ sig (Elt F) Λ₀ (thr d L).2) α} (hn : n = o) (hr : r = row0 L + o)
    (hv : ∀ x : Fin 16, v (ix1 x) = fg (ix1 (Fin.ofNat 1024 (r + x.val))))
    (h : iprop(A ∗ ((b8).view.loc (thr d L) ↦{fullShare} f8n L (o + 16) fg f8) ∗ R) ⊢ wpT d L (k ⟨⟩) Q) :
    iprop(A ∗ ((b8).view.loc (thr d L) ↦{fullShare} f8n L n fg f8) ∗ R)
      ⊢ wpT d L (.op (.store b8 (Rect.unit (s := S32) ![o] S16.size inb) (shapeCast S16 (shapeCast S16 v g1) g2) Finset.univ hx hm) k) Q := by
  subst hn hr
  have ho : n + 16 ≤ 32 := by have := inb 0; simpa [S16, S32] using this
  have key : ((b8).access (Rect.unit (s := S32) ![n] S16.size inb)).write (Elt F) (f8n L n fg f8) (shapeCast S16 (shapeCast S16 v g1) g2) Finset.univ
      = f8n L (n + 16) fg f8 := by
    funext y
    have hy0 : (y 0).val < 32 := (y 0).isLt
    by_cases hy : n ≤ (y 0).val ∧ (y 0).val < n + 16
    · have hx1 : (y 0).val - n < 16 := by omega
      have ey : ((b8).access (Rect.unit (s := S32) ![n] S16.size inb)).emb (ix1 (⟨(y 0).val - n, hx1⟩ : Fin 16)) = y := by
        refine Rect.emb_eq_of_coords _ _ _ fun a => ?_
        match a with
        | ⟨0, _⟩ => show (y 0).val = n + 1 * ((y 0).val - n); omega
      conv_lhs => rw [← ey]
      rw [View.write_emb_of_mem _ _ (Finset.mem_univ _), cast_eq]
      unfold shapeCast
      rw [show ∀ x : S16.Idx, Shape.reshapeEquiv g2 x = x from fun x => Shape.reshapeEquiv_eq_of_rowMajor _ rfl,
        show ∀ x : S16.Idx, Shape.reshapeEquiv g1 x = x from fun x => Shape.reshapeEquiv_eq_of_rowMajor _ rfl, hv]
      unfold f8n
      rw [if_pos hy.2]
      congr 3
      show row0 L + n + ((y 0).val - n) = row0 L + (y 0).val
      omega
    · rw [View.write_of_not_mem (v := (b8).access (Rect.unit (s := S32) ![n] S16.size inb)) (Val := Elt F) _ _ Finset.univ (i := y) (by
          show y ∉ ((View.whole cc0_scratch1).slice (Rect.unit (s := S32) ![n] S16.size inb)).set
          rw [View.set_slice_whole]
          intro hmem
          have a0 := (Rect.mem_set_unit.mp hmem) 0
          simp [S16] at a0
          exact hy (by omega))]
      unfold f8n
      by_cases h' : (y 0).val < n
      · rw [if_pos h', if_pos (by omega)]
      · rw [if_neg h', if_neg (by omega)]
  iintro ⟨HA, H8, HR⟩
  iapply (wp_store 𝒱₀ (thr d L) none Set.univ (m := b8) (hx := hx) (hm := hm) (S := Finset.univ) (Finset.subset_univ _)) $$ H8
  rw [key]
  iintro H8
  iapply h
  isplitl [HA]; · iexact HA
  isplitl [H8]; · iexact H8
  iexact HR

/-- All of the padded group weights, as the gather names them. -/
abbrev gwAll : Memref sig .scVector .hbm S1000x128 .f32 :=
  gwV.slice (Rect.unit (s := S1000x128) ![0, 0] S1000x128.size inb_S1000x128_S1000x128_0_0) (fun _ => rfl)

theorem f8_lt (hg : ∀ x, (fg x).toNat < 1000) :
    ∀ x, ((b8).view.read (Elt F) (f8n L 32 fg f8) x).toNat < S1000x128.size gathers_S1000x128_S32x128.axis := by
  intro x
  rw [View.read_apply, cast_eq]
  show (f8n L 32 fg f8 x).toNat < 1000
  unfold f8n
  rw [if_pos (show (x 0).val < 32 from (x 0).isLt)]
  exact hg _

variable {f11 : S32x128.Idx → Elt F .f32} {fgw : S1000x128.Idx → Elt F .f32} {q : PosShare TreeShare}

/-- What the gather delivers. -/
def gD (d : Dev nD) (L : grid0.Coords) (hg : ∀ x, (fg x).toNat < 1000) (f8 : S32.Idx → BitVec 32) (f11 : S32x128.Idx → Elt F .f32) (fgw : S1000x128.Idx → Elt F .f32)
    (q : PosShare TreeShare) : sProp 𝕄 :=
  iprop(((b11).view.loc (thr d L) ↦[(b11).view.set]{fullShare} ((b11).view.write (Elt F) f11
      (SparseCore.gatherPayload gathers_S1000x128_S32x128 ((gwAll).view.read (Elt F) fgw)
        (SparseCore.rows ((b8).view.read (Elt F) (f8n L 32 fg f8)) rfl (f8_lt hg))) Finset.univ))
    ∗ ((gwAll).view.loc (thr d L) ↦[(gwAll).view.set]{q} fgw) ∗ ((b8).view.loc (thr d L) ↦[(b8).view.set]{fullShare} f8n L 32 fg f8))

abbrev wgN : ℕ := (b11).view.dmaCredit

theorem g_gather {α : Type} {Q : α → sProp 𝕄} {R : sProp 𝕄} {n : ℕ} (hn : n = 32) (hg : ∀ x, (fg x).toNat < 1000)
    {h0 h1 h2 h3 h4 h5}
    {p : PUnit → Prog (TpuEff nD τ sig (Elt F) Λ₀ (thr d L).2) α}
    (h : iprop(Transfers.Flight countersEmb (thr d L) (.dma cc0_scratch6.sem) (default : HIx 1) wgN (gD d L hg f8 f11 fgw q) ∗ R) ⊢ wpT d L (p ⟨⟩) Q) :
    iprop(((gwAll).view.loc (thr d L) ↦{q} fgw) ∗ ((b8).view.loc (thr d L) ↦{fullShare} f8n L n fg f8) ∗ ((b11).view.loc (thr d L) ↦{fullShare} f11)
        ∗ semVal (thr d L, .dma cc0_scratch6.sem) 0 ∗ R)
      ⊢ wpT d L (.op (.enqueueIndirectDma h0 b8 h1 cc0_scratch6.sem fun j w => (SparseCore.rowOf (S1000x128.size gathers_S1000x128_S32x128.axis) w).map
          (SparseCore.gatherRow (thr d L) gwAll b11 gathers_S1000x128_S32x128 cc0_scratch6.sem h2 h3 h4 h5 j)) p) Q := by
  subst hn
  rw [← SparseCore.enqueueIndirectGather_bind]
  iintro ⟨Hs, H8, H11, Hv, HR⟩
  ihave Hs2 := (pointsTo_split_subset (q := q) (f := fgw) (S := Finset.univ) (Finset.subset_univ (gwAll).view.set)).1 $$ Hs
  icases Hs2 with ⟨Hs, -⟩
  have h8 : (b8).view.set = Finset.univ := View.set_whole _
  have h11 : (b11).view.set = Finset.univ := View.set_whole _
  ihave H8' := (BI.BIBase.Entails.of_eq (show ((b8).view.loc (thr d L) ↦{fullShare} f8n L 32 fg f8 : sProp 𝕄)
      = (b8).view.loc (thr d L) ↦[(b8).view.set]{fullShare} f8n L 32 fg f8 by rw [h8])) $$ H8
  ihave H11' := (BI.BIBase.Entails.of_eq (show ((b11).view.loc (thr d L) ↦{fullShare} f11 : sProp 𝕄)
      = (b11).view.loc (thr d L) ↦[(b11).view.set]{fullShare} f11 by rw [h11])) $$ H11
  have hN : ∀ h : S1000x128.Gathers 0 S32x128, ∑ j, ((b11).slice (S32x128.rowRect h.axis' j) (S32x128.stride_rowRect h.axis' j)).view.dmaCredit
      = wgN := by decide
  iapply (SparseCore.wp_indirectGatherLocal countersEmb 𝒱₀ (thr d L) none (hg := gathers_S1000x128_S32x128) (default : HIx 1)
      wgN (hN _) (by decide) (f8_lt hg)) $$ [Hs H8' H11' Hv]
  · isplitl [Hs]; · iexact Hs
    isplitl [H11']; · iexact H11'
    isplitl [H8']; · iexact H8'
    iexact Hv
  iintro HF
  iapply h
  isplitl [HF]
  · unfold gD; iexact HF
  iexact HR

/-- The task's rows of the gathered weights. -/
def f11v (L : grid0.Coords) (fgw : S1000x128.Idx → Elt F .f32) (fg : S1024.Idx → BitVec 32) : S32x128.Idx → Elt F .f32 :=
  fun y => wgVal fgw fg (ix2 (Fin.ofNat 1024 (row0 L + (y 0).val)) (y 1))

theorem gathered (hg : ∀ x, (fg x).toNat < 1000) :
    gD d L hg f8 f11 fgw q ⊢ (iprop(((b11).view.loc (thr d L) ↦{fullShare} f11v L fgw fg) ∗ ∃ f, (b8).view.loc (thr d L) ↦{fullShare} f) : sProp 𝕄) := by
  unfold gD
  have h11 : (b11).view.set = Finset.univ := View.set_whole _
  have h8 : (b8).view.set = Finset.univ := View.set_whole _
  rw [h11, h8]
  rw [View.write_whole_univ]
  have key : (SparseCore.gatherPayload gathers_S1000x128_S32x128 ((gwAll).view.read (Elt F) fgw)
        (SparseCore.rows ((b8).view.read (Elt F) (f8n L 32 fg f8)) rfl (f8_lt hg))) = f11v L fgw fg := by
    funext y
    have hy0 : (y 0).val < 32 := (y 0).isLt
    unfold SparseCore.gatherPayload
    rw [View.read_apply, cast_eq]
    unfold f11v wgVal
    congr 1
    refine Rect.emb_eq_of_coords _ _ _ fun a => ?_
    match a with
    | ⟨0, _⟩ =>
      show (fg (ix1 (Fin.ofNat 1024 (row0 L + (y 0).val)))).toNat % 1000 = 0 + 1 * (gathers_S1000x128_S32x128.idx _ y 0).val
      rw [Nat.mod_eq_of_lt (hg _), show (gathers_S1000x128_S32x128.idx (SparseCore.rows ((b8).view.read (Elt F) (f8n L 32 fg f8)) rfl (f8_lt hg)) y 0).val
        = (SparseCore.rows ((b8).view.read (Elt F) (f8n L 32 fg f8)) rfl (f8_lt hg) (y 0)).val from rfl]
      unfold SparseCore.rows
      show _ = 0 + 1 * ((b8).view.read (Elt F) (f8n L 32 fg f8) _).toNat
      rw [View.read_apply, cast_eq]
      have e : S32.rowMajor.symm ((y 0).cast (rfl : (32:ℕ) = S32.numel)) = ix1 (y 0) := by
        refine (Equiv.symm_apply_eq _).mpr (Fin.ext ?_)
        exact (Shape.rowMajor_val_one (ix1 (y 0))).symm
      show _ = 0 + 1 * (f8n L 32 fg f8 (S32.rowMajor.symm ((y 0).cast (rfl : (32:ℕ) = S32.numel)))).toNat
      rw [e]
      unfold f8n
      rw [if_pos (show ((ix1 (y 0) : S32.Idx) 0).val < 32 from hy0)]
      show _ = 0 + 1 * (fg (ix1 (Fin.ofNat 1024 (row0 L + (y 0).val)))).toNat
      omega
    | ⟨1, _⟩ => show (y 1).val = 0 + 1 * (gathers_S1000x128_S32x128.idx _ y 1).val
                rw [show (gathers_S1000x128_S32x128.idx (SparseCore.rows ((b8).view.read (Elt F) (f8n L 32 fg f8)) rfl (f8_lt hg)) y 1).val = (y 1).val from rfl]; omega
  rw [key]
  iintro ⟨H, -, H8⟩
  isplitl [H]; · iexact H
  iexists _; iexact H8

end Tile

end Cert.Proof.Id
-- ==== Proof.Id.Head.lean ====
/-
  The first stretch of a task's program, up to the first cut of its printed text.
-/
module

public import proofs.«01_k».proof.Proof.Id.Steps

@[expose] public section

noncomputable section

namespace Cert.Proof.Id

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

section Head

variable {d : Dev nD} {L : grid0.Coords}
variable {O : CellTallies nD τ sig (HIx 1)} {W : Waits sig (HIx 1)}
variable {fbp : S1024x101120.Idx → Elt F .f32} {fg : S1024.Idx → BitVec 32} {fgw : S1000x128.Idx → Elt F .f32}
variable {f7 : S1024.Idx → BitVec 32} {f8 : S32.Idx → BitVec 32} {f9 : S32x8x256.Idx → Elt F .f32} {f10 : S32x256.Idx → Elt F .f32} {f11 : S32x128.Idx → Elt F .f32}
variable {q1 q2 q3 : PosShare TreeShare}

/-- What the first stretch is done with: the groups' two buffers and three semaphores. -/
def Done (d : Dev nD) (L : grid0.Coords) : sProp 𝕄 :=
  iprop((∃ f, (b7).view.loc (thr d L) ↦{fullShare} f) ∗ (∃ f, (b8).view.loc (thr d L) ↦{fullShare} f)
    ∗ semVal (thr d L, .dma cc0_scoped0.sem) 0 ∗ semVal (thr d L, .dma cc0_scratch5.sem) 0 ∗ semVal (thr d L, .dma cc0_scratch6.sem) 0)

/-- What the first stretch of a task starts from, but for the groups, their copy and its semaphore. -/
def Start (d : Dev nD) (L : grid0.Coords) (fbp : S1024x101120.Idx → Elt F .f32) (fgw : S1000x128.Idx → Elt F .f32) (f8 : S32.Idx → BitVec 32) (f9 : S32x8x256.Idx → Elt F .f32)
    (f10 : S32x256.Idx → Elt F .f32) (f11 : S32x128.Idx → Elt F .f32) (q1 q3 : PosShare TreeShare) : sProp 𝕄 :=
  iprop(((bpV).view.loc (thr d L) ↦{q1} fbp) ∗ ((gwAll).view.loc (thr d L) ↦{q3} fgw) ∗ ((b8).view.loc (thr d L) ↦{fullShare} f8)
    ∗ ((b9).view.loc (thr d L) ↦{fullShare} f9) ∗ ((b10).view.loc (thr d L) ↦{fullShare} f10) ∗ ((b11).view.loc (thr d L) ↦{fullShare} f11)
    ∗ semVal (thr d L, .dma cc0_scratch5.sem) 0 ∗ semVal (thr d L, .dma cc0_scratch6.sem) 0)

theorem win_split (f0 : S32x8x256.Idx → Elt F .f32) :
    ((b9).view.loc (thr d L) ↦{fullShare} f0 : sProp 𝕄) = bigSep Finset.univ (fun k : Fin 32 => iprop((b9).view.loc (thr d L) ↦[wset k.val]{fullShare} f0)) := by
  rw [show (Finset.univ : Finset (Idx ((b9).view.loc (thr d L)))) = (Finset.univ : Finset (Fin 32)).biUnion (fun k => wset k.val) from ?_]
  · refine pointsTo_biUnion (ℓ := (b9).view.loc (thr d L)) Finset.univ (fun k : Fin 32 => wset k.val) ?_
    intro a _ b _ hab
    refine Finset.disjoint_left.mpr fun y hy hy' => hab (Fin.ext ?_)
    rw [← (Finset.mem_filter.mp hy).2, (Finset.mem_filter.mp hy').2]
  · symm
    refine Finset.eq_univ_iff_forall.mpr fun y => ?_
    have hy0 : (y 0).val < 32 := (y 0).isLt
    exact Finset.mem_biUnion.mpr ⟨⟨(y 0).val, hy0⟩, Finset.mem_univ _, Finset.mem_filter.mpr ⟨Finset.mem_univ _, rfl⟩⟩

/-- The windows are ready to be issued. -/
theorem iss_start {α : Type} {Q : α → sProp 𝕄} {R : sProp 𝕄} {p : Prog (TpuEff nD τ sig (Elt F) Λ₀ (thr d L).2) α}
    (h : Iss d L 0 fbp fg q1 f9 R ⊢ wpT d L p Q) :
    iprop(((b7).view.loc (thr d L) ↦{fullShare} fg) ∗ semVal (thr d L, .dma cc0_scratch5.sem) 0 ∗ ((b9).view.loc (thr d L) ↦{fullShare} f9)
      ∗ ((bpV).view.loc (thr d L) ↦{q1} fbp) ∗ R) ⊢ wpT d L p Q := by
  iintro ⟨H7, Hv, H9, Hbp, HR⟩
  imod (Transfers.batch_alloc' countersEmb (thr d L) (sm := .dma cc0_scratch5.sem) (default : HIx 1) winN (dlv d L fbp fg) (E := Set.univ)) $$ Hv with HB
  ihave H9' := (BI.BIBase.Entails.of_eq (win_split f9)) $$ H9
  ihave Hbp' := (Transfers.pointsTo_toks_split q1 32) $$ Hbp
  icases Hbp' with ⟨-, Hbp⟩
  iapply h
  unfold Iss
  rw [Transfers.pending_zero]
  isplitl [H7]; · iexact H7
  isplitl [HB]; · iexact HB
  isplitl [H9']; · iexact H9'
  isplitl [Hbp]; · iexact Hbp
  iexact HR

theorem iss_done {α : Type} {Q : α → sProp 𝕄} {R : sProp 𝕄} {n : ℕ} {p : Prog (TpuEff nD τ sig (Elt F) Λ₀ (thr d L).2) α} (hn : n = 32)
    (h : Wts (d := d) (L := L) 0 O W fbp fg iprop(((b7).view.loc (thr d L) ↦{fullShare} fg) ∗ R) ⊢ wpT d L p Q) :
    Iss d L n fbp fg q1 f9 iprop(Mo d L O W ∗ R) ⊢ wpT d L p Q := by
  subst hn
  refine BI.BIBase.Entails.trans ?_ h
  unfold Iss Wts
  iintro ⟨H7, HB, -, -, ⟨Hm, HO⟩, HR⟩
  isplitl [Hm]; · iexact Hm
  isplitl [HO]; · iexact HO
  isplitl [HB]
  · rw [Nat.zero_mul]; iexact HB
  isplitl [H7]; · iexact H7
  iexact HR

set_option maxHeartbeats 0 in
set_option maxRecDepth 100000 in
/-- The first stretch of the program: the groups, the windows and the weight rows are fetched, and the first 183 copies made. -/
theorem head (hg : ∀ x, (fg x).toNat < 1000) {R : sProp 𝕄} :
    iprop((((gV).view.loc (thr d L) ↦[(gV).view.set]{q2} fg) ∗ ((b7).view.loc (thr d L) ↦{fullShare} f7) ∗ semVal (thr d L, .dma cc0_scoped0.sem) 0)
        ∗ Mo d L O W ∗ Start d L fbp fgw f8 f9 f10 f11 q1 q3 ∗ R)
      ⊢ wpT d L (k0_part137 L bpV (Memref.isWhole_whole _) gV (Memref.isWhole_whole _) gwV (Memref.isWhole_whole _) winV (Memref.isWhole_whole _)
        wgV (Memref.isWhole_whole _) b7 (Memref.isWhole_whole _) b8 (Memref.isWhole_whole _) b9 (Memref.isWhole_whole _) b10 (Memref.isWhole_whole _)
        b11 (Memref.isWhole_whole _) cc0_scratch5 cc0_scratch6 cc0_scoped0 cc0_scoped1 cc0_scoped2)
      fun v => iprop(⌜v = held (f9v L fbp fg) 11 3 112 inb_S32x8x256_S1x1x16_11_3_112⌝
        ∗ Cp d L 183 (f9v L fbp fg) f10 iprop(Mo d L O W ∗ ((b11).view.loc (thr d L) ↦{fullShare} f11v L fgw fg) ∗ Done (F := F) d L ∗ R)) := by
  have hrow := row0_le L
  refine loc_dma (b7).view.dmaCredit rfl (by decide) (Finset.subset_univ _) ?_
  refine BI.BIBase.Entails.trans (Q := iprop(Mo d L O W ∗ Transfers.Flight countersEmb (thr d L) (.dma cc0_scoped0.sem) (default : HIx 1) (b7).view.dmaCredit
        iprop(((b7).view.loc (thr d L) ↦{fullShare} ((b7).view.write (Elt F) f7 (ReadAs.same.apply ((gV).view.read (Elt F) fg)) Finset.univ))
          ∗ ((gV).view.loc (thr d L) ↦[(gV).view.set]{q2} fg)) ∗ Start d L fbp fgw f8 f9 f10 f11 q1 q3 ∗ R)) ?_ ?_
  · iintro ⟨HF, HM, HR⟩
    isplitl [HM]; · iexact HM
    isplitl [HF]; · iexact HF
    iexact HR
  refine loc_wait rfl ?_
  have e7 : (b7).view.write (Elt F) f7 (ReadAs.same.apply ((gV).view.read (Elt F) fg)) Finset.univ = fg := by
    rw [View.write_whole_univ]; exact View.read_whole (Val := Elt F) (main_v0_scv : Ref sig .scVector) fg
  rw [e7]
  refine BI.BIBase.Entails.trans (Q := iprop(((b7).view.loc (thr d L) ↦{fullShare} fg) ∗ ((b8).view.loc (thr d L) ↦{fullShare} f8n L 0 fg f8)
      ∗ Mo d L O W ∗ (((bpV).view.loc (thr d L) ↦{q1} fbp) ∗ ((gwAll).view.loc (thr d L) ↦{q3} fgw)
    ∗ ((b9).view.loc (thr d L) ↦{fullShare} f9) ∗ ((b10).view.loc (thr d L) ↦{fullShare} f10) ∗ ((b11).view.loc (thr d L) ↦{fullShare} f11)
    ∗ semVal (thr d L, .dma cc0_scratch5.sem) 0 ∗ semVal (thr d L, .dma cc0_scratch6.sem) 0) ∗ semVal (thr d L, .dma cc0_scoped0.sem) 0 ∗ R)) ?_ ?_
  · unfold Start
    rw [show f8n L 0 fg f8 = f8 from rfl]
    iintro ⟨HM, ⟨H7, -⟩, Hv0, ⟨Hbp, Hgw, H8, HS⟩, HR⟩
    isplitl [H7]; · iexact H7
    isplitl [H8]; · iexact H8
    isplitl [HM]; · iexact HM
    isplitl [Hbp Hgw HS]
    · isplitl [Hbp]; · iexact Hbp
      isplitl [Hgw]; · iexact Hgw
      iexact HS
    isplitl [Hv0]; · iexact Hv0
    iexact HR
  refine g_load7 (r := row0 L) (k0_off1_eq L 0) (by omega) fun v hv => ?_
  refine g_load8 fun _ => ?_
  refine g_store8 rfl rfl hv ?_
  refine g_load7 (r := row0 L + 16) (k0_off1_eq L 1) (by omega) fun v hv => ?_
  refine g_load8 fun _ => ?_
  refine g_store8 rfl rfl hv ?_
  refine BI.BIBase.Entails.trans (Q := iprop(((gwAll).view.loc (thr d L) ↦{q3} fgw) ∗ ((b8).view.loc (thr d L) ↦{fullShare} f8n L 32 fg f8) ∗ ((b11).view.loc (thr d L) ↦{fullShare} f11)
        ∗ semVal (thr d L, .dma cc0_scratch6.sem) 0 ∗ (Mo d L O W ∗ ((b7).view.loc (thr d L) ↦{fullShare} fg) ∗ ((bpV).view.loc (thr d L) ↦{q1} fbp)
          ∗ ((b9).view.loc (thr d L) ↦{fullShare} f9) ∗ ((b10).view.loc (thr d L) ↦{fullShare} f10) ∗ semVal (thr d L, .dma cc0_scratch5.sem) 0 ∗ semVal (thr d L, .dma cc0_scoped0.sem) 0 ∗ R))) ?_ ?_
  · iintro ⟨H7, H8, HM, ⟨Hbp, Hgw, H9, H10, H11, Hv5, Hv6⟩, HR⟩
    isplitl [Hgw]; · iexact Hgw
    isplitl [H8]; · iexact H8
    isplitl [H11]; · iexact H11
    isplitl [Hv6]; · iexact Hv6
    isplitl [HM]; · iexact HM
    isplitl [H7]; · iexact H7
    isplitl [Hbp]; · iexact Hbp
    isplitl [H9]; · iexact H9
    isplitl [H10]; · iexact H10
    isplitl [Hv5]; · iexact Hv5
    iexact HR
  refine g_gather (h4 := Or.inl rfl) (h5 := by decide) rfl hg ?_
  refine BI.BIBase.Entails.trans (Q := iprop(((b7).view.loc (thr d L) ↦{fullShare} fg) ∗ semVal (thr d L, .dma cc0_scratch5.sem) 0 ∗ ((b9).view.loc (thr d L) ↦{fullShare} f9)
      ∗ ((bpV).view.loc (thr d L) ↦{q1} fbp) ∗ (Mo d L O W
        ∗ Transfers.Flight countersEmb (thr d L) (.dma cc0_scratch6.sem) (default : HIx 1) wgN (gD d L hg f8 f11 fgw q3)
        ∗ ((b10).view.loc (thr d L) ↦{fullShare} f10) ∗ semVal (thr d L, .dma cc0_scoped0.sem) 0 ∗ R))) ?_ ?_
  · iintro ⟨HF, HM, H7, Hbp, H9, H10, Hv5, HR⟩
    isplitl [H7]; · iexact H7
    isplitl [Hv5]; · iexact Hv5
    isplitl [H9]; · iexact H9
    isplitl [Hbp]; · iexact Hbp
    isplitl [HM]; · iexact HM
    isplitl [HF]; · iexact HF
    isplitl [H10]; · iexact H10
    iexact HR
  refine iss_start ?_
  refine iss_load7 (r := row0 L) (k0_off1_eq L 0) (by omega) fun v hv => ?_
  iterate 16
    refine wpT_assume ?chk ?_
    case chk => exact (fun w => ⟨w.1, w.2, w.2⟩) (win_ok hg L _ (by decide) (col_at hv (by decide) rfl))
    refine iss_issue rfl hg (off_at hg L _ rfl (by decide) (col_at hv (by decide) rfl)) ?_
  refine iss_load7 (r := row0 L + 16) (k0_off18_eq L) (by omega) fun v hv => ?_
  iterate 15
    refine wpT_assume ?chk ?_
    case chk => exact (fun w => ⟨w.1, w.2, w.2⟩) (win_ok hg L _ (by decide) (col_at hv (by decide) rfl))
    refine iss_issue rfl hg (off_at hg L _ rfl (by decide) (col_at hv (by decide) rfl)) ?_
  refine wpT_assume ?chk ?_
  case chk => exact win_ok hg L _ (by decide) (col_at hv (by decide) rfl)
  refine iss_issue rfl hg (off_at hg L _ rfl (by decide) (col_at hv (by decide) rfl)) ?_
  refine iss_done rfl ?_
  iterate 31
    refine wts_wait rfl (by decide) ?_
  refine wts_last rfl rfl ?_
  refine BI.BIBase.Entails.trans (Q := iprop(Mo d L O W
        ∗ Transfers.Flight countersEmb (thr d L) (.dma cc0_scratch6.sem) (default : HIx 1) wgN (gD d L hg f8 f11 fgw q3)
        ∗ (((b9).view.loc (thr d L) ↦{fullShare} f9v L fbp fg) ∗ ((b10).view.loc (thr d L) ↦{fullShare} f10)
          ∗ semVal (thr d L, .dma cc0_scratch5.sem) 0 ∗ ((b7).view.loc (thr d L) ↦{fullShare} fg) ∗ semVal (thr d L, .dma cc0_scoped0.sem) 0 ∗ R))) ?_ ?_
  · iintro ⟨HM, HO, Hv5, H9, H7, HF, H10, Hv0, HR⟩
    isplitl [HM HO]
    · isplitl [HM]; · iexact HM
      iexact HO
    isplitl [HF]; · iexact HF
    isplitl [H9]; · iexact H9
    isplitl [H10]; · iexact H10
    isplitl [Hv5]; · iexact Hv5
    isplitl [H7]; · iexact H7
    isplitl [Hv0]; · iexact Hv0
    iexact HR
  refine loc_wait rfl ?_
  refine BI.BIBase.Entails.trans (Q := Cp d L 0 (f9v L fbp fg) f10 iprop(Mo d L O W ∗ ((b11).view.loc (thr d L) ↦{fullShare} f11v L fgw fg) ∗ Done (F := F) d L ∗ R)) ?_ ?_
  · unfold Cp
    rw [show cp 0 (f9v L fbp fg) f10 = f10 from rfl]
    iintro ⟨HM, HD, Hv6, H9, H10, Hv5, H7, Hv0, HR⟩
    ihave HD' := (gathered hg) $$ HD
    icases HD' with ⟨H11, ⟨%f8', H8⟩⟩
    isplitl [H9]; · iexact H9
    isplitl [H10]; · iexact H10
    isplitl [HM]; · iexact HM
    isplitl [H11]; · iexact H11
    isplitl [H7 H8 Hv0 Hv5 Hv6]
    · unfold Done
      isplitl [H7]; · iexists _; iexact H7
      isplitl [H8]; · iexists _; iexact H8
      isplitl [Hv0]; · iexact Hv0
      isplitl [Hv5]; · iexact Hv5
      iexact Hv6
    iexact HR
  iterate 183
    refine cp_load9 ?_
    refine cp_load10 fun _ => ?_
    refine cp_store rfl rfl rfl ?_
  refine cp_load9 ?_
  refine wpT_ret ?_
  iintro H
  isplitr
  · ipureintro; rfl
  · iexact H

end Head

end Cert.Proof.Id
-- ==== Proof.Id.Tile.lean ====
/-
  A task's whole program, and the task as the launch asks for it: from its shares of the inputs and its rows of the
  two outputs to the rows at what they are to hold.
-/
module

public import proofs.«01_k».proof.Proof.Id.Head

@[expose] public section

noncomputable section

namespace Cert.Proof.Id

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

section Tile

variable {d : Dev nD} {L : grid0.Coords}
variable {O : CellTallies nD τ sig (HIx 1)} {W : Waits sig (HIx 1)}
variable {fbp : S1024x101120.Idx → Elt F .f32} {fg : S1024.Idx → BitVec 32} {fgw : S1000x128.Idx → Elt F .f32}
variable {f5 : S1024x256.Idx → Elt F .f32} {f6 : S1024x128.Idx → Elt F .f32}
variable {q1 q2 q3 : PosShare TreeShare}

/-- The 32 rows that block `n` of the windows holds, and of the gathered weights. -/
def rows5 (n : ℕ) : Finset S1024x256.Idx := Finset.univ.filter fun y => (y 0).val / 32 = n
def rows6 (n : ℕ) : Finset S1024x128.Idx := Finset.univ.filter fun y => (y 0).val / 32 = n
/-- The block a task writes. -/
abbrev blk (L : grid0.Coords) : ℕ := 2 * (L 1).val + (L 0).val

theorem row0_blk (L : grid0.Coords) : row0 L = 32 * blk L := by unfold row0 blk; omega

/-- The rows of the windows and of the gathered weights a task writes, as it names them. -/
abbrev win5 (L : grid0.Coords) : Memref sig .scVector .hbm S32x256 .f32 :=
  winV.slice (Rect.unit (s := S1024x256) (k0_off66 L) S32x256.size (k0_off66_inb L)) (fun _ => rfl)
abbrev wg6 (L : grid0.Coords) : Memref sig .scVector .hbm S32x128 .f32 :=
  wgV.slice (Rect.unit (s := S1024x128) (k0_off67 L) S32x128.size (k0_off67_inb L)) (fun _ => rfl)

theorem win5_sub : (win5 L).view.set ⊆ rows5 (blk L) := by
  intro y hy
  have hy' : y ∈ ((View.whole main_v4_0_scv).slice (Rect.unit (s := S1024x256) (k0_off66 L) S32x256.size (k0_off66_inb L))).set := hy
  rw [View.set_slice_whole] at hy'
  have a0 := (Rect.mem_set_unit.mp hy') 0
  rw [k0_off66_eq] at a0
  simp [S32x256] at a0
  refine Finset.mem_filter.mpr ⟨Finset.mem_univ _, ?_⟩
  show (y 0).val / 32 = 2 * (L 1).val + (L 0).val
  omega

theorem wg6_sub : (wg6 L).view.set ⊆ rows6 (blk L) := by
  intro y hy
  have hy' : y ∈ ((View.whole main_v4_1_scv).slice (Rect.unit (s := S1024x128) (k0_off67 L) S32x128.size (k0_off67_inb L))).set := hy
  rw [View.set_slice_whole] at hy'
  have a0 := (Rect.mem_set_unit.mp hy') 0
  rw [k0_off67_eq] at a0
  simp [S32x128] at a0
  refine Finset.mem_filter.mpr ⟨Finset.mem_univ _, ?_⟩
  show (y 0).val / 32 = 2 * (L 1).val + (L 0).val
  omega

theorem win5_val {f10 : S32x256.Idx → Elt F .f32} :
    ∀ y ∈ rows5 (blk L), (win5 L).view.write (Elt F) f5 (ReadAs.same.apply ((b10).view.read (Elt F) (cp 512 (f9v L fbp fg) f10))) Finset.univ y
      = winVal fbp fg y := by
  intro y hy
  have hb : (y 0).val / 32 = 2 * (L 1).val + (L 0).val := (Finset.mem_filter.mp hy).2
  have hr := row0_blk L
  have hr' : row0 L = 32 * (2 * (L 1).val + (L 0).val) := hr
  have hx0 : (y 0).val - row0 L < 32 := by omega
  have hy1 : (y 1).val < 256 := (y 1).isLt
  have hy0 : (y 0).val < 1024 := (y 0).isLt
  have ey : (win5 L).view.emb (ix2 (⟨(y 0).val - row0 L, hx0⟩ : Fin 32) (⟨(y 1).val, hy1⟩ : Fin 256)) = y := by
    refine Rect.emb_eq_of_coords _ _ _ fun a => ?_
    match a with
    | ⟨0, _⟩ => show (y 0).val = k0_off66 L 0 + 1 * ((y 0).val - row0 L)
                rw [k0_off66_eq]; show (y 0).val = 64 * (L 1).val + 32 * (L 0).val + 1 * ((y 0).val - row0 L); omega
    | ⟨1, _⟩ => show (y 1).val = k0_off66 L 1 + 1 * (y 1).val
                rw [k0_off66_eq]; show (y 1).val = 0 + 1 * (y 1).val; omega
  conv_lhs => rw [← ey]
  rw [View.write_emb_of_mem _ _ (Finset.mem_univ _), cast_eq]
  show (b10).view.read (Elt F) (cp 512 (f9v L fbp fg) f10) (ix2 (⟨(y 0).val - row0 L, hx0⟩ : Fin 32) (⟨(y 1).val, hy1⟩ : Fin 256)) = _
  rw [View.read_apply, cast_eq]
  show cp 512 (f9v L fbp fg) f10 (ix2 (⟨(y 0).val - row0 L, hx0⟩ : Fin 32) (⟨(y 1).val, hy1⟩ : Fin 256)) = _
  unfold cp
  rw [if_pos (show 16 * ((y 0).val - row0 L) + (y 1).val / 16 < 512 by omega)]
  unfold f9v winVal winAt
  have e1 : row0 L + ((y 0).val - row0 L) / 8 * 8 + ((y 0).val - row0 L) % 8 = (y 0).val := by omega
  have e2 : row0 L + ((y 0).val - row0 L) = (y 0).val := by omega
  show fbp (ix2 (Fin.ofNat 1024 (row0 L + ((y 0).val - row0 L) / 8 * 8 + ((y 0).val - row0 L) % 8))
    (Fin.ofNat 101120 (colN (fg (ix1 (Fin.ofNat 1024 (row0 L + ((y 0).val - row0 L))))) + (y 1).val))) = _
  rw [e1, e2]

theorem wg6_val :
    ∀ y ∈ rows6 (blk L), (wg6 L).view.write (Elt F) f6 (ReadAs.same.apply ((b11).view.read (Elt F) (f11v L fgw fg))) Finset.univ y
      = wgVal fgw fg y := by
  intro y hy
  have hb : (y 0).val / 32 = 2 * (L 1).val + (L 0).val := (Finset.mem_filter.mp hy).2
  have hr := row0_blk L
  have hr' : row0 L = 32 * (2 * (L 1).val + (L 0).val) := hr
  have hx0 : (y 0).val - row0 L < 32 := by omega
  have hy1 : (y 1).val < 128 := (y 1).isLt
  have hy0 : (y 0).val < 1024 := (y 0).isLt
  have ey : (wg6 L).view.emb (ix2 (⟨(y 0).val - row0 L, hx0⟩ : Fin 32) (⟨(y 1).val, hy1⟩ : Fin 128)) = y := by
    refine Rect.emb_eq_of_coords _ _ _ fun a => ?_
    match a with
    | ⟨0, _⟩ => show (y 0).val = k0_off67 L 0 + 1 * ((y 0).val - row0 L)
                rw [k0_off67_eq]; show (y 0).val = 64 * (L 1).val + 32 * (L 0).val + 1 * ((y 0).val - row0 L); omega
    | ⟨1, _⟩ => show (y 1).val = k0_off67 L 1 + 1 * (y 1).val
                rw [k0_off67_eq]; show (y 1).val = 0 + 1 * (y 1).val; omega
  conv_lhs => rw [← ey]
  rw [View.write_emb_of_mem _ _ (Finset.mem_univ _), cast_eq]
  show (b11).view.read (Elt F) (f11v L fgw fg) (ix2 (⟨(y 0).val - row0 L, hx0⟩ : Fin 32) (⟨(y 1).val, hy1⟩ : Fin 128)) = _
  rw [View.read_apply, cast_eq]
  show f11v L fgw fg (ix2 (⟨(y 0).val - row0 L, hx0⟩ : Fin 32) (⟨(y 1).val, hy1⟩ : Fin 128)) = _
  unfold f11v
  have e2 : (Fin.ofNat 1024 (row0 L + ((y 0).val - row0 L)) : Fin 1024) = y 0 := Fin.ext (by show (row0 L + ((y 0).val - row0 L)) % 1024 = _; omega)
  show wgVal fgw fg (ix2 (Fin.ofNat 1024 (row0 L + ((y 0).val - row0 L))) (⟨(y 1).val, hy1⟩ : Fin 128)) = _
  rw [e2]; rfl

theorem wpT_bind {α β : Type} {A : sProp 𝕄} {p : Prog (TpuEff nD τ sig (Elt F) Λ₀ (thr d L).2) α} {k : α → Prog (TpuEff nD τ sig (Elt F) Λ₀ (thr d L).2) β}
    {Q : β → sProp 𝕄} (h : A ⊢ wpT d L p fun a => wpT d L (k a) Q) : A ⊢ wpT d L (p >>= k) Q := by
  unfold wpT at h ⊢
  rw [wp_bind]; exact h

theorem wpT_eq {α : Type} {A B : sProp 𝕄} {p : Prog (TpuEff nD τ sig (Elt F) Λ₀ (thr d L).2) α} {v : α} {Q : α → sProp 𝕄}
    (h : A ⊢ wpT d L p fun a => iprop(⌜a = v⌝ ∗ B)) (h2 : B ⊢ Q v) : A ⊢ wpT d L p Q := by
  refine h.trans (wp_mono _ _ _ fun a => ?_)
  iintro ⟨%e, H⟩
  subst e
  iapply h2; iexact H

theorem wpT_post {α : Type} {A : sProp 𝕄} {p : Prog (TpuEff nD τ sig (Elt F) Λ₀ (thr d L).2) α} {P Q : α → sProp 𝕄}
    (hp : ∀ a, P a ⊢ Q a) (h : A ⊢ wpT d L p P) : A ⊢ wpT d L p Q := h.trans (wp_mono _ _ _ hp)

/-- What a task leaves. -/
def Fin5 (d : Dev nD) (L : grid0.Coords) (O : CellTallies nD τ sig (HIx 1)) (W : Waits sig (HIx 1)) (fbp : S1024x101120.Idx → Elt F .f32) (fg : S1024.Idx → BitVec 32) (fgw : S1000x128.Idx → Elt F .f32) : sProp 𝕄 :=
  iprop(((winV).view.loc (thr d L) ↦[rows5 (blk L)]{fullShare} winVal fbp fg) ∗ ((wgV).view.loc (thr d L) ↦[rows6 (blk L)]{fullShare} wgVal fgw fg)
    ∗ Done (F := F) d L ∗ (∃ f, (b9).view.loc (thr d L) ↦{fullShare} f) ∗ (∃ f, (b10).view.loc (thr d L) ↦{fullShare} f) ∗ (∃ f, (b11).view.loc (thr d L) ↦{fullShare} f)
    ∗ semVal (thr d L, .dma cc0_scoped1.sem) 0 ∗ semVal (thr d L, .dma cc0_scoped2.sem) 0 ∗ Ow (thr d L) O W)

/-- What the program's end needs besides the first stretch's state. -/
def Rest (d : Dev nD) (L : grid0.Coords) (f5 : S1024x256.Idx → Elt F .f32) (f6 : S1024x128.Idx → Elt F .f32) : sProp 𝕄 :=
  iprop(((winV).view.loc (thr d L) ↦[rows5 (blk L)]{fullShare} f5) ∗ ((wgV).view.loc (thr d L) ↦[rows6 (blk L)]{fullShare} f6)
    ∗ semVal (thr d L, .dma cc0_scoped1.sem) 0 ∗ semVal (thr d L, .dma cc0_scoped2.sem) 0)

set_option maxHeartbeats 0 in
set_option maxRecDepth 100000 in
/-- The program's end: the rows and the gathered weights are written out. -/
theorem task_end {f10 : S32x256.Idx → Elt F .f32} {R : sProp 𝕄} :
    Cp d L 440 (f9v L fbp fg) f10 iprop(Mo d L O W ∗ ((b11).view.loc (thr d L) ↦{fullShare} f11v L fgw fg) ∗ Done (F := F) d L ∗ Rest d L f5 f6 ∗ R)
      ⊢ wpT d L (k0_part139 L bpV (Memref.isWhole_whole _) gV (Memref.isWhole_whole _) gwV (Memref.isWhole_whole _) winV (Memref.isWhole_whole _)
    wgV (Memref.isWhole_whole _) b7 (Memref.isWhole_whole _) b8 (Memref.isWhole_whole _) b9 (Memref.isWhole_whole _) b10 (Memref.isWhole_whole _)
    b11 (Memref.isWhole_whole _) cc0_scratch5 cc0_scratch6 cc0_scoped0 cc0_scoped1 cc0_scoped2 (held (f9v L fbp fg) 27 3 128 inb_S32x8x256_S1x1x16_27_3_128) >>= fun _ =>
          (Prog.lift (.waitDma2 cc0_scoped1.sem b10 (win5 L) (Memref.isWhole_whole _).wordExact (View.wordExact_bits rfl)) >>= fun _ =>
          (Prog.lift (.enqueueDma b11 (.here (wg6 L)) (.dma cc0_scoped2.sem) (Memref.isWhole_whole _).wordExact (View.wordExact_bits rfl) ⟨Or.inl rfl, trivial⟩) >>= fun _ =>
          (Prog.lift (.waitDma2 cc0_scoped2.sem b11 (wg6 L) (Memref.isWhole_whole _).wordExact (View.wordExact_bits rfl)) >>= fun _ =>
          (.ret PUnit.unit : Prog (TpuEff nD τ sig (Elt F) Λ₀ (thr d L).2) PUnit)))))
        fun _ => iprop(Fin5 d L O W fbp fg fgw ∗ R) := by
  refine wpT_bind ?_
  refine copies_c (h1 := (Memref.isWhole_whole _).wordExact) (h2 := View.wordExact_bits rfl) (h3 := ⟨Or.inl rfl, trivial⟩) ?_
  refine BI.BIBase.Entails.trans (Q := iprop((((b10).view.loc (thr d L) ↦[(b10).view.set]{fullShare} cp 512 (f9v L fbp fg) f10)
      ∗ ((win5 L).view.loc (thr d L) ↦[rows5 (blk L)]{fullShare} f5) ∗ semVal (thr d L, .dma cc0_scoped1.sem) 0)
      ∗ (Mo d L O W ∗ ((b9).view.loc (thr d L) ↦{fullShare} f9v L fbp fg) ∗ ((b11).view.loc (thr d L) ↦{fullShare} f11v L fgw fg) ∗ Done (F := F) d L
        ∗ ((wgV).view.loc (thr d L) ↦[rows6 (blk L)]{fullShare} f6) ∗ semVal (thr d L, .dma cc0_scoped2.sem) 0 ∗ R))) ?_ ?_
  · unfold Cp Rest
    rw [show (b10).view.set = Finset.univ from View.set_whole _]
    iintro ⟨H9, H10, HM, H11, HD, ⟨H5, H6, Hv1, Hv2⟩, HR⟩
    isplitl [H10 H5 Hv1]
    · isplitl [H10]; · iexact H10
      isplitl [H5]; · iexact H5
      iexact Hv1
    isplitl [HM]; · iexact HM
    isplitl [H9]; · iexact H9
    isplitl [H11]; · iexact H11
    isplitl [HD]; · iexact HD
    isplitl [H6]; · iexact H6
    isplitl [Hv2]; · iexact Hv2
    iexact HR
  refine loc_dma (win5 L).view.dmaCredit rfl (View.dmaCredit_pos _ (by decide)) win5_sub ?_
  rw [pointsTo_congr (ℓ := (win5 L).view.loc (thr d L)) win5_val]
  refine wpT_ret ?_
  refine BI.BIBase.Entails.trans (Q := iprop(Mo d L O W ∗ Transfers.Flight countersEmb (thr d L) (.dma cc0_scoped1.sem) (default : HIx 1) (win5 L).view.dmaCredit
        iprop(((win5 L).view.loc (thr d L) ↦[rows5 (blk L)]{fullShare} winVal fbp fg)
          ∗ ((b10).view.loc (thr d L) ↦[(b10).view.set]{fullShare} cp 512 (f9v L fbp fg) f10))
      ∗ (((b9).view.loc (thr d L) ↦{fullShare} f9v L fbp fg) ∗ ((b11).view.loc (thr d L) ↦{fullShare} f11v L fgw fg) ∗ Done (F := F) d L
        ∗ ((wgV).view.loc (thr d L) ↦[rows6 (blk L)]{fullShare} f6) ∗ semVal (thr d L, .dma cc0_scoped2.sem) 0 ∗ R))) ?_ ?_
  · iintro ⟨HF, HM, HR⟩
    isplitl [HM]; · iexact HM
    isplitl [HF]; · iexact HF
    iexact HR
  refine loc_wait rfl ?_
  refine BI.BIBase.Entails.trans (Q := iprop((((b11).view.loc (thr d L) ↦[(b11).view.set]{fullShare} f11v L fgw fg)
      ∗ ((wg6 L).view.loc (thr d L) ↦[rows6 (blk L)]{fullShare} f6) ∗ semVal (thr d L, .dma cc0_scoped2.sem) 0)
      ∗ (Mo d L O W ∗ ((b9).view.loc (thr d L) ↦{fullShare} f9v L fbp fg) ∗ ((b10).view.loc (thr d L) ↦{fullShare} cp 512 (f9v L fbp fg) f10) ∗ Done (F := F) d L
        ∗ ((winV).view.loc (thr d L) ↦[rows5 (blk L)]{fullShare} winVal fbp fg) ∗ semVal (thr d L, .dma cc0_scoped1.sem) 0 ∗ R))) ?_ ?_
  · rw [show (b10).view.set = Finset.univ from View.set_whole _, show (b11).view.set = Finset.univ from View.set_whole _]
    iintro ⟨HM, ⟨H5, H10⟩, Hv1, H9, H11, HD, H6, Hv2, HR⟩
    isplitl [H11 H6 Hv2]
    · isplitl [H11]; · iexact H11
      isplitl [H6]; · iexact H6
      iexact Hv2
    isplitl [HM]; · iexact HM
    isplitl [H9]; · iexact H9
    isplitl [H10]; · iexact H10
    isplitl [HD]; · iexact HD
    isplitl [H5]; · iexact H5
    isplitl [Hv1]; · iexact Hv1
    iexact HR
  refine loc_dma (wg6 L).view.dmaCredit rfl (View.dmaCredit_pos _ (by decide)) wg6_sub ?_
  rw [pointsTo_congr (ℓ := (wg6 L).view.loc (thr d L)) wg6_val]
  refine BI.BIBase.Entails.trans (Q := iprop(Mo d L O W ∗ Transfers.Flight countersEmb (thr d L) (.dma cc0_scoped2.sem) (default : HIx 1) (wg6 L).view.dmaCredit
        iprop(((wg6 L).view.loc (thr d L) ↦[rows6 (blk L)]{fullShare} wgVal fgw fg)
          ∗ ((b11).view.loc (thr d L) ↦[(b11).view.set]{fullShare} f11v L fgw fg))
      ∗ (((b9).view.loc (thr d L) ↦{fullShare} f9v L fbp fg) ∗ ((b10).view.loc (thr d L) ↦{fullShare} cp 512 (f9v L fbp fg) f10) ∗ Done (F := F) d L
        ∗ ((winV).view.loc (thr d L) ↦[rows5 (blk L)]{fullShare} winVal fbp fg) ∗ semVal (thr d L, .dma cc0_scoped1.sem) 0 ∗ R))) ?_ ?_
  · iintro ⟨HF, HM, HR⟩
    isplitl [HM]; · iexact HM
    isplitl [HF]; · iexact HF
    iexact HR
  refine loc_wait rfl ?_
  refine wpT_ret ?_
  unfold Fin5
  rw [show (b11).view.set = Finset.univ from View.set_whole _]
  iintro ⟨⟨-, HO⟩, ⟨H6, H11⟩, Hv2, H9, H10, HD, H5, Hv1, HR⟩
  isplitr [HR]
  · isplitl [H5]; · iexact H5
    isplitl [H6]; · iexact H6
    isplitl [HD]; · iexact HD
    isplitl [H9]; · iexists _; iexact H9
    isplitl [H10]; · iexists _; iexact H10
    isplitl [H11]; · iexists _; iexact H11
    isplitl [Hv1]; · iexact Hv1
    isplitl [Hv2]; · iexact Hv2
    iexact HO
  iexact HR

set_option maxHeartbeats 0 in
set_option maxRecDepth 100000 in
/-- The whole program of a task. -/
theorem task {f7 : S1024.Idx → BitVec 32} {f8 : S32.Idx → BitVec 32} {f9 : S32x8x256.Idx → Elt F .f32} {f10 : S32x256.Idx → Elt F .f32} {f11 : S32x128.Idx → Elt F .f32}
    (hg : ∀ x, (fg x).toNat < 1000) {R : sProp 𝕄} :
    iprop((((gV).view.loc (thr d L) ↦[(gV).view.set]{q2} fg) ∗ ((b7).view.loc (thr d L) ↦{fullShare} f7) ∗ semVal (thr d L, .dma cc0_scoped0.sem) 0)
        ∗ Mo d L O W ∗ Start d L fbp fgw f8 f9 f10 f11 q1 q3 ∗ Rest d L f5 f6 ∗ R)
      ⊢ wpT d L (taskProg L) fun _ => iprop(Fin5 d L O W fbp fg fgw ∗ R) := by
  unfold taskProg cc0_k
  refine wpT_bind ?_
  refine wpT_eq (head hg) ?_
  refine wpT_bind ?_
  refine wpT_eq copies_b ?_
  exact task_end

/-! ## The task's own buffers and semaphores -/

abbrev cell (d : Dev nD) (L : grid0.Coords) (s : DmaSems sig S_) : GSem nD τ sig := (thr d L, .dma s.sem)

/-- What is left of a task's own semaphores, and of its own buffers. -/
def restSems (d : Dev nD) (L : grid0.Coords) : sProp 𝕄 :=
  bigSep ((((((ownCells (thr d L)).erase (cell d L cc0_scoped0)).erase (cell d L cc0_scratch5)).erase (cell d L cc0_scratch6)).erase (cell d L cc0_scoped1)).erase (cell d L cc0_scoped2))
    fun g => semVal g 0
abbrev dref (L : grid0.Coords) (b : Ref sig .scVector) : DevRef τ sig := (Proc.scVector (cV L) (jV L)).devRef b
def restBufs (d : Dev nD) (L : grid0.Coords) : sProp 𝕄 :=
  bigSep ((((((ownRefs (τ := τ) (.scVector (cV L) (jV L))).erase (dref L cc0_scratch0)).erase (dref L cc0_scratch1)).erase (dref L cc0_scratch2)).erase (dref L cc0_scratch3)).erase (dref L cc0_scratch4))
    fun b => iprop(∃ f, ((d, b) : Loc nD τ sig) ↦{fullShare} f)

theorem cell_ne {s t : DmaSems sig S_} (h : s.sem ≠ t.sem) : cell d L s ≠ cell d L t :=
  fun e => h (SemLoc.dma.inj (Prod.mk.inj e).2)
theorem cell_own {s : DmaSems sig S_} (h : (SemLoc.dma s.sem : SemLoc sig).isScoped .scVector = true) : cell d L s ∈ ownCells (thr d L) :=
  mem_ownCells.mpr ⟨rfl, h⟩

theorem ownSems_task :
    (ownSems0 (thr d L) : sProp 𝕄)
      = iprop(semVal (cell d L cc0_scoped0) 0 ∗ semVal (cell d L cc0_scratch5) 0 ∗ semVal (cell d L cc0_scratch6) 0 ∗ semVal (cell d L cc0_scoped1) 0
          ∗ semVal (cell d L cc0_scoped2) 0 ∗ restSems (F := F) d L) := by
  unfold SparseCore.Cfg.ownSems0 restSems
  rw [SparseCore.bigSep_erase' (cell_own (s := cc0_scoped0) (by decide)),
    SparseCore.bigSep_erase' (Finset.mem_erase.mpr ⟨cell_ne (by decide), cell_own (s := cc0_scratch5) (by decide)⟩),
    SparseCore.bigSep_erase' (Finset.mem_erase.mpr ⟨cell_ne (by decide), Finset.mem_erase.mpr ⟨cell_ne (by decide), cell_own (s := cc0_scratch6) (by decide)⟩⟩),
    SparseCore.bigSep_erase' (Finset.mem_erase.mpr ⟨cell_ne (by decide), Finset.mem_erase.mpr ⟨cell_ne (by decide), Finset.mem_erase.mpr ⟨cell_ne (by decide),
      cell_own (s := cc0_scoped1) (by decide)⟩⟩⟩),
    SparseCore.bigSep_erase' (Finset.mem_erase.mpr ⟨cell_ne (by decide), Finset.mem_erase.mpr ⟨cell_ne (by decide), Finset.mem_erase.mpr ⟨cell_ne (by decide),
      Finset.mem_erase.mpr ⟨cell_ne (by decide), cell_own (s := cc0_scoped2) (by decide)⟩⟩⟩⟩)]

theorem dref_ne {a b : Ref sig .scVector} (h : a ≠ b) : dref L a ≠ dref L b := fun e => h (Proc.devRef_injective _ e)
theorem dref_own {b : Ref sig .scVector} (h : (dref L b).owner = .proc (.scVector (cV L) (jV L))) : dref L b ∈ ownRefs (τ := τ) (.scVector (cV L) (jV L)) :=
  SparseCore.Cfg.mem_ownRefs_of_owner h

theorem ownBufs_task :
    (ownBufs (thr d L) : sProp 𝕄)
      = iprop((∃ f, (b7).view.loc (thr d L) ↦{fullShare} f) ∗ (∃ f, (b8).view.loc (thr d L) ↦{fullShare} f) ∗ (∃ f, (b9).view.loc (thr d L) ↦{fullShare} f)
          ∗ (∃ f, (b10).view.loc (thr d L) ↦{fullShare} f) ∗ (∃ f, (b11).view.loc (thr d L) ↦{fullShare} f) ∗ restBufs (F := F) d L) := by
  unfold SparseCore.Cfg.ownBufs restBufs
  refine (SparseCore.bigSep_erase' (dref_own (L := L) (b := cc0_scratch0) rfl)).trans ?_
  rw [SparseCore.bigSep_erase' (Finset.mem_erase.mpr ⟨dref_ne (by decide), dref_own (L := L) (b := cc0_scratch1) rfl⟩),
    SparseCore.bigSep_erase' (Finset.mem_erase.mpr ⟨dref_ne (by decide), Finset.mem_erase.mpr ⟨dref_ne (by decide), dref_own (L := L) (b := cc0_scratch2) rfl⟩⟩),
    SparseCore.bigSep_erase' (Finset.mem_erase.mpr ⟨dref_ne (by decide), Finset.mem_erase.mpr ⟨dref_ne (by decide), Finset.mem_erase.mpr ⟨dref_ne (by decide),
      dref_own (L := L) (b := cc0_scratch3) rfl⟩⟩⟩),
    SparseCore.bigSep_erase' (Finset.mem_erase.mpr ⟨dref_ne (by decide), Finset.mem_erase.mpr ⟨dref_ne (by decide), Finset.mem_erase.mpr ⟨dref_ne (by decide),
      Finset.mem_erase.mpr ⟨dref_ne (by decide), dref_own (L := L) (b := cc0_scratch4) rfl⟩⟩⟩⟩)]

set_option maxHeartbeats 4000000 in
/-- The task on vector subcore `(L 0, L 1)` of device `d`, as the launch asks for it. -/
theorem tile_body (hF : (K (F := F)).Facts) (hg : ∀ x, (fg x).toNat < 1000) (hO : ∀ g, O g none = 0) :
    (iprop(levAts (K (F := F)).L (K (F := F)).lev ∗ emp
        ∗ ((bpLoc d ↦{q1} fbp) ∗ (gLoc d ↦{q2} fg) ∗ (gwLoc d ↦{q3} fgw) ∗ (winLoc d ↦[rows5 (blk L)]{fullShare} f5) ∗ (wgLoc d ↦[rows6 (blk L)]{fullShare} f6))
        ∗ scopedBufs (V d (cV L) (jV L)) ∗ scopedSems0 (V d (cV L) (jV L)) ∗ owes (V d (cV L) (jV L)) O W) : sProp 𝕄)
      ⊢ wpT d L (taskProg L)
          fun _ => iprop(((winLoc d ↦[rows5 (blk L)]{fullShare} winVal fbp fg) ∗ (wgLoc d ↦[rows6 (blk L)]{fullShare} wgVal fgw fg))
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems_task, ownBufs_task]
  iintro ⟨#Hlv, -, ⟨Hbp, Hg, Hgw, H5, H6⟩, ⟨⟨%f7, H7⟩, ⟨%f8, H8⟩, ⟨%f9, H9⟩, ⟨%f10, H10⟩, ⟨%f11, H11⟩, Hbufs⟩, ⟨Hv0, Hv5, Hv6, Hv1, Hv2, Hsems⟩, HO⟩
  ihave Hmw := (show (levAts (K (F := F)).L (K (F := F)).lev : sProp 𝕄) ⊢ Transfers.MayWaits (V d (cV L) (jV L)) (default : HIx 1) O from
    (K (F := F)).mayWaits_none (thr := V d (cV L) (jV L)) hO) $$ Hlv
  have post : ∀ _ : PUnit, (iprop(Fin5 d L O W fbp fg fgw ∗ restBufs (F := F) d L ∗ restSems (F := F) d L) : sProp 𝕄)
      ⊢ iprop(((winLoc d ↦[rows5 (blk L)]{fullShare} winVal fbp fg) ∗ (wgLoc d ↦[rows6 (blk L)]{fullShare} wgVal fgw fg))
        ∗ ((∃ f, (b7).view.loc (thr d L) ↦{fullShare} f) ∗ (∃ f, (b8).view.loc (thr d L) ↦{fullShare} f) ∗ (∃ f, (b9).view.loc (thr d L) ↦{fullShare} f)
          ∗ (∃ f, (b10).view.loc (thr d L) ↦{fullShare} f) ∗ (∃ f, (b11).view.loc (thr d L) ↦{fullShare} f) ∗ restBufs (F := F) d L)
        ∗ (semVal (cell d L cc0_scoped0) 0 ∗ semVal (cell d L cc0_scratch5) 0 ∗ semVal (cell d L cc0_scratch6) 0 ∗ semVal (cell d L cc0_scoped1) 0
          ∗ semVal (cell d L cc0_scoped2) 0 ∗ restSems (F := F) d L)
        ∗ ∃ W', ⌜∀ p ∈ W', p ∈ W ∨ p.2 = none⌝ ∗ owes (V d (cV L) (jV L)) O W') := by
    intro _
    unfold Fin5 Done Ow
    iintro ⟨⟨H5, H6, ⟨H7, H8, Hv0, Hv5, Hv6⟩, H9, H10, H11, Hv1, Hv2, HO⟩, Hbufs, Hsems⟩
    isplitl [H5 H6]
    · isplitl [H5]; · iexact H5
      iexact H6
    isplitl [H7 H8 H9 H10 H11 Hbufs]
    · isplitl [H7]; · iexact H7
      isplitl [H8]; · iexact H8
      isplitl [H9]; · iexact H9
      isplitl [H10]; · iexact H10
      isplitl [H11]; · iexact H11
      iexact Hbufs
    isplitl [Hv0 Hv5 Hv6 Hv1 Hv2 Hsems]
    · isplitl [Hv0]; · iexact Hv0
      isplitl [Hv5]; · iexact Hv5
      isplitl [Hv6]; · iexact Hv6
      isplitl [Hv1]; · iexact Hv1
      isplitl [Hv2]; · iexact Hv2
      iexact Hsems
    iexact HO
  iapply (wpT_post (d := d) (L := L) post (task (d := d) (L := L) (O := O) (W := W) (fbp := fbp) (fg := fg) (fgw := fgw) (f5 := f5) (f6 := f6) (q1 := q1) (q2 := q2) (q3 := q3)
    (f7 := f7) (f8 := f8) (f9 := f9) (f10 := f10) (f11 := f11) hg))
  isplitl [Hg H7 Hv0]
  · isplitl [Hg]
    · rw [show (gV).view.set = Finset.univ from View.set_whole _]; iexact Hg
    isplitl [H7]; · iexact H7
    iexact Hv0
  isplitl [HO]
  · unfold Mo Ow
    isplitr; · iexact Hmw
    iexists W; isplitr
    · ipureintro; exact fun p hp => .inl hp
    iexact HO
  isplitl [Hbp Hgw H8 H9 H10 H11 Hv5 Hv6]
  · unfold Start
    isplitl [Hbp]; · iexact Hbp
    isplitl [Hgw]; · iexact Hgw
    isplitl [H8]; · iexact H8
    isplitl [H9]; · iexact H9
    isplitl [H10]; · iexact H10
    isplitl [H11]; · iexact H11
    isplitl [Hv5]; · iexact Hv5
    iexact Hv6
  isplitl [H5 H6 Hv1 Hv2]
  · unfold Rest
    isplitl [H5]; · iexact H5
    isplitl [H6]; · iexact H6
    isplitl [Hv1]; · iexact Hv1
    iexact Hv2
  isplitl [Hbufs]; · iexact Hbufs
  iexact Hsems

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 () = SparseCore.onTile hcore0 hsub0 (fun c s => taskProg (coordsV c s)) ⟨⟩ c s := rfl

theorem obl_post {thr : Thread nD τ} {A B C : sProp 𝕄} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end Tile

end Cert.Proof.Id
-- ==== Proof.Id.Host.lean ====
/-
  The host operations of @main around its two kernels: the two straight lines as lists, which buffers they use and
  write, and @main as their sequence with the SparseCore call, the TensorCore call and the last reshape.
-/
module

public import proofs.«01_k».proof.Proof.Id.Setup
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Id

open Cert.KernelIdeal Cert.KernelIdeal.Gen

open Idealize.ShloMosaic
open Idealize.ShloMosaic.TcCoe
open Idealize.ShloMosaic.StableHlo
open Idealize.SL Idealize.SL.Sem
open Idealize.SL.BI (sProp bigSep)

variable {F : FTy → Type} [FloatOps F] [Named F]

/-! ## The lines -/

/-- The groups: `targets // 100`. -/
def opsG : List (HloOp τ sig (Elt F)) :=
  [ nullary main_c (constantI S_ 32 100#32),
    TRef.unary (.of main_c) main_call0.v0 id,
    TRef.unary main_call0.v0 main_call0.v1 (broadcastInDim S1024 ![] bcast_S_S1024),
    TRef.binary (.of main_arg1) main_call0.v1 main_call0.v2 Host.divsi,
    TRef.unary (.of (T := ⟨S1024, .i32⟩) main_arg1) main_call0.v3 signi,
    TRef.unary main_call0.v0 main_call0.v4 signi,
    TRef.unary main_call0.v4 main_call0.v5 (broadcastInDim S1024 ![] bcast_S_S1024),
    TRef.binary main_call0.v3 main_call0.v5 main_call0.v6 (cmpi .ne),
    TRef.unary main_call0.v0 main_call0.v7 (broadcastInDim S1024 ![] bcast_S_S1024),
    TRef.binary (.of main_arg1) main_call0.v7 main_call0.v8 Host.remsi,
    TRef.nullary main_call0.c (constantI S_ 32 0#32),
    TRef.unary main_call0.c main_call0.v9 (broadcastInDim S1024 ![] bcast_S_S1024),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S1024 ![] bcast_S_S1024),
    TRef.binary main_call0.v2 main_call0.v12 main_call0.v13 subi,
    TRef.ternary main_call0.v11 main_call0.v13 main_call0.v2 main_call0.call0.v0 select ]

/-- The positions within the groups: `targets % 100`. -/
def opsY : List (HloOp τ sig (Elt F)) :=
  [ nullary main_c_0 (constantI S_ 32 100#32),
    TRef.unary (.of main_c_0) main_call1.v0 id,
    TRef.nullary main_call1.c (constantI S_ 32 0#32),
    TRef.binary main_call1.v0 main_call1.c main_call1.v1 (cmpi .eq),
    TRef.nullary main_call1.c_0 (constantI S_ 32 1#32),
    TRef.ternary main_call1.v1 main_call1.c_0 main_call1.v0 main_call1.call0.v0 select,
    TRef.unary main_call1.call0.v0 main_call1.v3 (broadcastInDim S1024 ![] bcast_S_S1024),
    TRef.binary (.of main_arg1) main_call1.v3 main_call1.v4 Host.remsi,
    TRef.nullary main_call1.c_1 (constantI S_ 32 0#32),
    TRef.unary main_call1.c_1 main_call1.v5 (broadcastInDim S1024 ![] bcast_S_S1024),
    TRef.binary main_call1.v4 main_call1.v5 main_call1.v6 (cmpi .ne),
    TRef.nullary main_call1.c_2 (constantI S_ 32 0#32),
    TRef.unary main_call1.c_2 main_call1.v7 (broadcastInDim S1024 ![] bcast_S_S1024),
    TRef.binary main_call1.v4 main_call1.v7 main_call1.v8 (cmpi .slt),
    TRef.nullary main_call1.c_3 (constantI S_ 32 0#32),
    TRef.binary main_call1.call0.v0 main_call1.c_3 main_call1.v9 (cmpi .slt),
    TRef.unary main_call1.v9 main_call1.v10 (broadcastInDim S1024 ![] bcast_S_S1024),
    TRef.binary main_call1.v8 main_call1.v10 main_call1.v11 (cmpi .ne),
    TRef.binary main_call1.v11 main_call1.v6 main_call1.v12 andi,
    TRef.unary main_call1.call0.v0 main_call1.v13 (broadcastInDim S1024 ![] bcast_S_S1024),
    TRef.binary main_call1.v4 main_call1.v13 main_call1.v14 addi,
    TRef.ternary main_call1.v12 main_call1.v14 main_call1.v4 main_call1.v15 select ]

/-- The padded group weights and the padded predictions. -/
def opsP : List (HloOp τ sig (Elt F)) :=
  [ nullary main_c_1 (constantI S_ 32 0#32),
    TRef.unary (.of (T := ⟨S_, .i32⟩) main_c_1) main_call2.v0 (sitofp .f32),
    TRef.binary (.of (T := ⟨S1000x100, .f32⟩) main_arg3) main_call2.v0 main_call2.v1
      (fun x v => pad S1000x128 ![0, 0] ![0, 28] ![0, 0] x v pads_S1000x100_S1000x128_000_0280 h_S_),
    nullary main_c_2 (constantI S_ 32 0#32),
    TRef.unary (.of (T := ⟨S_, .i32⟩) main_c_2) main_call3.v0 (sitofp .f32),
    TRef.binary (.of (T := ⟨S1024x101000, .f32⟩) main_arg0) main_call3.v0 main_call3.v1
      (fun x v => pad S1024x101120 ![0, 0] ![0, 120] ![0, 0] x v pads_S1024x101000_S1024x101120_000_01200 h_S_) ]

/-- Between the two kernels: the columns of the classes, the reshapes, the padded rows of weights. -/
def opsM : List (HloOp τ sig (Elt F)) :=
  [ unary main_arg0 main_v5 ((extractStridedSlice S1024x1024 ![0, 0] · slices_S1024x101000_S1024x1024_0_0) :
      (⟨S1024x101000, .f32⟩ : BufTy).Contents (Elt F) → (⟨S1024x1024, .f32⟩ : BufTy).Contents (Elt F)),
    reshape main_v0 main_v6 (rfl : (.i32 : EltTy) = .i32) shapeCasts_S1024_S8x128x1,
    reshape main_v1 main_v7 (rfl : (.i32 : EltTy) = .i32) shapeCasts_S1024_S8x128x1,
    nullary main_c_3 (constantI S_ 32 0#32),
    TRef.unary (.of (T := ⟨S_, .i32⟩) main_c_3) main_call4.v0 (sitofp .f32),
    TRef.binary (.of (T := ⟨S1000, .f32⟩) main_arg2) main_call4.v0 main_call4.v1 (fun x v => pad S1024 ![0] ![24] ![0] x v pads_S1000_S1024_0240 h_S_),
    reshape main_v8 main_v9 (rfl : (.f32 : EltTy) = .f32) shapeCasts_S1024_S1x1024,
    nullary main_c_4 (constantI S_ 32 0#32),
    TRef.unary (.of (T := ⟨S_, .i32⟩) main_c_4) main_call5.v0 (sitofp .f32),
    TRef.binary (.of (T := ⟨S1000, .f32⟩) main_arg4) main_call5.v0 main_call5.v1 (fun x v => pad S1024 ![0] ![24] ![0] x v pads_S1000_S1024_0240 h_S_),
    reshape main_v10 main_v11 (rfl : (.f32 : EltTy) = .f32) shapeCasts_S1024_S1x1024 ]

/-- The last reshape. -/
def opE : HloOp τ sig (Elt F) := reshape main_v12 main_v13 (rfl : (.f32 : EltTy) = .f32) shapeCasts_S1x1_S_

abbrev preOps : List (HloOp τ sig (Elt F)) := opsG ++ (opsY ++ opsP)

set_option maxRecDepth 8192 in
set_option maxHeartbeats 4000000 in
/-- @main as its lines and its two calls. -/
theorem main_eq (d : Dev nD) : main (F := F) d
    = (seq preOps >>= fun _ => (sc (F := F)).run d 0 >>= fun _ => seq opsM >>= fun _ =>
        Prog.lift (.customCall (SparseCore.inner (Pipeline.entry 0)) ()) >>= fun _ => seq [opE]) := rfl

/-! ## What they write -/

def WG : List (Ref sig .tc) := [main_c, main_call0_v0, main_call0_v1, main_call0_v2, main_call0_v3, main_call0_v4, main_call0_v5, main_call0_v6,
  main_call0_v7, main_call0_v8, main_call0_c, main_call0_v9, main_call0_v10, main_call0_v11, main_call0_c_0, main_call0_v12, main_call0_v13, main_v0]
def WY : List (Ref sig .tc) := [main_c_0, main_call1_v0, main_call1_c, main_call1_v1, main_call1_c_0, main_call1_v2, main_call1_v3, main_call1_v4,
  main_call1_c_1, main_call1_v5, main_call1_v6, main_call1_c_2, main_call1_v7, main_call1_v8, main_call1_c_3, main_call1_v9, main_call1_v10,
  main_call1_v11, main_call1_v12, main_call1_v13, main_call1_v14, main_v1]
def WP : List (Ref sig .tc) := [main_c_1, main_call2_v0, main_v2, main_c_2, main_call3_v0, main_v3]
def WM : List (Ref sig .tc) := [main_v5, main_v6, main_v7, main_c_3, main_call4_v0, main_v8, main_v9, main_c_4, main_call5_v0, main_v10, main_v11]

set_option maxRecDepth 8192 in
theorem opsG_writes : (opsG : List (HloOp τ sig (Elt F))).Forall fun op => op.writes ⊆ (WG.map (Proc.devRef (τ := τ) .tc)).toFinset :=
  forall_writes_sub_of_map rfl
set_option maxRecDepth 8192 in
theorem opsY_writes : (opsY : List (HloOp τ sig (Elt F))).Forall fun op => op.writes ⊆ (WY.map (Proc.devRef (τ := τ) .tc)).toFinset :=
  forall_writes_sub_of_map rfl
theorem opsP_writes : (opsP : List (HloOp τ sig (Elt F))).Forall fun op => op.writes ⊆ (WP.map (Proc.devRef (τ := τ) .tc)).toFinset :=
  forall_writes_sub_of_map rfl
theorem opsM_writes : (opsM : List (HloOp τ sig (Elt F))).Forall fun op => op.writes ⊆ (WM.map (Proc.devRef (τ := τ) .tc)).toFinset :=
  forall_writes_sub_of_map rfl

theorem opsG_keep (V : Valuation τ sig (Elt F)) (r : Ref sig .tc) (h : r ∉ WG) : after opsG V (Proc.devRef .tc r) = V (Proc.devRef .tc r) :=
  after_of_writes_sub opsG _ opsG_writes h
theorem opsY_keep (V : Valuation τ sig (Elt F)) (r : Ref sig .tc) (h : r ∉ WY) : after opsY V (Proc.devRef .tc r) = V (Proc.devRef .tc r) :=
  after_of_writes_sub opsY _ opsY_writes h
theorem opsP_keep (V : Valuation τ sig (Elt F)) (r : Ref sig .tc) (h : r ∉ WP) : after opsP V (Proc.devRef .tc r) = V (Proc.devRef .tc r) :=
  after_of_writes_sub opsP _ opsP_writes h
theorem opsM_keep (V : Valuation τ sig (Elt F)) (r : Ref sig .tc) (h : r ∉ WM) : after opsM V (Proc.devRef .tc r) = V (Proc.devRef .tc r) :=
  after_of_writes_sub opsM _ opsM_writes h

/-! ## What they use -/

/-- The unscoped buffers of a TensorCore. -/
abbrev ucRefs : Finset (DevRef τ sig) := (tcRefs τ sig).filter fun b => ¬ b.isScoped

theorem sub_uc {op : HloOp τ sig (Elt F)} (h : op.bufs ⊆ tcRefs τ sig) : op.bufs ⊆ ucRefs := fun b hb =>
  Finset.mem_filter.mpr ⟨h hb, by rw [op.no_scoped b hb]; exact Bool.false_ne_true⟩

theorem opsG_sub : (opsG : List (HloOp τ sig (Elt F))).Forall fun op => op.bufs ⊆ tcRefs τ sig :=
  ⟨nullary_bufs_sub .., unary_bufs_sub .., unary_bufs_sub .., binary_bufs_sub .., unary_bufs_sub .., unary_bufs_sub .., unary_bufs_sub ..,
    binary_bufs_sub .., unary_bufs_sub .., binary_bufs_sub .., nullary_bufs_sub .., unary_bufs_sub .., binary_bufs_sub .., binary_bufs_sub ..,
    nullary_bufs_sub .., unary_bufs_sub .., binary_bufs_sub .., ternary_bufs_sub ..⟩
theorem opsY_sub : (opsY : List (HloOp τ sig (Elt F))).Forall fun op => op.bufs ⊆ tcRefs τ sig :=
  ⟨nullary_bufs_sub .., unary_bufs_sub .., nullary_bufs_sub .., binary_bufs_sub .., nullary_bufs_sub .., ternary_bufs_sub .., unary_bufs_sub ..,
    binary_bufs_sub .., nullary_bufs_sub .., unary_bufs_sub .., binary_bufs_sub .., nullary_bufs_sub .., unary_bufs_sub .., binary_bufs_sub ..,
    nullary_bufs_sub .., binary_bufs_sub .., unary_bufs_sub .., binary_bufs_sub .., binary_bufs_sub .., unary_bufs_sub .., binary_bufs_sub ..,
    ternary_bufs_sub ..⟩
theorem opsP_sub : (opsP : List (HloOp τ sig (Elt F))).Forall fun op => op.bufs ⊆ tcRefs τ sig :=
  ⟨nullary_bufs_sub .., unary_bufs_sub .., binary_bufs_sub .., nullary_bufs_sub .., unary_bufs_sub .., binary_bufs_sub ..⟩
theorem opsM_sub : (opsM : List (HloOp τ sig (Elt F))).Forall fun op => op.bufs ⊆ tcRefs τ sig :=
  ⟨unary_bufs_sub .., reshape_bufs_sub .., reshape_bufs_sub .., nullary_bufs_sub .., unary_bufs_sub .., binary_bufs_sub .., reshape_bufs_sub ..,
    nullary_bufs_sub .., unary_bufs_sub .., binary_bufs_sub .., reshape_bufs_sub ..⟩

theorem opsG_fresh : (opsG : List (HloOp τ sig (Elt F))).Forall fun op => op.fresh = ∅ := forall_fresh_of_map rfl
theorem opsY_fresh : (opsY : List (HloOp τ sig (Elt F))).Forall fun op => op.fresh = ∅ := forall_fresh_of_map rfl
theorem opsP_fresh : (opsP : List (HloOp τ sig (Elt F))).Forall fun op => op.fresh = ∅ := forall_fresh_of_map rfl
theorem opsM_fresh : (opsM : List (HloOp τ sig (Elt F))).Forall fun op => op.fresh = ∅ := forall_fresh_of_map rfl

theorem preOps_sub : ∀ op ∈ (preOps : List (HloOp τ sig (Elt F))), op.bufs ⊆ ucRefs := fun op h => sub_uc <| by
  rcases List.mem_append.mp h with h | h
  · exact List.forall_iff_forall_mem.mp opsG_sub op h
  rcases List.mem_append.mp h with h | h
  · exact List.forall_iff_forall_mem.mp opsY_sub op h
  · exact List.forall_iff_forall_mem.mp opsP_sub op h
theorem preOps_fresh : ∀ op ∈ (preOps : List (HloOp τ sig (Elt F))), op.fresh = ∅ := fun op h => by
  rcases List.mem_append.mp h with h | h
  · exact List.forall_iff_forall_mem.mp opsG_fresh op h
  rcases List.mem_append.mp h with h | h
  · exact List.forall_iff_forall_mem.mp opsY_fresh op h
  · exact List.forall_iff_forall_mem.mp opsP_fresh op h

/-- Lines one after the other. -/
theorem after_app (xs ys : List (HloOp τ sig (Elt F))) (V : Valuation τ sig (Elt F)) : after (xs ++ ys) V = after ys (after xs V) := by
  induction xs generalizing V with
  | nil => rfl
  | cons x xs ih => exact ih _

theorem after_pre (V : Valuation τ sig (Elt F)) : after preOps V = after opsP (after opsY (after opsG V)) := by
  rw [after_app, after_app]

end Cert.Proof.Id

end
-- ==== Proof.Id.Pay.lean ====
/-
  What the handshakes of the SparseCore call carry — shares of the arrays the tasks read, each task's rows of the
  arrays it writes — and the obligations of its tasks.
-/
module

public import proofs.«01_k».proof.Proof.Id.Tile
public import proofs.«01_k».proof.Proof.Id.Host
public import Idealize.ShloMosaic.Lib.ShareLeaves

@[expose] public section

noncomputable section

namespace Cert.Proof.Id

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## The contents the call starts from -/

variable (m : (ℓ : Loc nD τ sig) → Buf (Elt F) ℓ)

/-- The buffers of device `d` when the call is reached. -/
def V1 (d : Dev nD) : Valuation τ sig (Elt F) := StableHlo.after preOps (StableHlo.launchContents m d)

def bp1 (d : Dev nD) : S1024x101120.Idx → Elt F .f32 := V1 m d (Proc.devRef .tc main_v3)
def g1 (d : Dev nD) : S1024.Idx → BitVec 32 := V1 m d (Proc.devRef .tc main_v0)
def gw1 (d : Dev nD) : S1000x128.Idx → Elt F .f32 := V1 m d (Proc.devRef .tc main_v2)
def win1' (d : Dev nD) : S1024x256.Idx → Elt F .f32 := V1 m d (Proc.devRef .tc main_v4_0)
def wg1 (d : Dev nD) : S1024x128.Idx → Elt F .f32 := V1 m d (Proc.devRef .tc main_v4_1)

/-! ## The shares and the rows -/

/-- What the task that takes rows `32 k` to `32 k + 31` starts from. -/
def goAt (d : Dev nD) (k : Fin (2 ^ 5)) : sProp 𝕄 :=
  iprop((bpLoc d ↦{ShareLeaves.leaf 5 fullShare.right k} bp1 m d) ∗ (gLoc d ↦{ShareLeaves.leaf 5 fullShare.right k} g1 m d) ∗ (gwLoc d ↦{ShareLeaves.leaf 5 fullShare.right k} gw1 m d)
    ∗ (winLoc d ↦[rows5 k.val]{fullShare} win1' m d) ∗ (wgLoc d ↦[rows6 k.val]{fullShare} wg1 m d))
/-- What it leaves. -/
def tdAt (d : Dev nD) (k : Fin (2 ^ 5)) : sProp 𝕄 :=
  iprop((winLoc d ↦[rows5 k.val]{fullShare} winVal (bp1 m d) (g1 m d)) ∗ (wgLoc d ↦[rows6 k.val]{fullShare} wgVal (gw1 m d) (g1 m d)))

/-- The rows of the task on SparseCore `c`'s vector subcore `i`. -/
def taskIx (c : Fin 2) (i : Fin 16) : Fin (2 ^ 5) := ⟨2 * i.val + c.val, by have := c.isLt; have := i.isLt; show _ < 32; omega⟩

theorem tasks_eq (Φ : Fin (2 ^ 5) → sProp 𝕄) :
    (bigSep Finset.univ fun c : Fin 2 => bigSep Finset.univ fun i : Fin 16 => Φ (taskIx c i)) = bigSep Finset.univ Φ := by
  have e := bigSep_univ_equiv (M := 𝕄) ((Equiv.prodComm (Fin 2) (Fin 16)).trans (finProdFinEquiv (m := 16) (n := 2))) (Φ := fun k : Fin (16 * 2) => Φ (Fin.cast (by decide) k))
  have e2 : (bigSep Finset.univ fun k : Fin (16 * 2) => Φ (Fin.cast (by decide) k)) = bigSep Finset.univ Φ := rfl
  rw [← e2, e, bigSep_univ_prod]
  refine bigSep_congr fun c _ => bigSep_congr fun i _ => congrArg Φ (Fin.ext ?_)
  show 2 * i.val + c.val = (finProdFinEquiv (i, c)).val
  rw [finProdFinEquiv_apply_val]
  show 2 * i.val + c.val = c.val + 2 * i.val
  omega

theorem rows5_disjoint : ∀ i ∈ (Finset.univ : Finset (Fin (2 ^ 5))), ∀ j ∈ (Finset.univ : Finset (Fin (2 ^ 5))), i ≠ j → Disjoint (rows5 i.val) (rows5 j.val) :=
  fun i _ j _ h => Finset.disjoint_left.mpr fun y hi hj => h (Fin.ext ((Finset.mem_filter.mp hi).2.symm.trans (Finset.mem_filter.mp hj).2))
theorem rows6_disjoint : ∀ i ∈ (Finset.univ : Finset (Fin (2 ^ 5))), ∀ j ∈ (Finset.univ : Finset (Fin (2 ^ 5))), i ≠ j → Disjoint (rows6 i.val) (rows6 j.val) :=
  fun i _ j _ h => Finset.disjoint_left.mpr fun y hi hj => h (Fin.ext ((Finset.mem_filter.mp hi).2.symm.trans (Finset.mem_filter.mp hj).2))
theorem rows5_cover : (Finset.univ : Finset (Fin (2 ^ 5))).biUnion (fun k => rows5 k.val) = Finset.univ :=
  Finset.eq_univ_iff_forall.mpr fun y => Finset.mem_biUnion.mpr
    ⟨⟨(y 0).val / 32, by have : (y 0).val < 1024 := (y 0).isLt; show _ < 32; omega⟩, Finset.mem_univ _, Finset.mem_filter.mpr ⟨Finset.mem_univ _, rfl⟩⟩
theorem rows6_cover : (Finset.univ : Finset (Fin (2 ^ 5))).biUnion (fun k => rows6 k.val) = Finset.univ :=
  Finset.eq_univ_iff_forall.mpr fun y => Finset.mem_biUnion.mpr
    ⟨⟨(y 0).val / 32, by have : (y 0).val < 1024 := (y 0).isLt; show _ < 32; omega⟩, Finset.mem_univ _, Finset.mem_filter.mpr ⟨Finset.mem_univ _, rfl⟩⟩

theorem win_rows (d : Dev nD) (f : S1024x256.Idx → Elt F .f32) :
    (winLoc d ↦{fullShare} f : sProp 𝕄) = bigSep Finset.univ fun k : Fin (2 ^ 5) => winLoc d ↦[rows5 k.val]{fullShare} f := by
  rw [← pointsTo_biUnion Finset.univ (ℓ := winLoc d) (fun k : Fin (2 ^ 5) => rows5 k.val) rows5_disjoint, rows5_cover]; try rfl
theorem wg_rows (d : Dev nD) (f : S1024x128.Idx → Elt F .f32) :
    (wgLoc d ↦{fullShare} f : sProp 𝕄) = bigSep Finset.univ fun k : Fin (2 ^ 5) => wgLoc d ↦[rows6 k.val]{fullShare} f := by
  rw [← pointsTo_biUnion Finset.univ (ℓ := wgLoc d) (fun k : Fin (2 ^ 5) => rows6 k.val) rows6_disjoint, rows6_cover]; try rfl

theorem go_all (d : Dev nD) : (bigSep Finset.univ (goAt m d) : sProp 𝕄)
    = iprop((bpLoc d ↦{fullShare.right} bp1 m d) ∗ (gLoc d ↦{fullShare.right} g1 m d) ∗ (gwLoc d ↦{fullShare.right} gw1 m d)
      ∗ (winLoc d ↦{fullShare} win1' m d) ∗ (wgLoc d ↦{fullShare} wg1 m d)) := by
  rw [win_rows, wg_rows,
    show (bpLoc d ↦{fullShare.right} bp1 m d : sProp 𝕄) = bigSep Finset.univ fun k : Fin (2 ^ 5) => bpLoc d ↦{ShareLeaves.leaf 5 fullShare.right k} bp1 m d from
      ShareLeaves.pointsTo_leaves Finset.univ _ 5 fullShare.right,
    show (gLoc d ↦{fullShare.right} g1 m d : sProp 𝕄) = bigSep Finset.univ fun k : Fin (2 ^ 5) => gLoc d ↦{ShareLeaves.leaf 5 fullShare.right k} g1 m d from
      ShareLeaves.pointsTo_leaves Finset.univ _ 5 fullShare.right,
    show (gwLoc d ↦{fullShare.right} gw1 m d : sProp 𝕄) = bigSep Finset.univ fun k : Fin (2 ^ 5) => gwLoc d ↦{ShareLeaves.leaf 5 fullShare.right k} gw1 m d from
      ShareLeaves.pointsTo_leaves Finset.univ _ 5 fullShare.right, ← bigSep_sep', ← bigSep_sep', ← bigSep_sep', ← bigSep_sep']
  rfl
theorem td_all (d : Dev nD) : (bigSep Finset.univ (tdAt m d) : sProp 𝕄)
    = iprop((winLoc d ↦{fullShare} winVal (bp1 m d) (g1 m d)) ∗ (wgLoc d ↦{fullShare} wgVal (gw1 m d) (g1 m d))) := by
  rw [win_rows, wg_rows, ← bigSep_sep']
  rfl

/-! ## The record -/

def P : (K (F := F)).Pay (nD := nD) (Val := Elt F) (Name := ℕ) (U := UU) where
  st := fun q d c => match q with | 0 => bigSep Finset.univ fun i : Fin 16 => goAt m d (taskIx (Fin.cast nCore_zero c) i)
  dn := fun q d c => match q with | 0 => bigSep Finset.univ fun i : Fin 16 => tdAt m d (taskIx (Fin.cast nCore_zero c) i)
  go := fun q d c i => match q with | 0 => goAt m d (taskIx (Fin.cast nCore_zero c) (Fin.cast nSub_zero i))
  td := fun q d c i => match q with | 0 => tdAt m d (taskIx (Fin.cast nCore_zero c) (Fin.cast nSub_zero i))
  x := fun _ _ => iprop(emp)

instance goAt_storable (d : Dev nD) (k : Fin (2 ^ 5)) : BI.Storable (upEmb : UEmb _ 𝕄) (goAt m d k) := by unfold goAt; infer_instance
instance tdAt_storable (d : Dev nD) (k : Fin (2 ^ 5)) : BI.Storable (upEmb : UEmb _ 𝕄) (tdAt m d k) := by unfold tdAt; infer_instance

instance P_storable : (P (F := F) m).IsStorable where
  st q d c := match q with
    | 0 => (inferInstance : BI.Storable (upEmb : UEmb _ 𝕄) (bigSep Finset.univ fun i : Fin 16 => goAt m d (taskIx (Fin.cast nCore_zero c) i)))
  dn q d c := match q with
    | 0 => (inferInstance : BI.Storable (upEmb : UEmb _ 𝕄) (bigSep Finset.univ fun i : Fin 16 => tdAt m d (taskIx (Fin.cast nCore_zero c) i)))
  go q d c i := match q with
    | 0 => (inferInstance : BI.Storable (upEmb : UEmb _ 𝕄) (goAt m d (taskIx (Fin.cast nCore_zero c) (Fin.cast nSub_zero i))))
  td q d c i := match q with
    | 0 => (inferInstance : BI.Storable (upEmb : UEmb _ 𝕄) (tdAt m d (taskIx (Fin.cast nCore_zero c) (Fin.cast nSub_zero i))))

theorem st_all (d : Dev nD) : (bigSep Finset.univ fun c : Fin ((K (F := F)).nCore 0) => (P m).st 0 d c) = (bigSep Finset.univ (goAt m d) : sProp 𝕄) :=
  tasks_eq (goAt m d)
theorem dn_all (d : Dev nD) : (bigSep Finset.univ fun c : Fin ((K (F := F)).nCore 0) => (P m).dn 0 d c) = (bigSep Finset.univ (tdAt m d) : sProp 𝕄) :=
  tasks_eq (tdAt m d)

/-! ## The obligations -/

/-- Every group is one of the thousand. -/
def PreOK : Prop := ∀ d x, (g1 m d x).toNat < 1000

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.BIBase.Entails.trans ?_ (Pipeline.wp_liftProg (D (F := F)) (Pipeline.defs_kernel pcfgs defs₀) 𝒱₀ _ Set.univ none _ _)
  rw [defs₀_vector]; simp only [SparseCore.onTile, hci, and_self, ↓reduceDIte]
  have hb := tile_body (d := d) (L := coordsV ⟨_, hci.1⟩ ⟨_, hci.2⟩) (O := O) (W := W) (fbp := bp1 m d) (fg := g1 m d) (fgw := gw1 m d)
    (f5 := win1' m d) (f6 := wg1 m d) (q1 := ShareLeaves.leaf 5 fullShare.right (taskIx (Fin.cast nCore_zero c) (Fin.cast nSub_zero i)))
    (q2 := ShareLeaves.leaf 5 fullShare.right (taskIx (Fin.cast nCore_zero c) (Fin.cast nSub_zero i)))
    (q3 := ShareLeaves.leaf 5 fullShare.right (taskIx (Fin.cast nCore_zero c) (Fin.cast nSub_zero i))) hF (hpre d) hO
  have hgo : (P m).go 0 d c i = goAt m d (taskIx (Fin.cast nCore_zero c) (Fin.cast nSub_zero i)) := rfl
  have htd : (P m).td 0 d c i = tdAt m d (taskIx (Fin.cast nCore_zero c) (Fin.cast nSub_zero i)) := rfl
  rw [hgo, htd]
  have h2 := wpT_post (d := d) (L := coordsV ⟨_, hci.1⟩ ⟨_, hci.2⟩) (fun _ => obl_post (q := (0 : Fin 1))) hb
  have e0 : V d ((K (F := F)).core 0 c) ((K (F := F)).sub 0 i) = thr d (coordsV ⟨_, hci.1⟩ ⟨_, hci.2⟩) := rfl
  have e1 : rows5 (taskIx (Fin.cast nCore_zero c) (Fin.cast nSub_zero i)).val = rows5 (blk (coordsV ⟨_, hci.1⟩ ⟨_, hci.2⟩)) := rfl
  have e1' : rows6 (taskIx (Fin.cast nCore_zero c) (Fin.cast nSub_zero i)).val = rows6 (blk (coordsV ⟨_, hci.1⟩ ⟨_, hci.2⟩)) := rfl
  have e2 : ∀ x : HIx 1, (SparseCore.Cfg.Blocks.blk (0 : Fin 1) x) = (x = some 0) := fun _ => rfl
  unfold goAt tdAt
  rw [e1, e1']
  refine BI.BIBase.Entails.trans (BI.BIBase.Entails.trans ?_ h2) ?_
  · exact .rfl
  · simp only [e2]
    clear hb hgo htd e1 e1' e2
    generalize hp : taskProg (F := F) (coordsV ⟨_, hci.1⟩ ⟨_, hci.2⟩) = p
    exact .rfl

theorem vecSplit : (K (F := F)).VecSplit' (P m) 0 := by
  intro d c
  show (bigSep Finset.univ fun i : Fin 16 => goAt m d (taskIx (Fin.cast nCore_zero c) i)) ⊢ |={Set.univ}=> iprop(
      (bigSep Finset.univ fun i : Fin 16 => goAt m d (taskIx (Fin.cast nCore_zero c) i))
      ∗ ((bigSep Finset.univ fun i : Fin 16 => tdAt m d (taskIx (Fin.cast nCore_zero c) i))
          -∗ (bigSep Finset.univ fun i : Fin 16 => tdAt m d (taskIx (Fin.cast nCore_zero c) i))))
  iintro H; imodintro
  isplitl [H]; · iexact H
  iintro H; iexact H

end Cert.Proof.Id

end
-- ==== Proof.Id.Region.lean ====
/-
  The TensorCore's pallas_call: what its body leaves at one grid point, the proof data of the pipeline that runs it
  over the eight points, and the region as @main enters it.
-/
module

public import proofs.«01_k».proof.Proof.Id.Setup
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Regions
public import Idealize.ShloMosaic.Lib.VecWindow

@[expose] public section

noncomputable section

namespace Cert.Proof.Id

open Cert.KernelIdeal Cert.KernelIdeal.Gen

open Idealize.ShloMosaic Idealize.ShloMosaic.ValueIdx
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation heldIn)

variable {F : FTy → Type} [FloatOps F] [Named F]

local notation "𝕄" => MT nD τ sig (HIx 1) (Elt F) ℕ UU ℕ

/-! ## One grid point -/

/-- What a point adds to the accumulator: the payload of the body's last store over the blocks it loads. -/
def step (x1 : Vec F S128x1024 .f32) (x2 : Vec F S128x256 .f32) (x3 : Vec F S128x128 .f32) (x4 x5 : Vec F S1x128x1 .i32)
    (x6 x7 : Vec F S1x1024 .f32) (acc : Vec F S1x1 .f32) : Vec F S1x1 .f32 :=
  k1_pay22 (k1_pay3 x3) (k1_pay5 x5) (k1_pay13 (k1_pay7 x7) (k1_pay10 x4))
    (k1_pay14 (k1_pay1 x1) (k1_pay6 x6) (k1_pay9 x1) (k1_pay10 x4) (k1_pay11 x1 x4) (Scalar.ofBits .f32 0x00000000#32) (k1_pay12 x6))
    (iota .tc S128x128 32 [1] iota_S128x128_d1_w32)
    (k1_pay18 (k1_pay15 (k1_pay4 x4)) (k1_pay16 (k1_pay2 x2) (k1_pay4 x4)) (k1_pay17 (k1_pay2 x2) (k1_pay4 x4)) 32#32)
    (k1_pay19 (k1_pay15 (k1_pay4 x4)) (k1_pay16 (k1_pay2 x2) (k1_pay4 x4)) (k1_pay17 (k1_pay2 x2) (k1_pay4 x4)) 32#32)
    (k1_pay20 (k1_pay15 (k1_pay4 x4)) (k1_pay16 (k1_pay2 x2) (k1_pay4 x4)) (k1_pay17 (k1_pay2 x2) (k1_pay4 x4)) 32#32) acc

/-- The TensorCore's weakest precondition inside the region. -/
abbrev wpC {α : Type} (c : Dev nD) (p : Prog (TpuEff nD τ sig (Elt F) Λ₀ .tc) α) (Q : α → sProp 𝕄) : sProp 𝕄 :=
  wp frame (wpE (defs₀ (F := F)) 𝒱₀ (c.tc : Thread nD τ) none) Set.univ p Q

theorem ret_run (c : Dev nD) {α : Type} (a : α) (Q : α → sProp 𝕄) : Q a ⊢ wpC c (.ret a) Q := by
  unfold wpC
  iintro H
  sl_step
  iexact H

/-- A staging buffer owned at contents. -/
abbrev own (c : Dev nD) {s : Shape} {e : EltTy} (M : Memref sig .tc .vmem s e) (X : s.Idx → Elt F e) : sProp 𝕄 :=
  owns (c.tc : Thread nD τ) M fullShare X

/-- A load of the whole of a staging buffer. -/
theorem own_load (c : Dev nD) {s : Shape} {e : EltTy} (M : Memref sig .tc .vmem s e) {X : s.Idx → Elt F e} {α : Type}
    {off : Fin s.rank → ℕ} {inb : ∀ a, off a + s.size a ≤ s.size a} {hl : M.view.LoadsAt (Rect.unit off s.size inb).toLoadRect}
    {k : (s.Idx → Elt F e) → Prog (TpuEff nD τ sig (Elt F) Λ₀ .tc) α} {Q : α → sProp 𝕄} :
    own c M X ⊢ iprop((own c M X -∗ wpC c (k X) Q) -∗ wpC c (.op (.load M (Rect.unit off s.size inb).toLoadRect hl) k) Q) := by
  unfold own owns
  iintro ⟨%f, %hf, H⟩ Hk
  iapply (wp_load 𝒱₀ (c.tc : Thread nD τ) none Set.univ (m := M) (r := (Rect.unit off s.size inb).toLoadRect) (hl := hl) (S := M.view.set)
    (View.setOn_subset_set _ _)) $$ H
  iintro H
  rw [View.readAt_full M.view f inb, hf]
  iapply Hk
  iexists f
  isplitr; · ipureintro; exact hf
  iexact H

/-- A store of the whole of a staging buffer. -/
theorem own_store (c : Dev nD) {s : Shape} {e : EltTy} (M : Memref sig .tc .vmem s e) {X Y : s.Idx → Elt F e} {α : Type}
    {off : Fin s.rank → ℕ} {inb : ∀ a, off a + s.size a ≤ s.size a} {hx hm}
    {k : PUnit → Prog (TpuEff nD τ sig (Elt F) Λ₀ .tc) α} {Q : α → sProp 𝕄} :
    own c M X ⊢ iprop((own c M Y -∗ wpC c (k ⟨⟩) Q) -∗ wpC c (.op (.store M (Rect.unit off s.size inb) Y Finset.univ hx hm) k) Q) := by
  unfold own owns
  iintro ⟨%f, %hf, H⟩ Hk
  have hset : ((M.access (Rect.unit off s.size inb))).setOn Finset.univ ⊆ M.view.set :=
    (View.setOn_subset_set _ _).trans (View.set_slice_subset _ _)
  iapply (wp_store 𝒱₀ (c.tc : Thread nD τ) none Set.univ (m := M) (r := Rect.unit off s.size inb) (w := Y) (Mk := Finset.univ) (hx := hx) (hm := hm)
    (S := M.view.set) hset) $$ H
  iintro H
  iapply Hk
  iexists ((M.access (Rect.unit off s.size inb)).write (Elt F) f Y Finset.univ)
  isplitr
  · ipureintro
    have h := View.read_write_univ (v := M.access (Rect.unit off s.size inb)) f Y
    refine Eq.trans ?_ h
    funext y
    exact (congrArg (M.view.read (Elt F) _) (Rect.emb_unit_full inb y)).symm
  iexact H

/-- The eight staging buffers, owned. -/
def Own (c : Dev nD) (M1 : Memref sig .tc .vmem S128x1024 .f32) (M2 : Memref sig .tc .vmem S128x256 .f32) (M3 : Memref sig .tc .vmem S128x128 .f32)
    (M4 M5 : Memref sig .tc .vmem S1x128x1 .i32) (M6 M7 : Memref sig .tc .vmem S1x1024 .f32) (M8 : Memref sig .tc .vmem S1x1 .f32)
    (x1 : Vec F S128x1024 .f32) (x2 : Vec F S128x256 .f32) (x3 : Vec F S128x128 .f32) (x4 x5 : Vec F S1x128x1 .i32)
    (x6 x7 : Vec F S1x1024 .f32) (x8 : Vec F S1x1 .f32) : sProp 𝕄 :=
  iprop(own c M1 x1 ∗ own c M2 x2 ∗ own c M3 x3 ∗ own c M4 x4 ∗ own c M5 x5 ∗ own c M6 x6 ∗ own c M7 x7 ∗ own c M8 x8)

variable (c : Dev nD) (i : grid1.Coords)
    (M1 : Memref sig .tc .vmem S128x1024 .f32) (h1 : M1.IsWhole) (M2 : Memref sig .tc .vmem S128x256 .f32) (h2 : M2.IsWhole)
    (M3 : Memref sig .tc .vmem S128x128 .f32) (h3 : M3.IsWhole) (M4 : Memref sig .tc .vmem S1x128x1 .i32) (h4 : M4.IsWhole)
    (M5 : Memref sig .tc .vmem S1x128x1 .i32) (h5 : M5.IsWhole) (M6 : Memref sig .tc .vmem S1x1024 .f32) (h6 : M6.IsWhole)
    (M7 : Memref sig .tc .vmem S1x1024 .f32) (h7 : M7.IsWhole) (M8 : Memref sig .tc .vmem S1x1 .f32) (h8 : M8.IsWhole)
    (x1 : Vec F S128x1024 .f32) (x2 : Vec F S128x256 .f32) (x3 : Vec F S128x128 .f32) (x4 x5 : Vec F S1x128x1 .i32)
    (x6 x7 : Vec F S1x1024 .f32) (x8 : Vec F S1x1 .f32)

/-- What the body finds in the accumulator once it may have cleared it. -/
def start (x8 : Vec F S1x1 .f32) : Vec F S1x1 .f32 := if (i 0).val = 0 then k1_pay21 else x8

theorem cond_iff : (Scalar.cmpi .ne (Scalar.extui (Scalar.cmpi .eq (BitVec.ofNat 32 (i 0).val) 0#32)) 0#32 : BitVec 1) = 1#1 ↔ (i 0).val = 0 := by
  have hi : (i 0).val < 8 := (i 0).isLt
  generalize (i 0).val = n at hi
  interval_cases n <;> decide

set_option maxRecDepth 65536 in
/-- The end of the body: the accumulator cleared at the first point, and then stepped. -/
theorem tail_run (v5 : FVec F S128x128 .f32) (v9 : IVec S128x1 32) (v45 v63 : FVec F S128x1 .f32) (v121 : IVec S128x128 32)
    (v125 : FVec F S128x128 .f32) (v127 : FVec F S128x1 .f32) (v131 : FVec F S128 .f32) (Q : PUnit → sProp 𝕄) :
    iprop(own c M8 x8 ∗ (own c M8 (k1_pay22 v5 v9 v45 v63 v121 v125 v127 v131 (start i x8)) -∗ Q ⟨⟩))
      ⊢ wpC c ((k1_part4 (F := F) i M1 h1 M2 h2 M3 h3 M4 h4 M5 h5 M6 h6 M7 h7 M8 h8 (BitVec.ofNat 32 (i 0).val) v5 v9 v45 v63 v121 v125 v127 v131)
          >>= fun _ => pure ⟨⟩) Q := by
  rw [k1_part4_eq_skeleton]
  unfold k1_part4_skel
  iintro ⟨H8, Hk⟩
  by_cases hi : (i 0).val = 0
  · have hc := (cond_iff i).mpr hi
    have hst : start i x8 = k1_pay21 := if_pos hi
    rw [hst]
    simp only [dif_pos hc]
    iapply (own_load c M8) $$ H8; iintro H8
    iapply (own_store c M8) $$ H8; iintro H8
    iapply (own_load c M8) $$ H8; iintro H8
    iapply (own_load c M8) $$ H8; iintro H8
    iapply (own_store c M8) $$ H8; iintro H8
    iapply (ret_run c ⟨⟩ Q)
    iapply Hk
    iexact H8
  · have hc := mt (cond_iff i).mp hi
    have hst : start i x8 = x8 := if_neg hi
    rw [hst]
    simp only [dif_neg hc]
    iapply (own_load c M8) $$ H8; iintro H8
    iapply (own_load c M8) $$ H8; iintro H8
    iapply (own_store c M8) $$ H8; iintro H8
    iapply (ret_run c ⟨⟩ Q)
    iapply Hk
    iexact H8

set_option maxRecDepth 65536 in
/-- The body at a point: every input block stays, the accumulator is stepped. -/
theorem body_run (Q : PUnit → sProp 𝕄) :
    iprop(Own c M1 M2 M3 M4 M5 M6 M7 M8 x1 x2 x3 x4 x5 x6 x7 x8
        ∗ (Own c M1 M2 M3 M4 M5 M6 M7 M8 x1 x2 x3 x4 x5 x6 x7 (step x1 x2 x3 x4 x5 x6 x7 (start i x8)) -∗ Q ⟨⟩))
      ⊢ wpC c (cc1__tc_body (F := F) i M1 h1 M2 h2 M3 h3 M4 h4 M5 h5 M6 h6 M7 h7 M8 h8) Q := by
  rw [cc1__tc_body_eq_skeleton]
  unfold cc1__tc_body_skel
  rw [k1_part1_eq_skeleton, k1_part2_eq_skeleton, k1_part3_eq_skeleton]
  unfold k1_part1_skel k1_part2_skel k1_part3_skel Own
  iintro ⟨⟨H1, H2, H3, H4, H5, H6, H7, H8⟩, Hk⟩
  iapply (own_load c M1) $$ H1; iintro H1
  iapply (own_load c M2) $$ H2; iintro H2
  iapply (own_load c M3) $$ H3; iintro H3
  iapply (own_load c M4) $$ H4; iintro H4
  iapply (own_load c M5) $$ H5; iintro H5
  iapply (own_load c M6) $$ H6; iintro H6
  iapply (own_load c M7) $$ H7; iintro H7
  iapply (tail_run c i M1 h1 M2 h2 M3 h3 M4 h4 M5 h5 M6 h6 M7 h7 M8 h8 x8 (k1_pay3 x3) (k1_pay5 x5) (k1_pay13 (k1_pay7 x7) (k1_pay10 x4))
    (k1_pay14 (k1_pay1 x1) (k1_pay6 x6) (k1_pay9 x1) (k1_pay10 x4) (k1_pay11 x1 x4) (Scalar.ofBits .f32 0x00000000#32) (k1_pay12 x6))
    (iota .tc S128x128 32 [1] iota_S128x128_d1_w32)
    (k1_pay18 (k1_pay15 (k1_pay4 x4)) (k1_pay16 (k1_pay2 x2) (k1_pay4 x4)) (k1_pay17 (k1_pay2 x2) (k1_pay4 x4)) 32#32)
    (k1_pay19 (k1_pay15 (k1_pay4 x4)) (k1_pay16 (k1_pay2 x2) (k1_pay4 x4)) (k1_pay17 (k1_pay2 x2) (k1_pay4 x4)) 32#32)
    (k1_pay20 (k1_pay15 (k1_pay4 x4)) (k1_pay16 (k1_pay2 x2) (k1_pay4 x4)) (k1_pay17 (k1_pay2 x2) (k1_pay4 x4)) 32#32) Q)
  isplitl [H8]; · iexact H8
  iintro H8
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-! ## The pipeline's proof data -/

/-- The contents of the eight windowed arrays. -/
abbrev Arrs (c : Dev nD) : Type := (w : Fin 8) → Buf (Elt F) ((c.tc : Thread nD τ).loc (Pipeline.arrRef spec1 w))

/-- The block of input `w` that the body finds at a point. -/
abbrev blkAt {c : Dev nD} (A : Arrs (F := F) c) (w : Fin 8) (n : ℕ) (h : n < cfg1.N) : (win1 w).block.Idx → Elt F (win1 w).elt :=
  heldIn (nD := nD) (τ := τ) (c := c) cfg1 A w n h

/-- The step at a point. -/
def stepAt {c : Dev nD} (A : Arrs (F := F) c) (n : ℕ) (h : n < cfg1.N) (acc : Vec F S1x1 .f32) : Vec F S1x1 .f32 :=
  step (blkAt A 0 n h) (blkAt A 1 n h) (blkAt A 2 n h) (blkAt A 3 n h) (blkAt A 4 n h) (blkAt A 5 n h) (blkAt A 6 n h) acc

/-- The accumulator after a point. -/
def accAt {c : Dev nD} (A : Arrs (F := F) c) : (n : ℕ) → n < cfg1.N → Vec F S1x1 .f32
  | 0, h => stepAt A 0 h k1_pay21
  | n + 1, h => stepAt A (n + 1) h (accAt A n (Nat.lt_of_succ_lt h))

/-- What the waits recorded before the region may be. -/
def rec0 (c : Dev nD) : Set (SemLoc sig × HIx 1) := {p | (K (F := F)).lev ((c.tc : Thread nD τ), p.1) p.2 ≤ 8}

def dat {c : Dev nD} (A : Arrs (F := F) c) : Dat τ (Elt F) (HIx 1) ℕ UU ℕ cfg1 c where
  A w := A w
  after w t := match w with
    | ⟨0, _⟩ => blkAt A 0 t.val t.isLt
    | ⟨1, _⟩ => blkAt A 1 t.val t.isLt
    | ⟨2, _⟩ => blkAt A 2 t.val t.isLt
    | ⟨3, _⟩ => blkAt A 3 t.val t.isLt
    | ⟨4, _⟩ => blkAt A 4 t.val t.isLt
    | ⟨5, _⟩ => blkAt A 5 t.val t.isLt
    | ⟨6, _⟩ => blkAt A 6 t.val t.isLt
    | ⟨7, _⟩ => accAt A t.val t.isLt
  Φ _ := BI.emp
  q _ := fullShare
  owed _ := 0
  recorded _ := rec0 (F := F) c

theorem coords_val (t : Fin cfg1.N) : (grid1.coords t 0).val = t.val := by
  rcases fin_N1 t with h | h | h | h | h | h | h | h <;> subst h <;> decide

theorem before_in {c : Dev nD} (A : Arrs (F := F) c) (w : Fin 8) (hw : w.val < 7) (t : Fin cfg1.N) (d : (win1 w).block.Idx → Elt F (win1 w).elt) :
    (dat A).before w t d = blkAt A w t.val t.isLt := by
  have key : ∀ (w : Fin 8), (cfg1.win w).isOut = false → (∀ (i : cfg1.grid.Coords) a, (cfg1.win w).clip i a = none) → (∀ t, (dat A).after w t = blkAt A w t.val t.isLt) → ∀ d,
      (dat A).before w t d = blkAt A w t.val t.isLt :=
    fun w h1 h3 h2 d => Dat.before_eq_heldIn (dat A) w h1 (fun _ => rfl) h3 h2 t d
  match w, hw, d with
  | ⟨0, _⟩, _, d => exact key 0 rfl (fun _ _ => rfl) (fun _ => rfl) d
  | ⟨1, _⟩, _, d => exact key 1 rfl (fun _ _ => rfl) (fun _ => rfl) d
  | ⟨2, _⟩, _, d => exact key 2 rfl (fun _ _ => rfl) (fun _ => rfl) d
  | ⟨3, _⟩, _, d => exact key 3 rfl (fun _ _ => rfl) (fun _ => rfl) d
  | ⟨4, _⟩, _, d => exact key 4 rfl (fun _ _ => rfl) (fun _ => rfl) d
  | ⟨5, _⟩, _, d => exact key 5 rfl (fun _ _ => rfl) (fun _ => rfl) d
  | ⟨6, _⟩, _, d => exact key 6 rfl (fun _ _ => rfl) (fun _ => rfl) d

/-- The accumulator after a point, over what the body finds in its buffer. -/
theorem acc_eq {c : Dev nD} (A : Arrs (F := F) c) (t : Fin cfg1.N) (d : (win1 7).block.Idx → Elt F (win1 7).elt) :
    stepAt A t.val t.isLt (start (grid1.coords t) ((dat A).before 7 t d)) = accAt A t.val t.isLt := by
  obtain ⟨n, hn⟩ := t
  cases n with
  | zero =>
    unfold start
    rw [if_pos (coords_val _)]
    rfl
  | succ n =>
    unfold start
    rw [if_neg (by rw [coords_val]; exact Nat.succ_ne_zero n)]
    rw [Dat.before_out_kept (dat A) 7 rfl ⟨n + 1, hn⟩ (Nat.succ_ne_zero n) ?_ (fun _ => rfl) (fun _ _ => rfl) d]
    · rfl
    · have hN : n + 1 < 8 := hn
      refine Bool.eq_false_iff.mpr fun h => ?_
      have := (flush1_7 _).mp h
      have h2 : (n + 1 - 1) % 8 = 7 := this
      omega

set_option maxRecDepth 16384 in
theorem body_obligation {c : Dev nD} (A : Arrs (F := F) c) : BodyObligation (dat A) (defs₀ (F := F)) 𝒱₀ none Set.univ := fun t => by
  rw [bigSep_W1, bigSep_W1]
  rw [show (dat A).Φ t.castSucc = BI.emp from rfl, show (dat A).Φ t.succ = BI.emp from rfl,
    show (dat A).owesAt none t.succ = (dat A).owesAt none t.castSucc from rfl]
  iintro ⟨-, Howes, ⟨%d0, H0⟩, ⟨%d1, H1⟩, ⟨%d2, H2⟩, ⟨%d3, H3⟩, ⟨%d4, H4⟩, ⟨%d5, H5⟩, ⟨%d6, H6⟩, ⟨%d7, H7⟩⟩
  rw [before_in A 0 (by decide), before_in A 1 (by decide), before_in A 2 (by decide), before_in A 3 (by decide),
    before_in A 4 (by decide), before_in A 5 (by decide), before_in A 6 (by decide)]
  iapply (body_run c (grid1.coords t) (st1_0 t) (hstage1_0 ((cfg1.slots t 0).cast nbuf1_0)) (st1_1 t) (hstage1_1 ((cfg1.slots t 1).cast nbuf1_1))
    (st1_2 t) (hstage1_2 ((cfg1.slots t 2).cast nbuf1_2)) (st1_3 t) (hstage1_3 ((cfg1.slots t 3).cast nbuf1_3))
    (st1_4 t) (hstage1_4 ((cfg1.slots t 4).cast nbuf1_4)) (st1_5 t) (hstage1_5 ((cfg1.slots t 5).cast nbuf1_5))
    (st1_6 t) (hstage1_6 ((cfg1.slots t 6).cast nbuf1_6)) (st1_7 t) (hstage1_7 ((cfg1.slots t 7).cast nbuf1_7))
    (blkAt A 0 t.val t.isLt) (blkAt A 1 t.val t.isLt) (blkAt A 2 t.val t.isLt) (blkAt A 3 t.val t.isLt) (blkAt A 4 t.val t.isLt)
    (blkAt A 5 t.val t.isLt) (blkAt A 6 t.val t.isLt) ((dat A).before 7 t d7))
  unfold Own
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iintro ⟨H0, H1, H2, H3, H4, H5, H6, H7⟩
  isplitr; · iempintro
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  have e := acc_eq A t d7
  unfold stepAt at e
  rw [e]
  iexact H7

/-! ## The region -/

variable (adm : (p : Fin 1) → (pcfgs (F := F) p).Adm)

def pdats (A : (c : Dev nD) → Arrs (F := F) c) : (p : Fin 1) → (c : Dev nD) → Dat τ (Elt F) (HIx 1) ℕ UU ℕ (Pipeline.pin (pcfgs (F := F)) adm p) c
  | ⟨0, _⟩ => fun c => dat (A c)

/-- The eight arrays held whole. -/
def arrs (c : Dev nD) (A : Arrs (F := F) c) : sProp 𝕄 :=
  bigSep Finset.univ fun w : Fin 8 => ((c.tc : Thread nD τ).loc (Pipeline.arrRef spec1 w)) ↦{fullShare} A w

/-- The arrays after the region: the result at the last accumulator, the others as they were. -/
def finalA {c : Dev nD} (A : Arrs (F := F) c) : Arrs (F := F) c := fun w => (dat A).arrAt w cfg1.N

/-- What the thread has recorded of its waits while nothing is owed. -/
def owe0 (c : Dev nD) : sProp 𝕄 := iprop(∃ W, ⌜(K (F := F)).WBelow (c.tc : Thread nD τ) W 8⌝ ∗ owes (c.tc : Thread nD τ) (0 : CellTallies nD τ sig (HIx 1)) W)

set_option backward.isDefEq.respectTransparency.types false in
/-- The region over the eight arrays and the thread's obligations, none owed. -/
def reg (A : (c : Dev nD) → Arrs (F := F) c) :
    Pipeline.RegionSeg (pcfgs (F := F)) adm (pdats adm A) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation (A c)).loose
  hwaits := Pipeline.hwaits_of_owed_zero _ _ _ _ (K (F := F)).L (K (F := F)).lev 0 fun _ _ => rfl
  pre c := iprop(arrs c (A c) ∗ owe0 c)
  post c := iprop(arrs c (finalA (A c)) ∗ owe0 c)
  X _ := BI.emp
  Y _ := BI.emp
  Z _ := BI.emp
  hentry c := by
    rw [Pipeline.ownSems0_none]
    have harr := Pipeline.arrays_eq (Pipeline.pin (pcfgs (F := F)) adm) (pdats adm A) 0 c arr_whole1
      ((pdats adm A 0 c).share_full fun _ => rfl) ((pdats adm A 0 c).arrAt · 0)
    rw [harr]
    unfold owe0 arrs
    iintro ⟨⟨Ha, %W, %hW, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iempintro
  hin c := by
    rw [show (pdats adm A 0 c).Φ 0 = BI.emp from rfl]
    iintro -; iempintro
  hout c := by
    rw [Pipeline.ownSems0_none, show (pdats adm A 0 c).Φ (Fin.last _) = BI.emp from rfl]
    have hr := scopedRest1_eq (Ix := HIx 1) (Val := Elt F) (Name := ℕ) (U := UU) (Lvl := ℕ) c
    iintro -
    isplitr; · iempintro
    isplitr; · iempintro
    iapply (BI.BIBase.Entails.of_eq hr.symm)
    iempintro
  hexit c := by
    have harr := Pipeline.arrays_eq (Pipeline.pin (pcfgs (F := F)) adm) (pdats adm A) 0 c arr_whole1
      ((pdats adm A 0 c).share_full fun _ => rfl) ((pdats adm A 0 c).arrAt · cfg1.N)
    rw [harr]
    unfold owe0 arrs
    iintro ⟨Ha, HO, -, -⟩
    imodintro
    isplitl [Ha]; · iexact Ha
    unfold Pipeline.Dat.owesAt Pipeline.owesWithin
    icases HO with ⟨%W, %hW, HO⟩
    iexists W; isplitr
    · ipureintro
      intro p hp
      rcases hW hp with h | ⟨w, s, h⟩
      · exact h
      · rw [h]; exact Nat.zero_le _
    iexact HO

end Cert.Proof.Id

end
-- ==== Proof.Id.Split.lean ====
/-
  The contents of @main's buffers from line to line, and the buffers each of its two kernels is handed, taken out of
  all the TensorCore holds.
-/
module

public import proofs.«01_k».proof.Proof.Id.Pay
public import proofs.«01_k».proof.Proof.Id.Region
public import Idealize.ShloMosaic.Lib.SparseCore.Quiescent
public import Idealize.ShloMosaic.Lib.Pipeline.Sound
public import Idealize.ShloMosaic.Lib.Pipeline.Kit

@[expose] public section

noncomputable section

namespace Cert.Proof.Id

open Cert.KernelIdeal Cert.KernelIdeal.Gen

open Idealize.ShloMosaic Idealize.ShloMosaic.ValueIdx
open Idealize.ShloMosaic.TcCoe
open Idealize.ShloMosaic.StableHlo
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-! ## The contents along @main -/

abbrev dr (r : Ref sig .tc) : DevRef τ sig := Proc.devRef .tc r

/-- After the SparseCore call. -/
def V2 (d : Dev nD) : Valuation τ sig (Elt F) :=
  Function.update (Function.update (V1 m d) (dr main_v4_0) (winVal (bp1 m d) (g1 m d))) (dr main_v4_1) (wgVal (gw1 m d) (g1 m d))
/-- When the TensorCore call is reached. -/
def V3 (d : Dev nD) : Valuation τ sig (Elt F) := after opsM (V2 m d)
/-- The windowed arrays then. -/
def AA (d : Dev nD) : Arrs (F := F) d := fun w => V3 m d (dr (Pipeline.arrRef spec1 w))
/-- After it. -/
def V4 (d : Dev nD) : Valuation τ sig (Elt F) := Function.update (V3 m d) (dr main_v12) (finalA (AA m d) 7)
/-- The result. -/
def res (d : Dev nD) : Buf (Elt F) ((SparseCore.T d : Thread nD τ).loc main_v13) := after [opE] (V4 m d) (dr main_v13)

theorem V2_keep (d : Dev nD) (r : Ref sig .tc) (h0 : r ≠ main_v4_0) (h1 : r ≠ main_v4_1) : V2 m d (dr r) = V1 m d (dr r) := by
  unfold V2
  rw [Function.update_of_ne (devRef_ne_of_ne h1), Function.update_of_ne (devRef_ne_of_ne h0)]
theorem V1_keep (d : Dev nD) (r : Ref sig .tc) (hG : r ∉ WG) (hY : r ∉ WY) (hP : r ∉ WP) : V1 m d (dr r) = m (d, dr r) := by
  unfold V1
  rw [after_pre, opsP_keep _ _ hP, opsY_keep _ _ hY, opsG_keep _ _ hG]
theorem V3_arg (d : Dev nD) (r : Ref sig .tc) (hG : r ∉ WG) (hY : r ∉ WY) (hP : r ∉ WP) (h0 : r ≠ main_v4_0) (h1 : r ≠ main_v4_1) (hM : r ∉ WM) :
    V3 m d (dr r) = m (d, dr r) := by
  unfold V3
  rw [opsM_keep _ _ hM, V2_keep _ _ _ h0 h1, V1_keep _ _ _ hG hY hP]

/-! ## The buffers, one by one -/

/-- The conjunction over a list of references. -/
theorem bigSep_refs (l : List (Ref sig .tc)) (h : l.Nodup) (Φ : DevRef τ sig → sProp 𝕄) :
    bigSep (l.map (Proc.devRef (τ := τ) .tc)).toFinset Φ = l.foldr (fun r acc => iprop(Φ (dr r) ∗ acc)) iprop(emp) := by
  induction l with
  | nil => exact bigSep_empty
  | cons r l ih =>
    obtain ⟨hr, hl⟩ := List.nodup_cons.mp h
    rw [List.map_cons, List.toFinset_cons, SparseCore.bigSep_insert' ?_, ih hl]; · rfl
    intro hc
    obtain ⟨x, hx, e⟩ := List.mem_map.mp (List.mem_toFinset.mp hc)
    exact hr (Proc.devRef_injective _ e ▸ hx)

theorem refs_sub (l : List (Ref sig .tc)) (h : l.Forall fun r => r.isScoped = false) : (l.map (Proc.devRef (τ := τ) .tc)).toFinset ⊆ ucRefs := by
  intro b hb
  obtain ⟨x, hx, rfl⟩ := List.mem_map.mp (List.mem_toFinset.mp hb)
  exact Finset.mem_filter.mpr ⟨devRef_mem_tcRefs x, by
    rw [Proc.isScoped_devRef, List.forall_iff_forall_mem.mp h x hx]; exact Bool.false_ne_true⟩

/-- The buffers the SparseCore call is handed. -/
def Lsc : List (Ref sig .tc) := [main_v3, main_v0, main_v2, main_v4_0, main_v4_1]
/-- The buffers the TensorCore call is handed, the result and the arguments. -/
def Lfin : List (Ref sig .tc) := [main_v5, main_v4_0, main_v4_1, main_v6, main_v7, main_v9, main_v11, main_v12, main_v13,
  main_arg0, main_arg1, main_arg2, main_arg3, main_arg4]

abbrev Ssc : Finset (DevRef τ sig) := (Lsc.map (Proc.devRef (τ := τ) .tc)).toFinset

theorem Lsc_sub : Ssc ⊆ ucRefs := refs_sub Lsc (by decide)
theorem Lsc_nodup : Lsc.Nodup := by decide
theorem Lfin_sub : (Lfin.map (Proc.devRef (τ := τ) .tc)).toFinset ⊆ ucRefs := refs_sub Lfin (by decide)
theorem Lfin_nodup : Lfin.Nodup := by decide

/-- The shares @main holds its buffers at after the SparseCore call: of the arrays the tasks read, what the call left it. -/
def qM (b : DevRef τ sig) : PosShare TreeShare := if b ∈ [dr main_v3, dr main_v0, dr main_v2] then fullShare.left else fullShare

theorem qM_full (r : Ref sig .tc) (h : r ∉ [main_v3, main_v0, main_v2]) : qM (dr r) = fullShare := by
  unfold qM
  rw [if_neg]
  intro hc
  apply h
  have : dr r ∈ [main_v3, main_v0, main_v2].map (Proc.devRef (τ := τ) .tc) := hc
  obtain ⟨x, hx, e⟩ := List.mem_map.mp this
  exact Proc.devRef_injective _ e ▸ hx
theorem qM_left (r : Ref sig .tc) (h : r ∈ [main_v3, main_v0, main_v2]) : qM (dr r) = fullShare.left := by
  unfold qM
  rw [if_pos]
  exact List.mem_map_of_mem (f := Proc.devRef (τ := τ) .tc) h

/-- What @main keeps while the SparseCores run. -/
def Keep (d : Dev nD) : sProp 𝕄 :=
  iprop((bpLoc d ↦{fullShare.left} bp1 m d) ∗ (gLoc d ↦{fullShare.left} g1 m d) ∗ (gwLoc d ↦{fullShare.left} gw1 m d)
    ∗ StableHlo.held (SparseCore.T d : Thread nD τ) (ucRefs \ Ssc) (V1 m d))

theorem pre_split (d : Dev nD) : (StableHlo.held (SparseCore.T d : Thread nD τ) ucRefs (V1 m d) : sProp 𝕄) ⊢ iprop(Keep m d ∗ bigSep Finset.univ (goAt m d)) := by
  rw [held_sub_split _ Lsc_sub, go_all]
  unfold StableHlo.held Keep
  rw [bigSep_refs Lsc Lsc_nodup]
  show iprop(((bpLoc d ↦{fullShare} bp1 m d) ∗ (gLoc d ↦{fullShare} g1 m d) ∗ (gwLoc d ↦{fullShare} gw1 m d) ∗ (winLoc d ↦{fullShare} win1' m d)
    ∗ (wgLoc d ↦{fullShare} wg1 m d) ∗ emp) ∗ StableHlo.held (SparseCore.T d : Thread nD τ) (ucRefs \ Ssc) (V1 m d)) ⊢ _
  iintro ⟨⟨Hbp, Hg, Hgw, Hwin, Hwg, -⟩, Hr⟩
  ihave Hbp := (pointsTo_share (ℓ := bpLoc d) (I := Finset.univ) (f := bp1 m d) (PosShare.mem_left_op_right fullShare)).1 $$ Hbp
  ihave Hg := (pointsTo_share (ℓ := gLoc d) (I := Finset.univ) (f := g1 m d) (PosShare.mem_left_op_right fullShare)).1 $$ Hg
  ihave Hgw := (pointsTo_share (ℓ := gwLoc d) (I := Finset.univ) (f := gw1 m d) (PosShare.mem_left_op_right fullShare)).1 $$ Hgw
  icases Hbp with ⟨Hbp, Hbp'⟩
  icases Hg with ⟨Hg, Hg'⟩
  icases Hgw with ⟨Hgw, Hgw'⟩
  isplitl [Hbp Hg Hgw Hr]
  · isplitl [Hbp]; · iexact Hbp
    isplitl [Hg]; · iexact Hg
    isplitl [Hgw]; · iexact Hgw
    iexact Hr
  · isplitl [Hbp']; · iexact Hbp'
    isplitl [Hg']; · iexact Hg'
    isplitl [Hgw']; · iexact Hgw'
    isplitl [Hwin]; · iexact Hwin
    iexact Hwg

theorem heldAt_sub_split {A S : Finset (DevRef τ sig)} (hT : A ⊆ S) (c : Thread nD τ) (q : DevRef τ sig → PosShare TreeShare) (W : Valuation τ sig (Elt F)) :
    (heldAt c S q W : sProp 𝕄) = iprop(heldAt c A q W ∗ heldAt c (S \ A) q W) := by
  unfold heldAt
  conv_lhs => rw [← Finset.union_sdiff_of_subset hT]
  exact bigSep_union Finset.disjoint_sdiff

theorem rest_eq (d : Dev nD) : (StableHlo.held (SparseCore.T d : Thread nD τ) (ucRefs \ Ssc) (V1 m d) : sProp 𝕄) = heldAt (SparseCore.T d : Thread nD τ) (ucRefs \ Ssc) qM (V2 m d) := by
  unfold StableHlo.held heldAt
  refine bigSep_congr fun b hb => ?_
  obtain ⟨hb, hn⟩ := Finset.mem_sdiff.mp hb
  obtain ⟨r, -, rfl⟩ := Finset.mem_map.mp (Finset.mem_filter.mp hb).1
  have hr : r ∉ Lsc := fun h => hn (List.mem_toFinset.mpr (List.mem_map_of_mem h))
  simp only [Lsc, List.mem_cons, List.not_mem_nil, or_false, not_or] at hr
  show ((d, dr r) ↦{fullShare} V1 m d (dr r)) = ((d, dr r) ↦{qM (dr r)} V2 m d (dr r))
  rw [V2_keep m d r hr.2.2.2.1 hr.2.2.2.2, qM_full r (by simp only [List.mem_cons, List.not_mem_nil, or_false, not_or]; exact ⟨hr.1, hr.2.1, hr.2.2.1⟩)]

theorem post_join (d : Dev nD) : iprop(Keep m d ∗ bigSep Finset.univ (tdAt m d)) ⊢ (heldAt (SparseCore.T d : Thread nD τ) ucRefs qM (V2 m d) : sProp 𝕄) := by
  rw [heldAt_sub_split Lsc_sub, td_all]
  unfold Keep
  rw [rest_eq]
  unfold heldAt
  rw [bigSep_refs Lsc Lsc_nodup]
  simp only [Lsc, List.foldr]
  rw [qM_left main_v3 (by decide), qM_left main_v0 (by decide), qM_left main_v2 (by decide), qM_full main_v4_0 (by decide), qM_full main_v4_1 (by decide),
    V2_keep m d main_v3 (by decide) (by decide), V2_keep m d main_v0 (by decide) (by decide), V2_keep m d main_v2 (by decide) (by decide)]
  rw [show V2 m d (dr main_v4_1) = wgVal (gw1 m d) (g1 m d) from Function.update_self ..,
    show V2 m d (dr main_v4_0) = winVal (bp1 m d) (g1 m d) from
      (Function.update_of_ne (devRef_ne_of_ne (by decide)) ..).trans (Function.update_self ..)]
  iintro ⟨⟨Hbp, Hg, Hgw, Hr⟩, Hwin, Hwg⟩
  isplitr [Hr]
  · isplitl [Hbp]; · iexact Hbp
    isplitl [Hg]; · iexact Hg
    isplitl [Hgw]; · iexact Hgw
    isplitl [Hwin]; · iexact Hwin
    isplitl [Hwg]; · iexact Hwg
    iempintro
  · iexact Hr

/-- The arguments, as they were. -/
def Args (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_arg2 ↦{fullShare} m ((SparseCore.T d).loc main_arg2)) ∗ ((SparseCore.T d).loc main_arg3 ↦{fullShare} m ((SparseCore.T d).loc main_arg3))
    ∗ ((SparseCore.T d).loc main_arg4 ↦{fullShare} m ((SparseCore.T d).loc main_arg4)))

theorem foldr_congr (l : List (Ref sig .tc)) (Φ Ψ : Ref sig .tc → sProp 𝕄) (h : ∀ r ∈ l, Φ r = Ψ r) :
    l.foldr (fun r acc => iprop(Φ r ∗ acc)) iprop(emp) = l.foldr (fun r acc => iprop(Ψ r ∗ acc)) iprop(emp) := by
  induction l with
  | nil => rfl
  | cons r l ih =>
    simp only [List.foldr]
    rw [h r List.mem_cons_self, ih fun x hx => h x (List.mem_cons_of_mem _ hx)]

theorem fin_full : ∀ r ∈ Lfin, r ∉ [main_v3, main_v0, main_v2] := by decide

/-- An argument's buffer, its contents as they were. -/
theorem arg_pts (d : Dev nD) (r : Ref sig .tc) (e : V3 m d (dr r) = m (d, dr r)) :
    (((SparseCore.T d).loc r ↦{fullShare} V3 m d (dr r)) : sProp 𝕄) ⊢ ((SparseCore.T d).loc r ↦{fullShare} m ((SparseCore.T d).loc r)) :=
  BI.BIBase.Entails.of_eq (congrArg (fun f => ((SparseCore.T d).loc r ↦{fullShare} f : sProp 𝕄)) e)

theorem fin_split (d : Dev nD) : (heldAt (SparseCore.T d : Thread nD τ) ucRefs qM (V3 m d) : sProp 𝕄)
    ⊢ iprop(arrs d (AA m d) ∗ ((SparseCore.T d).loc main_v13 ↦{fullShare} V3 m d (dr main_v13)) ∗ Args m d) := by
  rw [heldAt_sub_split Lfin_sub]
  unfold heldAt arrs Args
  rw [bigSep_refs Lfin Lfin_nodup, bigSep_W1,
    foldr_congr Lfin _ (fun r => ((SparseCore.T d).loc r ↦{fullShare} V3 m d (dr r))) fun r hr => by rw [qM_full r (fin_full r hr)]]
  simp only [Lfin, List.foldr]
  iintro ⟨⟨H0, H1, H2, H3, H4, H5, H6, H7, H13, Ha0, Ha1, Ha2, Ha3, Ha4, -⟩, -⟩
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H13]; · iexact H13
  isplitl [Ha0]; · iapply (arg_pts m d main_arg0 (V3_arg m d main_arg0 (by decide) (by decide) (by decide) (by decide) (by decide) (by decide))); iexact Ha0
  isplitl [Ha1]; · iapply (arg_pts m d main_arg1 (V3_arg m d main_arg1 (by decide) (by decide) (by decide) (by decide) (by decide) (by decide))); iexact Ha1
  isplitl [Ha2]; · iapply (arg_pts m d main_arg2 (V3_arg m d main_arg2 (by decide) (by decide) (by decide) (by decide) (by decide) (by decide))); iexact Ha2
  isplitl [Ha3]; · iapply (arg_pts m d main_arg3 (V3_arg m d main_arg3 (by decide) (by decide) (by decide) (by decide) (by decide) (by decide))); iexact Ha3
  iapply (arg_pts m d main_arg4 (V3_arg m d main_arg4 (by decide) (by decide) (by decide) (by decide) (by decide) (by decide))); iexact Ha4

theorem opsM_qM : ∀ op ∈ (opsM : List (HloOp τ sig (Elt F))), ∀ b ∈ op.writes, qM b = fullShare := fun op h b hb => by
  have hb := List.forall_iff_forall_mem.mp opsM_writes op h hb
  obtain ⟨r, hr, rfl⟩ := List.mem_map.mp (List.mem_toFinset.mp hb)
  refine qM_full r fun hc => ?_
  have : ∀ r ∈ WM, r ∉ [main_v3, main_v0, main_v2] := by decide
  exact this r hr hc

end Cert.Proof.Id

end
-- ==== Proof.Id.Main.lean ====
/-
  @main on the TensorCore — the host lines, the SparseCore call, the TensorCore call, the last reshape — and the
  program's run: it terminates, faults nowhere, leaves the arguments as they were and the result at the last accumulator.
-/
module

public import proofs.«01_k».proof.Proof.Id.Split
public import Idealize.ShloMosaic.Lib.SparseCore.Quiescent
public import Idealize.ShloMosaic.Lib.Pipeline.Sound
public import Idealize.ShloMosaic.Lib.Pipeline.Kit

@[expose] public section

noncomputable section

namespace Cert.Proof.Id

open Cert.KernelIdeal Cert.KernelIdeal.Gen

open Idealize.ShloMosaic Idealize.ShloMosaic.ValueIdx
open Idealize.ShloMosaic.TcCoe
open Idealize.ShloMosaic.StableHlo
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-! ## The launch element -/

def adm : (p : Fin 1) → (pcfgs (F := F) p).Adm := fun p => (cfgs p).toPCfg_adm

/-- The pipelines at their tables. -/
abbrev PC (F : FTy → Type) [FloatOps F] [Named F] : (p : Fin 1) → Pipeline.Cfg sig Λ₀ := Pipeline.pin (pcfgs (F := F)) adm

theorem pc_inj : Function.Injective (Pipeline.cellOf (nD := nD) (τ := τ) (PC F)) := cellOf_inj

def u₀ : UU := (initOf (K (F := F)).hsCells (K (F := F)).hsToks, (initOf (Pipeline.cells (nD := nD) (τ := τ) (PC F) pc_inj) (Pipeline.launchToks (PC F) pc_inj), 1))

/-- The pipeline's ghost state of a device. -/
def G (d : Dev nD) : sProp 𝕄 := iprop(Pipeline.cellsGhost (PC F) EP 0 d ∗ Pipeline.toksInit (PC F) EP 0 d)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ (G (F := F)))
        ∗ bigSep Finset.univ fun thr : Thread nD τ => bigSep Finset.univ fun q : Fin 1 => (P m).x q thr) := by
  unfold u₀
  iintro Hu
  ihave H := (ownU_pair (initOf (K (F := F)).hsCells (K (F := F)).hsToks)
    ((initOf (Pipeline.cells (nD := nD) (τ := τ) (PC F) pc_inj) (Pipeline.launchToks (PC F) pc_inj), (1 : Counters)) : UR sig nD τ × Counters)) $$ Hu
  icases H with ⟨HH, HR⟩
  ihave HR := (own_pair_emb (embR : Emb (UR sig nD τ × Counters) 𝕄) (initOf (Pipeline.cells (nD := nD) (τ := τ) (PC F) pc_inj) (Pipeline.launchToks (PC F) pc_inj)) (1 : Counters)) $$ HR
  icases HR with ⟨HR, -⟩
  imod (Pipeline.fund_ghost (PC F) (EP (F := F)) pc_inj) $$ HR with ⟨Hg, Ht⟩
  imodintro
  isplitl [HH]; · iexact HH
  isplitl [Hg Ht]
  · unfold G
    rw [bigSep_sep']
    isplitl [Hg]
    · rw [show (Pipeline.cellsGhost (PC F) EP 0 : Dev nD → sProp 𝕄) = fun d => bigSep Finset.univ fun p => Pipeline.cellsGhost (PC F) EP p d from
        funext fun d => by rw [bigSep_univ_of_subsingleton (0 : Fin 1)]]
      iexact Hg
    · rw [show (Pipeline.toksInit (PC F) EP 0 : Dev nD → sProp 𝕄) = fun d => bigSep Finset.univ fun p => Pipeline.toksInit (PC F) EP p d from
        funext fun d => by rw [bigSep_univ_of_subsingleton (0 : Fin 1)]]
      iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main -/

theorem unscoped_held (d : Dev nD) (W : Valuation τ sig (Elt F)) : (unscopedBufs d (fun b => W (dr b)) : sProp 𝕄) = StableHlo.held (SparseCore.T d : Thread nD τ) ucRefs W := by
  unfold unscopedBufs StableHlo.held ucRefs tcRefs
  rw [Finset.filter_map, bigSep_map]
  rfl

/-! ### The TensorCore call -/

theorem lift_entry : (Prog.lift (.customCall (SparseCore.inner (Pipeline.entry 0)) ()) : Prog (TpuEff nD τ sig (Elt F) (SparseCore.Sig (ΛP (F := F)) 1) .tc) PUnit)
    = SparseCore.liftProg (.op (.customCall (Pipeline.entry 0) ()) .ret) := rfl

theorem lift_run (d : Dev nD) (Q : PUnit → sProp 𝕄) (A : sProp 𝕄)
    (h : A ⊢ wp frame (wpE (D (F := F)) 𝒱 (d.tc : Thread nD τ) none) Set.univ (.op (.customCall (Pipeline.entry 0) ()) .ret) Q) :
    A ⊢ wp frame (wpE ((K (F := F)).defs (D (F := F))) 𝒱 (SparseCore.T d) none) Set.univ (Prog.lift (.customCall (SparseCore.inner (Pipeline.entry 0)) ())) Q := by
  rw [lift_entry]
  exact BI.BIBase.Entails.trans h ((K (F := F)).wp_liftProg (D (F := F)) 𝒱 (SparseCore.T d) Set.univ none _ Q)

set_option backward.isDefEq.respectTransparency.types false in
theorem region_wp [∀ e, Nonempty (Elt F e)] (d : Dev nD) (Q : PUnit → sProp 𝕄) :
    iprop((boundary (d.tc : Thread nD τ) ∗ (reg adm (AA m)).post d -∗ wp frame (wpE (D (F := F)) 𝒱 (d.tc : Thread nD τ) none) Set.univ (.ret ⟨⟩) Q)
        ∗ boundary (d.tc : Thread nD τ) ∗ (reg adm (AA m)).pre d ∗ levAts (K (F := F)).L (K (F := F)).lev ∗ G d)
      ⊢ wp frame (wpE (D (F := F)) 𝒱 (d.tc : Thread nD τ) none) Set.univ (.op (.customCall (Pipeline.entry 0) ()) .ret) Q :=
  Pipeline.RegionSeg.wp (pcfgs (F := F)) adm (pdats adm (AA m)) none pc_inj EP defs₀ 𝒱₀ (K (F := F)).L (K (F := F)).lev (reg adm (AA m)) d none
    (fun _ h => nomatch h) (fun x => .ret x) Q

theorem region_run [∀ e, Nonempty (Elt F e)] (d : Dev nD) (Q : PUnit → sProp 𝕄) :
    iprop((iprop(boundary (SparseCore.T d : Thread nD τ) ∗ arrs d (finalA (AA m d)) ∗ owe0 d) -∗ Q ⟨⟩)
        ∗ boundary (SparseCore.T d : Thread nD τ) ∗ (arrs d (AA m d) ∗ owe0 d) ∗ levAts (K (F := F)).L (K (F := F)).lev ∗ G d)
      ⊢ wp frame (wpE ((K (F := F)).defs (D (F := F))) 𝒱 (SparseCore.T d) none) Set.univ (Prog.lift (.customCall (SparseCore.inner (Pipeline.entry 0)) ())) Q := by
  refine lift_run d Q _ (BI.BIBase.Entails.trans ?_ (region_wp m d Q))
  show _ ⊢ iprop((boundary (d.tc : Thread nD τ) ∗ (arrs d (finalA (AA m d)) ∗ owe0 d) -∗ wp frame (wpE (D (F := F)) 𝒱 (d.tc : Thread nD τ) none) Set.univ (.ret ⟨⟩) Q)
    ∗ boundary (d.tc : Thread nD τ) ∗ (arrs d (AA m d) ∗ owe0 d) ∗ levAts (K (F := F)).L (K (F := F)).lev ∗ G d)
  iintro ⟨Hk, H⟩
  isplitl [Hk]
  · iintro H
    rw [wp_ret]
    imodintro
    iapply Hk
    iexact H
  · iexact H

/-- What is held while no SparseCore call is left: all of the handshake but the obligations. -/
def Rest1 (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last (N := 1) q)) 1)))

theorem tcSt_one (d : Dev nD) : ((K (F := F)).tcSt EH d 1 : sProp 𝕄) = iprop(owe0 d ∗ Rest1 d) := by
  have h : (K (F := F)).Otc (N := 1) d 1 = 0 := (K (F := F)).Otc_end d le_rfl
  unfold SparseCore.Cfg.tcSt
  rw [h]
  rfl

/-- The arguments and the result. -/
def FIN (d : Dev nD) : sProp 𝕄 := iprop(Args m d ∗ ((SparseCore.T d).loc main_v13 ↦{fullShare} res m d))

theorem opsM_uc : ∀ op ∈ (opsM : List (HloOp τ sig (Elt F))), op.bufs ⊆ ucRefs := fun op h =>
  sub_uc (List.forall_iff_forall_mem.mp opsM_sub op h)

/-- The last reshape's two buffers. -/
abbrev SE : Finset (DevRef τ sig) := ([main_v12, main_v13].map (Proc.devRef (τ := τ) .tc)).toFinset

theorem opE_sub : ∀ op ∈ [(opE : HloOp τ sig (Elt F))], op.bufs ⊆ SE := fun op h => by
  rw [List.mem_singleton.mp h]
  show ({dr main_v12, dr main_v13} : Finset (DevRef τ sig)) ⊆ _
  intro b hb
  rcases Finset.mem_insert.mp hb with h | h
  · subst h; exact List.mem_toFinset.mpr (List.mem_cons_self)
  · rw [Finset.mem_singleton.mp h]; exact List.mem_toFinset.mpr (List.mem_cons_of_mem _ List.mem_cons_self)

theorem opE_fresh : ∀ op ∈ [(opE : HloOp τ sig (Elt F))], op.fresh = ∅ := fun op h => by rw [List.mem_singleton.mp h]; rfl

theorem end_seq : (seq [opE] : Prog (TpuEff nD τ sig (Elt F) (SparseCore.Sig (ΛP (F := F)) 1) .tc) PUnit) = seq [opE] >>= fun _ => .ret ⟨⟩ := rfl

theorem end_held (d : Dev nD) (W : Valuation τ sig (Elt F)) : (StableHlo.held (SparseCore.T d : Thread nD τ) SE W : sProp 𝕄)
    = iprop(((SparseCore.T d).loc main_v12 ↦{fullShare} W (dr main_v12)) ∗ ((SparseCore.T d).loc main_v13 ↦{fullShare} W (dr main_v13)) ∗ emp) := by
  unfold StableHlo.held
  exact bigSep_refs [main_v12, main_v13] (by decide) _

theorem end_join (d : Dev nD) : iprop(arrs d (finalA (AA m d)) ∗ ((SparseCore.T d).loc main_v13 ↦{fullShare} V3 m d (dr main_v13)))
    ⊢ (StableHlo.held (SparseCore.T d : Thread nD τ) SE (V4 m d) : sProp 𝕄) := by
  rw [end_held]
  have e12 : V4 m d (dr main_v12) = finalA (AA m d) 7 := Function.update_self ..
  have e13 : V4 m d (dr main_v13) = V3 m d (dr main_v13) := Function.update_of_ne (devRef_ne_of_ne (by decide)) ..
  rw [e12, e13]
  unfold arrs
  rw [bigSep_W1]
  iintro ⟨⟨-, -, -, -, -, -, -, H⟩, H13⟩
  isplitl [H]; · iexact H
  isplitl [H13]; · iexact H13
  iempintro

set_option maxRecDepth 16384 in
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  rw [main_eq]
  unfold SparseCore.Cfg.tcRes SparseCore.Cfg.tcEnd
  rw [show (unscopedBufs d (fun b => m ((SparseCore.T d : Thread nD τ).loc b)) : sProp 𝕄)
    = StableHlo.held (SparseCore.T d : Thread nD τ) ucRefs (launchContents m d) from unscoped_held d (launchContents m d)]
  iintro ⟨#Hctx, Hst, ⟨Hb, Hbufs, Hts, -⟩, HG⟩
  iapply (wp_seq 𝒱 none Set.univ d ucRefs _ preOps preOps_sub preOps_fresh (launchContents m d)) $$ [Hb Hbufs]
  · isplitl [Hb]; · iexact Hb
    iexact Hbufs
  iintro ⟨Hb, H⟩
  ihave H := (show (StableHlo.held (SparseCore.T d : Thread nD τ) ucRefs (after preOps (launchContents m d)) : sProp 𝕄)
    ⊢ iprop(Keep m d ∗ bigSep Finset.univ (goAt m d)) from pre_split m d) $$ H
  icases H with ⟨HK, Hgo⟩
  rw [wp_bind]
  iapply ((K (F := F)).wp_run (D (F := F)) 𝒱 (EH := EH) (P := P m) κ d 0)
  isplitr; · iexact Hctx
  isplitl [Hst]; · iexact Hst
  isplitl [Hgo]; · rw [st_all]; iexact Hgo
  rw [dn_all]
  iintro ⟨Hst, Htd⟩
  ihave H := (post_join m d) $$ [HK Htd]
  · isplitl [HK]; · iexact HK
    iexact Htd
  iapply (wp_seqAt 𝒱 none Set.univ d ucRefs qM _ opsM opsM_uc opsM_qM (fun op h => List.forall_iff_forall_mem.mp opsM_fresh op h) (V2 m d)) $$ [Hb H]
  · isplitl [Hb]; · iexact Hb
    iexact H
  iintro ⟨Hb, H⟩
  ihave H := (show (heldAt (SparseCore.T d : Thread nD τ) ucRefs qM (after opsM (V2 m d)) : sProp 𝕄)
    ⊢ iprop(arrs d (AA m d) ∗ ((SparseCore.T d).loc main_v13 ↦{fullShare} V3 m d (dr main_v13)) ∗ Args m d) from fin_split m d) $$ H
  icases H with ⟨Harr, H13, Hargs⟩
  ihave Hst := (show ((K (F := F)).tcSt EH d ((0 : Fin 1).val + 1) : sProp 𝕄) ⊢ iprop(owe0 d ∗ Rest1 d) from BI.BIBase.Entails.of_eq (tcSt_one d)) $$ Hst
  icases Hst with ⟨Howe, Hrest⟩
  rw [wp_bind]
  iapply (region_run m d)
  isplitl [Hrest H13 Hargs Hts]
  · iintro ⟨Hb, Harr, Howe⟩
    ihave H := (end_join m d) $$ [Harr H13]
    · isplitl [Harr]; · iexact Harr
      iexact H13
    rw [end_seq]
    iapply (wp_seq 𝒱 none Set.univ d SE _ [opE] opE_sub opE_fresh (V4 m d)) $$ [Hb H]
    · isplitl [Hb]; · iexact Hb
      iexact H
    iintro ⟨Hb, H⟩
    rw [wp_ret]
    imodintro
    ihave H := (BI.BIBase.Entails.of_eq (end_held d (after [opE] (V4 m d)))) $$ H
    icases H with ⟨-, H13, -⟩
    isplitl [Howe Hrest]
    · iapply (BI.BIBase.Entails.of_eq (tcSt_one d).symm)
      isplitl [Howe]; · iexact Howe
      iexact Hrest
    isplitl [Hargs H13]
    · unfold FIN res
      isplitl [Hargs]; · iexact Hargs
      iexact H13
    isplitl [Hb]; · iexact Hb
    iexact Hts
  isplitl [Hb]; · iexact Hb
  isplitl [Harr Howe]
  · isplitl [Harr]; · iexact Harr
    iexact Howe
  isplitr [HG]; · iapply (SparseCore.Cfg.ctx_levAts κ); iexact Hctx
  iexact HG

/-! ## The run -/

def fq (d : Dev nD) (s' : Phys nD τ sig (Elt F)) : Prop :=
  (s'.mem.mem ((SparseCore.T d).loc main_arg0) = m ((SparseCore.T d).loc main_arg0) ∧ s'.mem.mem ((SparseCore.T d).loc main_arg1) = m ((SparseCore.T d).loc main_arg1)
    ∧ s'.mem.mem ((SparseCore.T d).loc main_arg2) = m ((SparseCore.T d).loc main_arg2) ∧ s'.mem.mem ((SparseCore.T d).loc main_arg3) = m ((SparseCore.T d).loc main_arg3)
    ∧ s'.mem.mem ((SparseCore.T d).loc main_arg4) = m ((SparseCore.T d).loc main_arg4)) ∧ s'.mem.mem ((SparseCore.T d).loc main_v13) = res m d

/-- A buffer held whole is what the state's memory holds. -/
theorem read_pts (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h1, HSI, -⟩
  isplitr; · ipureintro; exact funext fun i => h1 i (Finset.mem_univ i)
  iexact HSI

theorem hfin (d : Dev nD) (s' : Phys nD τ sig (Elt F)) : iprop(FIN m d ∗ SI s') ⊢ (⌜fq m d s'⌝ : sProp 𝕄) := by
  unfold FIN Args
  iintro ⟨⟨⟨H0, H1, H2, H3, H4⟩, H⟩, HSI⟩
  ihave H0 := (read_pts s' _ _) $$ [H0 HSI]; · isplitl [H0] <;> iassumption
  icases H0 with ⟨%h0, HSI⟩
  ihave H1 := (read_pts s' _ _) $$ [H1 HSI]; · isplitl [H1] <;> iassumption
  icases H1 with ⟨%h1, HSI⟩
  ihave H2 := (read_pts s' _ _) $$ [H2 HSI]; · isplitl [H2] <;> iassumption
  icases H2 with ⟨%h2, HSI⟩
  ihave H3 := (read_pts s' _ _) $$ [H3 HSI]; · isplitl [H3] <;> iassumption
  icases H3 with ⟨%h3, HSI⟩
  ihave H4 := (read_pts s' _ _) $$ [H4 HSI]; · isplitl [H4] <;> iassumption
  icases H4 with ⟨%h4, HSI⟩
  ihave H := (read_pts s' _ _) $$ [H HSI]; · isplitl [H] <;> iassumption
  icases H with ⟨%h, HSI⟩
  ipureintro
  exact ⟨⟨h0, h1, h2, h3, h4⟩, h⟩

/-- The arguments unchanged, the result, every counter at zero. -/
def QC : PUnit × MemSt nD τ sig (Elt F) → Prop := fun r =>
  (∀ d : Dev nD, (r.2.mem ((SparseCore.T d).loc main_arg0) = m ((SparseCore.T d).loc main_arg0) ∧ r.2.mem ((SparseCore.T d).loc main_arg1) = m ((SparseCore.T d).loc main_arg1)
    ∧ r.2.mem ((SparseCore.T d).loc main_arg2) = m ((SparseCore.T d).loc main_arg2) ∧ r.2.mem ((SparseCore.T d).loc main_arg3) = m ((SparseCore.T d).loc main_arg3)
    ∧ r.2.mem ((SparseCore.T d).loc main_arg4) = m ((SparseCore.T d).loc main_arg4)) ∧ r.2.mem ((SparseCore.T d).loc main_v13) = res m d) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (G (F := F)) (FIN m) (u₀ (F := F)) (sep_elim_left.trans (hu₀ m)) (hmain m ρ) (fq m) (hfin m) (QC m) (fun _ h hz => ⟨h, hz⟩)

end Cert.Proof.Id

end
-- ==== Proof.Id.Frame.lean ====
/-
  What the host makes of the targets (the groups and the positions within them), and the frame claim: for targets in
  range every run ends with the arguments unchanged and the semaphores at zero.
-/
module

public import proofs.«01_k».proof.Proof.Id.Main
public import proofs.«01_k».proof.Proof.Range

@[expose] public section

noncomputable section

namespace Cert.Proof.Id

open Cert.KernelIdeal Cert.KernelIdeal.Gen

open Idealize.ShloMosaic
open Idealize.ShloMosaic.TcCoe
open Idealize.ShloMosaic.StableHlo
open Idealize.SL Idealize.SL.Sem
open Cert.Proof

variable {F : FTy → Type} [FloatOps F] [Named F]

set_option maxRecDepth 8192 in
set_option maxHeartbeats 2000000 in
theorem after_opsG (V : Valuation τ sig (Elt F)) (x : S1024.Idx) :
    (after opsG V (dr main_v0) : IVec S1024 32) x = Word.grp ((V (dr main_arg1) : IVec S1024 32) x) := by
  unfold opsG
  simp only [TRef.binary, TRef.nullary, TRef.ternary, TRef.unary, TRef.toBuf, TRef.ofBuf, cast_eq]
  after_results_simp
  simp only [select, andi, cmpi, signi, Host.remsi, Host.divsi, broadcastInDim, constantI, subi, id, Word.grp, Word.sgn]
  rfl

set_option maxRecDepth 8192 in
set_option maxHeartbeats 2000000 in
theorem after_opsY (V : Valuation τ sig (Elt F)) (x : S1024.Idx) :
    (after opsY V (dr main_v1) : IVec S1024 32) x = Word.pos ((V (dr main_arg1) : IVec S1024 32) x) := by
  unfold opsY
  simp only [TRef.binary, TRef.nullary, TRef.ternary, TRef.unary, TRef.toBuf, TRef.ofBuf, cast_eq]
  after_results_simp
  simp only [select, andi, cmpi, Host.remsi, broadcastInDim, constantI, addi, id, Word.pos, Word.dvs]

theorem g1_eq (m : (ℓ : Dev nD × DevRef τ sig) → Buf (Elt F) ℓ) (d : Dev nD) (x : S1024.Idx) :
    g1 m d x = Word.grp ((launchContents m d (dr main_arg1) : IVec S1024 32) x) := by
  unfold g1 V1
  rw [after_pre]
  exact (congrFun ((opsP_keep _ main_v0 (by decide)).trans (opsY_keep _ main_v0 (by decide))) x).trans (after_opsG _ x)

theorem preOK_of_lt (m : (ℓ : Dev nD × DevRef τ sig) → Buf (Elt F) ℓ)
    (h : ∀ d (x : S1024.Idx), ((launchContents m d (dr main_arg1) : IVec S1024 32) x).toNat < 100000) : PreOK m := by
  intro d x
  rw [g1_eq, Word.grp_toNat (h d x)]
  have := h d x
  omega

/-- The targets of every device are in range. -/
abbrev InRange (m : (ℓ : Loc nD τ sig) → Buf (Elt F) ℓ) : Prop :=
  ∀ (d : Dev nD) (x : S1024.Idx), ((m ((d.tc : Thread nD τ).loc main_arg1) : IVec S1024 32) x).toNat < 100000

theorem preOK (m : (ℓ : Loc nD τ sig) → Buf (Elt F) ℓ) (h : InRange m) : PreOK m := preOK_of_lt m fun d x => h d x

/-- Every run from targets in range ends with the arguments unchanged and the semaphores at zero. -/
theorem frame [∀ e, Nonempty (Elt F e)] (m : (ℓ : Loc nD τ sig) → Buf (Elt F) ℓ) (g : Dev nD → PrngReg) (h : InRange m) :
    θ_run (defs (F := F)) (threads (F := F)) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ k => ⟨fun c => (k.1 c).1, k.2⟩) (run_main m g (preOK m h))

end Cert.Proof.Id

end
-- ==== Proof.Val.Math.lean ====
/-
  The scalar mathematics of one row's loss: the logarithm of a sum of exponentials taken with a maximum subtracted,
  and the two ways the programs write the smoothed, weighted cross entropy of one row.
-/
module

public import Idealize.ShloMosaic.Lib.Pointwise

@[expose] public section

noncomputable section

namespace Cert.Proof.Math

open Idealize.ShloMosaic

/-- A sum of reals, read in the extended reals. -/
theorem sum_coe {ι : Type} (s : Finset ι) (f : ι → ℝ) : (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

/-- A sum whose terms vanish from `C` on. -/
theorem sum_pad {C N : ℕ} (h : C ≤ N) (f : Fin N → EReal) (hf : ∀ k : Fin N, C ≤ k.val → f k = 0) :
    (∑ k, f k) = ∑ k : Fin C, f (Fin.castLE h k) := by
  obtain ⟨d, rfl⟩ := Nat.exists_eq_add_of_le h
  rw [Fin.sum_univ_add, Finset.sum_eq_zero (s := Finset.univ) (f := fun i : Fin d => f (Fin.natAdd C i)), add_zero]
  · rfl
  · intro i _
    exact hf _ (by simp)

/-- The maximum of a family of extended reals, none `⊤` and one real, is real. -/
theorem fold_max_real {n : ℕ} (f : Fin n → EReal) (ht : ∀ k, f k < ⊤) (k₀ : Fin n) (hb : ⊥ < f k₀) :
    ∃ r : ℝ, Finset.univ.fold max ⊥ f = (r : EReal) := by
  have h₁ : Finset.univ.fold max ⊥ f < ⊤ := (Finset.fold_max_lt _).2 ⟨bot_lt_top, fun k _ => ht k⟩
  have h₂ : ⊥ < Finset.univ.fold max ⊥ f := (Finset.lt_fold_max _).2 (Or.inr ⟨k₀, Finset.mem_univ _, hb⟩)
  exact ⟨_, (EReal.coe_toReal h₁.ne h₂.ne').symm⟩

/-- The logarithm of the sum of exponentials. -/
def lse {C : ℕ} (a : Fin C → ℝ) : ℝ := Real.log (∑ k, Real.exp (a k))

/-- A row's loss over the reals: label `y`, label weight `c₁`, smoothing weight `c₂`. -/
def ce {C : ℕ} (a w : Fin C → ℝ) (y : Fin C) (c₁ c₂ : ℝ) : ℝ :=
  c₁ * (a y - lse a) - c₂ * (∑ k, a k * w k - lse a * ∑ k, w k) / w y

/-- A padded row: real below `C`, `⊥` from there on. -/
structure Padded {C N : ℕ} (h : C ≤ N) (x : Fin N → EReal) (a : Fin C → ℝ) : Prop where
  lo : ∀ k : Fin C, x (Fin.castLE h k) = (a k : EReal)
  hi : ∀ k : Fin N, C ≤ k.val → x k = ⊥

section

variable {C N : ℕ} {h : C ≤ N} {x : Fin N → EReal} {a : Fin C → ℝ}

theorem Padded.max (p : Padded h x a) (y : Fin C) : ∃ r : ℝ, Finset.univ.fold Max.max ⊥ x = (r : EReal) := by
  refine fold_max_real x (fun k => ?_) (Fin.castLE h y) (by rw [p.lo]; exact EReal.bot_lt_coe _)
  by_cases hk : k.val < C
  · rw [show k = Fin.castLE h ⟨k.val, hk⟩ from rfl, p.lo]; exact EReal.coe_lt_top _
  · rw [p.hi k (not_lt.1 hk)]; exact bot_lt_top

theorem Padded.sumExp (p : Padded h x a) (r : ℝ) :
    (∑ k, Ideal.exp (x k - (r : EReal))) = ((Real.exp (-r) * ∑ k, Real.exp (a k) : ℝ) : EReal) := by
  rw [sum_pad h _ (fun k hk => by rw [p.hi k hk, EReal.bot_sub, Ideal.exp_bot]), Finset.mul_sum, ← sum_coe]
  refine Finset.sum_congr rfl fun k _ => ?_
  rw [p.lo, ← EReal.coe_sub, Ideal.exp_coe, ← Real.exp_add, sub_eq_neg_add]

theorem sumExp_pos (a : Fin C → ℝ) (y : Fin C) : 0 < ∑ k, Real.exp (a k) :=
  Finset.sum_pos (fun k _ => Real.exp_pos _) ⟨y, Finset.mem_univ _⟩

/-- The logarithm of a scaled sum. -/
theorem log_scaled (a : Fin C → ℝ) (y : Fin C) (r : ℝ) :
    Ideal.log ((Real.exp (-r) * ∑ k, Real.exp (a k) : ℝ) : EReal) = ((-r + lse a : ℝ) : EReal) := by
  have hp := sumExp_pos a y
  have := mul_pos (Real.exp_pos (-r)) hp
  rw [Ideal.log_coe, if_neg (not_le.2 this), Real.log_mul (Real.exp_pos _).ne' hp.ne', Real.log_exp]
  rfl

/-- The maximum plus the logarithm of the scaled sum. -/
theorem Padded.lse (p : Padded h x a) (y : Fin C) :
    Finset.univ.fold Max.max ⊥ x + Ideal.log (∑ k, Ideal.exp (x k - Finset.univ.fold Max.max ⊥ x)) = (lse a : EReal) := by
  obtain ⟨r, hr⟩ := p.max y
  rw [hr, p.sumExp, log_scaled a y, ← EReal.coe_add]
  congr 1; ring

/-- One pick out of a row by its index. -/
theorem sum_pick (f : Fin N → EReal) (y : Fin N) (c : Fin N → Prop) [DecidablePred c] (hc : ∀ k, c k ↔ k = y) :
    (∑ k, if c k then f k else 0) = f y := by
  simp [hc]

end

/-- The kernel's spelling of one row, of a padded row `x` (masked) and `x'` (unmasked) with padded weights. -/
theorem kernel_ce {C N : ℕ} (h : C ≤ N) {x x' w : Fin N → EReal} {a v : Fin C → ℝ} (y : Fin C) (c₁ c₂ : ℝ)
    (p : Padded h x a) (hx : ∀ k : Fin C, x' (Fin.castLE h k) = (a k : EReal))
    (hw : ∀ k : Fin C, w (Fin.castLE h k) = (v k : EReal)) (hw' : ∀ k : Fin N, C ≤ k.val → w k = 0) (hv : v y ≠ 0) :
    (c₁ : EReal) * (x (Fin.castLE h y) - (lse a : EReal))
        - Ideal.div ((c₂ : EReal) * ((∑ k, x' k * w k) - (lse a : EReal) * ∑ k, w k)) (w (Fin.castLE h y))
      = ((ce a v y c₁ c₂ : ℝ) : EReal) := by
  rw [sum_pad h _ (fun k hk => by rw [hw' k hk, mul_zero]), sum_pad h w hw', hw, p.lo]
  simp only [hx, hw, ← EReal.coe_mul, sum_coe, ← EReal.coe_sub]
  rw [Ideal.div_coe hv]
  simp only [← EReal.coe_mul, ← EReal.coe_sub, ce]
  congr 1
  ring

/-- The reference's spelling of one row. -/
theorem ref_ce {C : ℕ} {x w : Fin C → EReal} {a v : Fin C → ℝ} (y : Fin C) (c₁ c₂ : ℝ) (hx : ∀ k, x k = (a k : EReal))
    (hw : ∀ k, w k = (v k : EReal)) (hv : v y ≠ 0) :
    Ideal.div ((c₁ : EReal) * w y * ((x y - Finset.univ.fold max ⊥ x)
          - Ideal.log (∑ k, Ideal.exp (x k - Finset.univ.fold max ⊥ x)))
        + ((-c₂ : ℝ) : EReal) * ∑ k, w k * ((x k - Finset.univ.fold max ⊥ x)
          - Ideal.log (∑ k, Ideal.exp (x k - Finset.univ.fold max ⊥ x)))) (w y)
      = ((ce a v y c₁ c₂ : ℝ) : EReal) := by
  have p : Padded (le_refl C) x a := ⟨hx, fun k hk => absurd k.isLt (not_lt.2 hk)⟩
  obtain ⟨r, hr⟩ := p.max y
  rw [hr, p.sumExp, log_scaled a y]
  simp only [hx, hw, ← EReal.coe_mul, ← EReal.coe_sub, sum_coe, ← EReal.coe_add]
  rw [Ideal.div_coe hv, ← EReal.coe_mul]
  congr 1
  have e : ∀ k, v k * (a k - r - (-r + lse a)) = a k * v k - lse a * v k := fun k => by ring
  simp only [e, Finset.sum_sub_distrib, ← Finset.mul_sum, ce]
  field_simp
  ring

end Cert.Proof.Math
-- ==== Proof.Val.Read.lean ====
/-
  What the loss kernel's payloads hold at one row and one lane, at the ideal values: the masked logits, the logarithm of
  the sum of exponentials, the picks by label, and the group's window rolled into place.
-/
module

public import proofs.«01_k».proof.Proof.Id.Region
public import proofs.«01_k».proof.Proof.Val.Math

@[expose] public section

noncomputable section

namespace Cert.Proof.Val

open Cert.KernelIdeal Cert.KernelIdeal.Gen
open Idealize.ShloMosaic

/-! ## Words and constants -/

theorem slt_select {α : Type} (k n : ℕ) (hk : k < 2 ^ 31) (hn : n < 2 ^ 31) (a b : α) :
    Scalar.select (IntOp.cmpi .slt (BitVec.ofNat 32 k) (BitVec.ofNat 32 n)) a b = if k < n then a else b := by
  have e : ∀ m : ℕ, m < 2 ^ 31 → (BitVec.ofNat 32 m).toInt = (m : ℤ) := fun m hm => by
    rw [BitVec.toInt_eq_toNat_of_lt] <;> rw [BitVec.toNat_ofNat, Nat.mod_eq_of_lt (by omega)]
    omega
  by_cases h : k < n
  · simp [Scalar.select, IntOp.cmpi, BitVec.slt, e k hk, e n hn, h]
  · simp [Scalar.select, IntOp.cmpi, BitVec.slt, e k hk, e n hn, h]

theorem eq_select {α : Type} (k n : ℕ) (hk : k < 2 ^ 32) (hn : n < 2 ^ 32) (a b : α) :
    Scalar.select (IntOp.cmpi .eq (BitVec.ofNat 32 k) (BitVec.ofNat 32 n)) a b = if k = n then a else b := by
  have e : (BitVec.ofNat 32 k = BitVec.ofNat 32 n) ↔ k = n := by
    rw [← BitVec.toNat_inj, BitVec.toNat_ofNat, BitVec.toNat_ofNat, Nat.mod_eq_of_lt hk, Nat.mod_eq_of_lt hn]
  by_cases h : k = n
  · simp [Scalar.select, IntOp.cmpi, h]
  · simp only [Scalar.select, IntOp.cmpi, beq_eq_false_iff_ne.2 (mt e.1 h), if_neg h]
    rfl

theorem negInf : Ideal.ofBits .f32 0xFF800000#32 = (⊥ : EReal) := by simp [Ideal.ofBits, Ideal.ieee]

theorem mask : Named.named (F := Ideal) κ "mask" (φ := .f32) 0xF149F2CA#32 = (⊥ : EReal) :=
  IdealRules.named_const.ideal_named_scalar κ "mask" _ ⊥ rfl

/-- A word's bit pattern at the ideal values, as a real. -/
def cst (b : BitVec 32) : ℝ := (Ideal.ofBits .f32 b : EReal).toReal

/-- The label's weight of the root loss, with its sign. -/
theorem c_root : Ideal.ofBits .f32 0xBF666666#32 = (cst 0xBF666666#32 : EReal) := by
  simp [cst, Ideal.ofBits, Ideal.ieee, -EReal.coe_mul]

theorem s_root : Ideal.ofBits .f32 0x38D1B717#32 = (cst 0x38D1B717#32 : EReal) := by
  simp [cst, Ideal.ofBits, Ideal.ieee, -EReal.coe_mul]

theorem s_root_neg : Ideal.ofBits .f32 0xB8D1B717#32 = ((-cst 0x38D1B717#32 : ℝ) : EReal) := by
  simp [cst, Ideal.ofBits, Ideal.ieee, -EReal.coe_mul, -EReal.coe_neg]

theorem c_group : Ideal.ofBits .f32 0xBF733333#32 = (cst 0xBF733333#32 : EReal) := by
  simp [cst, Ideal.ofBits, Ideal.ieee, -EReal.coe_mul]

theorem s_group : Ideal.ofBits .f32 0x3A03126F#32 = (cst 0x3A03126F#32 : EReal) := by
  simp [cst, Ideal.ofBits, Ideal.ieee, -EReal.coe_mul]

theorem s_group_neg : Ideal.ofBits .f32 0xBA03126F#32 = ((-cst 0x3A03126F#32 : ℝ) : EReal) := by
  simp [cst, Ideal.ofBits, Ideal.ieee, -EReal.coe_mul, -EReal.coe_neg]

theorem batch : Ideal.ofBits .f32 0x44800000#32 = ((1024 : ℝ) : EReal) := by
  simp [Ideal.ofBits, Ideal.ieee, -EReal.coe_mul]; norm_num

theorem batch_inv : Ideal.ofBits .f32 0x3A800000#32 = ((1 / 1024 : ℝ) : EReal) := by
  simp [Ideal.ofBits, Ideal.ieee, -EReal.coe_mul]; norm_num

/-! ## The root logits -/

set_option maxRecDepth 16384 in
theorem pay8_at (x : Vec Ideal S128x1024 .f32) (r : Fin 128) (k : Fin 1024) :
    k1_pay8 (F := Ideal) x (ix2 r k) = if k.val < 1000 then x (ix2 r k) else (⊥ : EReal) := by
  pointwise [k1_pay8, k1_pay1]
  rw [slt_select _ _ (by omega) (by omega), mask]

set_option maxRecDepth 16384 in
theorem pay9_at (x : Vec Ideal S128x1024 .f32) (r : Fin 128) :
    k1_pay9 (F := Ideal) x (ix2 r 0)
      = Finset.univ.fold max ⊥ (fun k => k1_pay8 (F := Ideal) x (ix2 r k))
        + Ideal.log (∑ k, Ideal.exp (k1_pay8 (F := Ideal) x (ix2 r k)
            - Finset.univ.fold max ⊥ (fun k => k1_pay8 (F := Ideal) x (ix2 r k)))) := by
  pointwise [k1_pay9]
  rw [negInf]

set_option maxRecDepth 16384 in
theorem pay10_at (x : Vec Ideal S1x128x1 .i32) (r : Fin 128) (k : Fin 1024) :
    k1_pay10 (F := Ideal) x (ix2 r k) = IntOp.cmpi .eq (BitVec.ofNat 32 k.val) (x (ix3 0 r 0)) := by
  pointwise [k1_pay10, k1_pay4]

set_option maxRecDepth 16384 in
theorem pay11_at (x : Vec Ideal S128x1024 .f32) (g : Vec Ideal S1x128x1 .i32) (r : Fin 128) :
    k1_pay11 (F := Ideal) x g (ix2 r 0)
      = ∑ k, Scalar.select (k1_pay10 (F := Ideal) g (ix2 r k)) (k1_pay8 (F := Ideal) x (ix2 r k)) 0 := by
  pointwise [k1_pay11]

set_option maxRecDepth 16384 in
theorem pay12_at (w : Vec Ideal S1x1024 .f32) (r : Fin 128) (k : Fin 1024) :
    k1_pay12 (F := Ideal) w (ix2 r k) = w (ix2 0 k) := by
  pointwise [k1_pay12, k1_pay6]

set_option maxRecDepth 16384 in
theorem pay13_at (al : Vec Ideal S1x1024 .f32) (g : Vec Ideal S1x128x1 .i32) (r : Fin 128) :
    k1_pay13 (F := Ideal) (k1_pay7 al) (k1_pay10 (F := Ideal) g) (ix2 r 0)
      = ∑ k, Scalar.select (k1_pay10 (F := Ideal) g (ix2 r k)) (al (ix2 0 k)) 0 := by
  pointwise [k1_pay13, k1_pay7]

set_option maxRecDepth 16384 in
theorem pay14_at (x : Vec Ideal S128x1024 .f32) (w : Vec Ideal S1x1024 .f32) (l : FVec Ideal S128x1 .f32) (b : IVec S128x1024 1)
    (gl : FVec Ideal S128x1 .f32) (r : Fin 128) :
    k1_pay14 (F := Ideal) (k1_pay1 x) (k1_pay6 w) l b gl (Scalar.ofBits .f32 0x00000000#32) (k1_pay12 w) (ix2 r 0)
      = Ideal.ofBits .f32 0xBF666666#32 * (gl (ix2 r 0) - l (ix2 r 0))
        - Ideal.div (Ideal.ofBits .f32 0x38D1B717#32
            * ((∑ k, x (ix2 r k) * w (ix2 0 k)) - l (ix2 r 0) * ∑ k, w (ix2 0 k)))
          (∑ k, Scalar.select (b (ix2 r k)) (w (ix2 0 k)) 0) := by
  pointwise [k1_pay14, k1_pay1, k1_pay6, k1_pay12]
  simp only [Fin.sum_univ_one]

/-! ## The window rolled into place -/

/-- One conditional roll by `s` lanes to the left, on a row read by lane. -/
def roll {α : Type} (p : BitVec 32) (s : ℕ) (f : ℕ → α) (n : ℕ) : α :=
  Scalar.select (IntOp.cmpi .ne (IntOp.andi p (BitVec.ofNat 32 s)) 0#32) (f (s + n)) (f n)

theorem roll_eq {α : Type} (p : BitVec 32) (s : ℕ) (hs : s < 2 ^ 32)
    (h : p &&& BitVec.ofNat 32 s = 0#32 ∨ p &&& BitVec.ofNat 32 s = BitVec.ofNat 32 s) (f : ℕ → α) :
    roll p s f = fun n => f ((p &&& BitVec.ofNat 32 s).toNat + n) := by
  funext n
  rcases h with h | h
  · simp [roll, Scalar.select, IntOp.cmpi, IntOp.andi, h]
  · by_cases h0 : BitVec.ofNat 32 s = 0#32
    · simp [roll, Scalar.select, IntOp.cmpi, IntOp.andi, h, h0]
    · simp only [roll, Scalar.select, IntOp.cmpi, IntOp.andi, h, bne_iff_ne.2 h0, BitVec.toNat_ofNat, Nat.mod_eq_of_lt hs]
      rfl

/-- A row of the window by lane. -/
def lane (v : Vec Ideal S128x256 .f32) (r : Fin 128) (n : ℕ) : EReal := if h : n < 256 then v (ix2 r ⟨n, h⟩) else 0

set_option maxRecDepth 16384 in
theorem pay16_at (v : FVec Ideal S128x256 .f32) (g : IVec S128x1 32) (r : Fin 128) (n : ℕ) (h : n < 192) :
    k1_pay16 (F := Ideal) v g (ix2 r ⟨n, by omega⟩) = roll (k1_pay15 g (ix2 r 0)) 64 (lane v r) n := by
  pointwise [k1_pay16]
  simp only [roll, lane, dif_pos h, dif_pos (show 64 + n < 256 by omega), dif_pos (show n < 256 by omega)]

set_option maxRecDepth 16384 in
theorem pay17_at (v : FVec Ideal S128x256 .f32) (g : IVec S128x1 32) (r : Fin 128) (n : ℕ) (h : n < 160) :
    k1_pay17 (F := Ideal) v g (ix2 r ⟨n, by omega⟩) = roll (k1_pay15 g (ix2 r 0)) 64 (lane v r) (32 + n) := by
  rw [← pay16_at v g r (32 + n) (by omega)]
  pointwise [k1_pay17]
  simp only [dif_pos (show n < 224 by omega)]

/-- The choice, row by row, between the lanes as they are and the lanes rolled. -/
def choose (s : BitVec 32) (p : IVec S128x1 32) (v u : FVec Ideal S128x256 .f32) : FVec Ideal S128x256 .f32 :=
  select (broadcastTo S128x256 (shapeCast S128x1 (cmpi .ne (andi p (broadcast S128x1 s)) (broadcast S128x1 0#32))
    shapeCasts_S128x1_S128x1) broadcasts_S128x1_S128x256) u v

theorem choose_at (s : BitVec 32) (p : IVec S128x1 32) (v u : FVec Ideal S128x256 .f32) (r : Fin 128) (k : Fin 256) :
    choose s p v u (ix2 r k)
      = Scalar.select (IntOp.cmpi .ne (IntOp.andi (p (ix2 r 0)) s) 0#32) (u (ix2 r k)) (v (ix2 r k)) := by
  pointwise [choose]

/-- The lanes rolled by 16, by 8 and by 4. -/
def left16 (v : FVec Ideal S128x256 .f32) : FVec Ideal S128x256 .f32 :=
  concatenate S128x256 1 [⟨S128x240, extractStridedSlice S128x240 ![0, 16] v slices_S128x256_o0_16_S128x240⟩,
    ⟨S128x16, extractStridedSlice S128x16 ![0, 0] v slices_S128x256_o0_0_S128x16⟩] concatenates_S128x240_S128x16_S128x256_d1
@[inherit_doc left16]
def left8 (v : FVec Ideal S128x256 .f32) : FVec Ideal S128x256 .f32 :=
  concatenate S128x256 1 [⟨S128x248, extractStridedSlice S128x248 ![0, 8] v slices_S128x256_o0_8_S128x248⟩,
    ⟨S128x8, extractStridedSlice S128x8 ![0, 0] v slices_S128x256_o0_0_S128x8⟩] concatenates_S128x248_S128x8_S128x256_d1
@[inherit_doc left16]
def left4 (v : FVec Ideal S128x256 .f32) : FVec Ideal S128x256 .f32 :=
  concatenate S128x256 1 [⟨S128x252, extractStridedSlice S128x252 ![0, 4] v slices_S128x256_o0_4_S128x252⟩,
    ⟨S128x4, extractStridedSlice S128x4 ![0, 0] v slices_S128x256_o0_0_S128x4⟩] concatenates_S128x252_S128x4_S128x256_d1

theorem left16_at (v : FVec Ideal S128x256 .f32) (r : Fin 128) (n : ℕ) (h : n < 240) :
    left16 v (ix2 r ⟨n, by omega⟩) = v (ix2 r ⟨16 + n, by omega⟩) := by
  pointwise [left16]
  exact dif_pos h
theorem left8_at (v : FVec Ideal S128x256 .f32) (r : Fin 128) (n : ℕ) (h : n < 248) :
    left8 v (ix2 r ⟨n, by omega⟩) = v (ix2 r ⟨8 + n, by omega⟩) := by
  pointwise [left8]
  exact dif_pos h
theorem left4_at (v : FVec Ideal S128x256 .f32) (r : Fin 128) (n : ℕ) (h : n < 252) :
    left4 v (ix2 r ⟨n, by omega⟩) = v (ix2 r ⟨4 + n, by omega⟩) := by
  pointwise [left4]
  exact dif_pos h

/-- The four last rolls in a row. -/
def rolled (p : IVec S128x1 32) (v u : FVec Ideal S128x256 .f32) : FVec Ideal S128x256 .f32 :=
  let a := choose 32#32 p v u
  let b := choose 16#32 p a (left16 a)
  let c := choose 8#32 p b (left8 b)
  choose 4#32 p c (left4 c)

theorem rolled_at (p : IVec S128x1 32) (v u : FVec Ideal S128x256 .f32) (f : ℕ → EReal) (r : Fin 128)
    (hv : ∀ n (h : n < 160), v (ix2 r ⟨n, by omega⟩) = f n) (hu : ∀ n (h : n < 160), u (ix2 r ⟨n, by omega⟩) = f (32 + n))
    (n : ℕ) (h : n < 128) :
    rolled p v u (ix2 r ⟨n, by omega⟩)
      = roll (p (ix2 r 0)) 4 (roll (p (ix2 r 0)) 8 (roll (p (ix2 r 0)) 16 (roll (p (ix2 r 0)) 32 f))) n := by
  unfold rolled
  have ha : ∀ n (h : n < 160), choose 32#32 p v u (ix2 r ⟨n, by omega⟩) = roll (p (ix2 r 0)) 32 f n := fun n h => by
    rw [choose_at, hv n h, hu n h]; rfl
  have hb : ∀ n (h : n < 144), choose 16#32 p (choose 32#32 p v u) (left16 (choose 32#32 p v u)) (ix2 r ⟨n, by omega⟩)
      = roll (p (ix2 r 0)) 16 (roll (p (ix2 r 0)) 32 f) n := fun n h => by
    rw [choose_at, left16_at _ r n (by omega), ha n (by omega), ha (16 + n) (by omega)]; rfl
  generalize choose 16#32 p (choose 32#32 p v u) (left16 (choose 32#32 p v u)) = b at hb
  have hc : ∀ n (h : n < 136), choose 8#32 p b (left8 b) (ix2 r ⟨n, by omega⟩)
      = roll (p (ix2 r 0)) 8 (roll (p (ix2 r 0)) 16 (roll (p (ix2 r 0)) 32 f)) n := fun n h => by
    rw [choose_at, left8_at _ r n (by omega), hb n (by omega), hb (8 + n) (by omega)]; rfl
  rw [choose_at, left4_at _ r n (by omega), hc n (by omega), hc (4 + n) (by omega)]
  rfl

/-- The last payload of the window: its first hundred lanes, masked from there on. -/
def masked (v : FVec Ideal S128x256 .f32) : FVec Ideal S128x128 .f32 :=
  select (cmpi .slt (iota .tc S128x128 32 [1] iota_S128x128_d1_w32) (broadcast S128x128 100#32))
    (extractStridedSlice S128x128 ![0, 0] v slices_S128x256_o0_0_S128x128)
    (broadcast S128x128 (Named.named (F := Ideal) κ "mask" 0xF149F2CA#32))

theorem masked_at (v : FVec Ideal S128x256 .f32) (r : Fin 128) (k : Fin 128) :
    masked v (ix2 r k) = if k.val < 100 then v (ix2 r ⟨k.val, by omega⟩) else (⊥ : EReal) := by
  pointwise [masked]
  rw [slt_select _ _ (by omega) (by omega), mask]

theorem pay18_eq (p : IVec S128x1 32) (v u : FVec Ideal S128x256 .f32) :
    k1_pay18 (F := Ideal) p v u 32#32 = masked (rolled p v u) := rfl

set_option maxRecDepth 16384 in
theorem pay15_at (g : Vec Ideal S1x128x1 .i32) (r : Fin 128) :
    k1_pay15 (k1_pay4 (F := Ideal) g) (ix2 r 0) = IntOp.andi (IntOp.addi 1000#32 (IntOp.muli (g (ix3 0 r 0)) 100#32)) 127#32 := by
  pointwise [k1_pay15, k1_pay4]

/-- Where a group's hundred columns start within its window of 256. -/
def off (G : ℕ) : ℕ := (1000 + 100 * G) % 128

theorem off_word (G : ℕ) (h : G < 1000) :
    IntOp.andi (IntOp.addi 1000#32 (IntOp.muli (BitVec.ofNat 32 G) 100#32)) 127#32 = BitVec.ofNat 32 (off G) := by
  apply BitVec.eq_of_toNat_eq
  simp only [IntOp.andi, IntOp.addi, IntOp.muli, BitVec.toNat_and, BitVec.toNat_add, BitVec.toNat_mul, BitVec.toNat_ofNat]
  rw [show 127 % 2 ^ 32 = 2 ^ 7 - 1 from rfl, Nat.and_two_pow_sub_one_eq_mod]
  have e : G % 2 ^ 32 = G := Nat.mod_eq_of_lt (by omega)
  have e' : 100 * G < 2 ^ 32 := by omega
  unfold off
  rw [e, show 100 % 2 ^ 32 = 100 from rfl, show 1000 % 2 ^ 32 = 1000 from rfl, Nat.mul_comm G 100, Nat.mod_eq_of_lt e',
    Nat.mod_eq_of_lt (show 1000 + 100 * G < 2 ^ 32 by omega), Nat.mod_eq_of_lt (show (1000 + 100 * G) % 128 < 2 ^ 32 by omega)]

/-- The bits of a multiple of 4 below 128. -/
theorem bits (i : Fin 32) :
    (∀ s ∈ [64, 32, 16, 8, 4], BitVec.ofNat 32 (4 * i.val) &&& BitVec.ofNat 32 s = 0#32
      ∨ BitVec.ofNat 32 (4 * i.val) &&& BitVec.ofNat 32 s = BitVec.ofNat 32 s)
    ∧ ∀ n, (BitVec.ofNat 32 (4 * i.val) &&& BitVec.ofNat 32 64).toNat + ((BitVec.ofNat 32 (4 * i.val) &&& BitVec.ofNat 32 32).toNat
      + ((BitVec.ofNat 32 (4 * i.val) &&& BitVec.ofNat 32 16).toNat + ((BitVec.ofNat 32 (4 * i.val) &&& BitVec.ofNat 32 8).toNat
      + ((BitVec.ofNat 32 (4 * i.val) &&& BitVec.ofNat 32 4).toNat + n)))) = 4 * i.val + n := by
  refine ⟨by revert i; decide, fun n => ?_⟩
  simp only [← Nat.add_assoc]
  congr 1
  revert i
  decide

/-- All five rolls together read the window from the group's offset on. -/
theorem rolls (G : ℕ) (f : ℕ → EReal) (n : ℕ) :
    (let p := BitVec.ofNat 32 (off G); roll p 4 (roll p 8 (roll p 16 (roll p 32 (roll p 64 f)))) n) = f (off G + n) := by
  obtain ⟨i, hi⟩ : ∃ i : Fin 32, off G = 4 * i.val :=
    ⟨⟨off G / 4, by unfold off; omega⟩, by show off G = 4 * (off G / 4); unfold off; omega⟩
  obtain ⟨hb, hn⟩ := bits i
  rw [hi]
  dsimp only
  rw [roll_eq _ 64 (by norm_num) (hb 64 (by simp)), roll_eq _ 32 (by norm_num) (hb 32 (by simp)),
    roll_eq _ 16 (by norm_num) (hb 16 (by simp)), roll_eq _ 8 (by norm_num) (hb 8 (by simp)),
    roll_eq _ 4 (by norm_num) (hb 4 (by simp))]
  exact congrArg f (hn n)

/-- The window's payload at one row: its group's hundred columns, masked from there on. -/
theorem window_at (v : Vec Ideal S128x256 .f32) (g : Vec Ideal S1x128x1 .i32) (r : Fin 128) (G : ℕ) (hG : G < 1000)
    (hg : g (ix3 0 r 0) = BitVec.ofNat 32 G) (k : Fin 128) :
    k1_pay18 (F := Ideal) (k1_pay15 (k1_pay4 (F := Ideal) g)) (k1_pay16 (k1_pay2 v) (k1_pay4 (F := Ideal) g))
        (k1_pay17 (k1_pay2 v) (k1_pay4 (F := Ideal) g)) 32#32 (ix2 r k)
      = if k.val < 100 then lane v r (off G + k.val) else ⊥ := by
  have e2 : k1_pay2 (F := Ideal) v = v := by funext j; pointwise [k1_pay2]
  have hp : k1_pay15 (k1_pay4 (F := Ideal) g) (ix2 r 0) = BitVec.ofNat 32 (off G) := by
    rw [pay15_at, hg, off_word G hG]
  rw [pay18_eq, masked_at, e2]
  split
  · rw [rolled_at _ _ _ (roll (BitVec.ofNat 32 (off G)) 64 (lane v r)) r
      (fun n h => by rw [pay16_at _ _ r n (by omega), hp]) (fun n h => by rw [pay17_at _ _ r n (by omega), hp]) k.val k.isLt, hp]
    exact rolls G (lane v r) k.val
  · rfl

end Cert.Proof.Val
-- ==== Proof.Val.Step.lean ====
/-
  What one grid point of the loss kernel adds to the accumulator, at the ideal values: the mean's share of its rows'
  losses, each the root's cross entropy plus the group's weight times the group's cross entropy.
-/
module

public import proofs.«01_k».proof.Proof.Val.Read

@[expose] public section

noncomputable section

namespace Cert.Proof.Val

open Cert.KernelIdeal Cert.KernelIdeal.Gen
open Idealize.ShloMosaic
open Cert.Proof.Math Cert.Proof.Id

/-- One row's loss: root logits `a` and weights `w`, group `G` of weight `al`, group logits `b` and weights `v`, position
    `Y`. -/
def rowLoss (a w : Fin 1000 → ℝ) (G : Fin 1000) (al : EReal) (b v : Fin 100 → ℝ) (Y : Fin 100) : EReal :=
  (ce a w G (cst 0xBF666666#32) (cst 0x38D1B717#32) : EReal) + al * (ce b v Y (cst 0xBF733333#32) (cst 0x3A03126F#32) : EReal)

/-- What a block of 128 rows holds. -/
structure Block (x1 : Vec Ideal S128x1024 .f32) (x2 : Vec Ideal S128x256 .f32) (x3 : Vec Ideal S128x128 .f32)
    (x4 x5 : Vec Ideal S1x128x1 .i32) (x6 x7 : Vec Ideal S1x1024 .f32)
    (a : Fin 128 → Fin 1000 → ℝ) (w : Fin 1000 → ℝ) (al : Fin 1000 → EReal) (G : Fin 128 → Fin 1000)
    (b v : Fin 128 → Fin 100 → ℝ) (Y : Fin 128 → Fin 100) : Prop where
  xs : ∀ r (k : Fin 1000), x1 (ix2 r (Fin.castLE (by omega) k)) = (a r k : EReal)
  win : ∀ r (k : Fin 100), lane x2 r (off (G r).val + k.val) = (b r k : EReal)
  wg : ∀ r (k : Fin 100), x3 (ix2 r (Fin.castLE (by omega) k)) = (v r k : EReal)
  wg0 : ∀ r (k : Fin 128), 100 ≤ k.val → x3 (ix2 r k) = (0 : EReal)
  g : ∀ r, x4 (ix3 0 r 0) = BitVec.ofNat 32 (G r).val
  y : ∀ r, x5 (ix3 0 r 0) = BitVec.ofNat 32 (Y r).val
  rw : ∀ k : Fin 1000, x6 (ix2 0 (Fin.castLE (by omega) k)) = (w k : EReal)
  rw0 : ∀ k : Fin 1024, 1000 ≤ k.val → x6 (ix2 0 k) = (0 : EReal)
  alpha : ∀ k : Fin 1000, x7 (ix2 0 (Fin.castLE (by omega) k)) = al k
  w0 : ∀ k, w k ≠ 0
  v0 : ∀ r k, v r k ≠ 0

set_option maxRecDepth 16384 in
theorem pay19_at (p : IVec S128x1 32) (v u : FVec Ideal S128x256 .f32) (r : Fin 128) :
    k1_pay19 (F := Ideal) p v u 32#32 (ix2 r 0)
      = Finset.univ.fold max ⊥ (fun k => k1_pay18 (F := Ideal) p v u 32#32 (ix2 r k)) := by
  pointwise [k1_pay19]
  rw [negInf]

set_option maxRecDepth 16384 in
theorem pay20_at (p : IVec S128x1 32) (v u : FVec Ideal S128x256 .f32) (r : Fin 128) :
    k1_pay20 (F := Ideal) p v u 32#32 (ix1 r)
      = ∑ k, Ideal.exp (k1_pay18 (F := Ideal) p v u 32#32 (ix2 r k) - k1_pay19 (F := Ideal) p v u 32#32 (ix2 r 0)) := by
  pointwise [k1_pay20]

/-- A row's group loss as the last payload spells it. -/
def groupTerm (x3 : Vec Ideal S128x128 .f32) (y : Vec Ideal S1x128x1 .i32) (gl : FVec Ideal S128x128 .f32) (l : EReal) (r : Fin 128) : EReal :=
  Ideal.ofBits .f32 0xBF733333#32
      * ((∑ k : Fin 128, Scalar.select (IntOp.cmpi .eq (BitVec.ofNat 32 k.val) (y (ix3 0 r 0))) (gl (ix2 r k)) 0) - l)
    - Ideal.div (Ideal.ofBits .f32 0x3A03126F#32 * ((∑ k : Fin 128, gl (ix2 r k) * x3 (ix2 r k)) - l * ∑ k : Fin 128, x3 (ix2 r k)))
      (∑ k : Fin 128, Scalar.select (IntOp.cmpi .eq (BitVec.ofNat 32 k.val) (y (ix3 0 r 0))) (x3 (ix2 r k)) 0)

set_option maxRecDepth 16384 in
theorem pay22_at (x3 : Vec Ideal S128x128 .f32) (y : Vec Ideal S1x128x1 .i32) (al ro : FVec Ideal S128x1 .f32)
    (gl : FVec Ideal S128x128 .f32) (m : FVec Ideal S128x1 .f32) (s : FVec Ideal S128 .f32) (acc : Vec Ideal S1x1 .f32) (j : S1x1.Idx) :
    k1_pay22 (F := Ideal) (k1_pay3 x3) (k1_pay5 (F := Ideal) y) al ro (iota .tc S128x128 32 [1] iota_S128x128_d1_w32) gl m s acc j
      = acc j + (∑ r : Fin 128, (ro (ix2 r 0) + al (ix2 r 0)
          * groupTerm x3 y gl (m (ix2 r 0) + Ideal.log (s (ix1 r))) r)) * Ideal.ofBits .f32 0x3A800000#32 := by
  pointwise [k1_pay22, k1_pay3, k1_pay5]
  simp only [Fin.sum_univ_one, groupTerm]

variable {x1 : Vec Ideal S128x1024 .f32} {x2 : Vec Ideal S128x256 .f32} {x3 : Vec Ideal S128x128 .f32}
  {x4 x5 : Vec Ideal S1x128x1 .i32} {x6 x7 : Vec Ideal S1x1024 .f32}
  {a : Fin 128 → Fin 1000 → ℝ} {w : Fin 1000 → ℝ} {al : Fin 1000 → EReal} {G : Fin 128 → Fin 1000}
  {b v : Fin 128 → Fin 100 → ℝ} {Y : Fin 128 → Fin 100}

/-- The pick of one label's entry, the label a word. -/
theorem pick {N C : ℕ} (h : C ≤ N) (hN : N < 2 ^ 32) (f : Fin N → EReal) (t : BitVec 32) (y : Fin C) (ht : t = BitVec.ofNat 32 y.val) :
    (∑ k : Fin N, Scalar.select (IntOp.cmpi .eq (BitVec.ofNat 32 k.val) t) (f k) 0) = f (Fin.castLE h y) := by
  subst ht
  simp only [fun k : Fin N => eq_select k.val y.val (by omega) (by omega) (f k) (0 : EReal)]
  exact sum_pick f (Fin.castLE h y) _ fun k => ⟨fun e => Fin.ext e, fun e => congrArg Fin.val e⟩

theorem Block.rootPadded (B : Block x1 x2 x3 x4 x5 x6 x7 a w al G b v Y) (r : Fin 128) :
    Padded (show 1000 ≤ 1024 by omega) (fun k => k1_pay8 (F := Ideal) x1 (ix2 r k)) (a r) where
  lo k := (pay8_at x1 r _).trans ((if_pos k.isLt).trans (B.xs r k))
  hi k hk := (pay8_at x1 r k).trans (if_neg (not_lt.2 hk))

/-- The window's payload at the block. -/
abbrev winPay (x2 : Vec Ideal S128x256 .f32) (x4 : Vec Ideal S1x128x1 .i32) : FVec Ideal S128x128 .f32 :=
  k1_pay18 (F := Ideal) (k1_pay15 (k1_pay4 (F := Ideal) x4)) (k1_pay16 (k1_pay2 x2) (k1_pay4 (F := Ideal) x4))
        (k1_pay17 (k1_pay2 x2) (k1_pay4 (F := Ideal) x4)) 32#32

theorem Block.groupPadded (B : Block x1 x2 x3 x4 x5 x6 x7 a w al G b v Y) (r : Fin 128) :
    Padded (show 100 ≤ 128 by omega) (fun k => winPay x2 x4 (ix2 r k)) (b r) where
  lo k := (window_at x2 x4 r (G r).val (G r).isLt (B.g r) _).trans ((if_pos k.isLt).trans (B.win r k))
  hi k hk := (window_at x2 x4 r (G r).val (G r).isLt (B.g r) k).trans (if_neg (not_lt.2 hk))

/-- The pick of a row's group out of a row of 1024 lanes. -/
theorem Block.pickG (B : Block x1 x2 x3 x4 x5 x6 x7 a w al G b v Y) (r : Fin 128) (f : Fin 1024 → EReal) :
    (∑ k, Scalar.select (k1_pay10 (F := Ideal) x4 (ix2 r k)) (f k) 0) = f (Fin.castLE (by omega) (G r)) := by
  simp only [pay10_at]
  exact pick (show 1000 ≤ 1024 by omega) (by norm_num) f _ (G r) (B.g r)

theorem Block.root (B : Block x1 x2 x3 x4 x5 x6 x7 a w al G b v Y) (r : Fin 128) :
    k1_pay14 (F := Ideal) (k1_pay1 x1) (k1_pay6 x6) (k1_pay9 x1) (k1_pay10 (F := Ideal) x4) (k1_pay11 x1 x4)
        (Scalar.ofBits .f32 0x00000000#32) (k1_pay12 x6) (ix2 r 0)
      = (ce (a r) w (G r) (cst 0xBF666666#32) (cst 0x38D1B717#32) : EReal) := by
  rw [pay14_at, pay9_at, (B.rootPadded r).lse (G r), pay11_at, B.pickG r (fun k => k1_pay8 (F := Ideal) x1 (ix2 r k)),
    B.pickG r (fun k => x6 (ix2 0 k))]
  simp only [c_root, s_root]
  exact kernel_ce (show 1000 ≤ 1024 by omega) (x := fun k => k1_pay8 (F := Ideal) x1 (ix2 r k)) (x' := fun k => x1 (ix2 r k))
    (w := fun k => x6 (ix2 0 k)) (G r) _ _ (B.rootPadded r)
    (fun k => B.xs r k) (fun k => B.rw k) (fun k hk => B.rw0 k hk) (B.w0 _)

theorem Block.group (B : Block x1 x2 x3 x4 x5 x6 x7 a w al G b v Y) (r : Fin 128) :
    groupTerm x3 x5 (winPay x2 x4) (lse (b r)) r = (ce (b r) (v r) (Y r) (cst 0xBF733333#32) (cst 0x3A03126F#32) : EReal) := by
  unfold groupTerm
  rw [pick (show 100 ≤ 128 by omega) (by norm_num) _ _ (Y r) (B.y r),
    pick (show 100 ≤ 128 by omega) (by norm_num) _ _ (Y r) (B.y r)]
  simp only [c_group, s_group]
  exact kernel_ce (show 100 ≤ 128 by omega) (x := fun k => winPay x2 x4 (ix2 r k)) (x' := fun k => winPay x2 x4 (ix2 r k))
    (w := fun k => x3 (ix2 r k)) (Y r) _ _ (B.groupPadded r)
    (fun k => (B.groupPadded r).lo k) (fun k => B.wg r k) (fun k hk => B.wg0 r k hk) (B.v0 r _)

/-- A grid point's new accumulator. -/
theorem Block.step (B : Block x1 x2 x3 x4 x5 x6 x7 a w al G b v Y) (acc : Vec Ideal S1x1 .f32) (j : S1x1.Idx) :
    Id.step x1 x2 x3 x4 x5 x6 x7 acc j
      = acc j + (∑ r : Fin 128, rowLoss (a r) w (G r) (al (G r)) (b r) (v r) (Y r)) * ((1 / 1024 : ℝ) : EReal) := by
  unfold Id.step
  rw [pay22_at, batch_inv]
  congr 2
  refine Finset.sum_congr rfl fun r _ => ?_
  rw [B.root r, pay20_at, pay19_at, (B.groupPadded r).lse (Y r), B.group r, pay13_at, B.pickG r (fun k => x7 (ix2 0 k)), B.alpha]
  rfl

end Cert.Proof.Val
-- ==== Proof.Val.Data.lean ====
/-
  What the arguments hold over the reals, and the loss they amount to.
-/
module

public import proofs.«01_k».proof.Proof.Val.Step
public import proofs.«01_k».proof.Proof.Word

@[expose] public section

noncomputable section

namespace Cert.Proof.Val

open Idealize.ShloMosaic

/-- The arguments: predictions `p`, group `G` and position `Y` of each row's target, root weights `w` and group weights `u`
    (nonzero). -/
structure Data (x0 : FVec Ideal ⟨2, ![1024, 101000]⟩ .f32) (x1 : IVec ⟨1, ![1024]⟩ 32) (x2 : FVec Ideal ⟨1, ![1000]⟩ .f32)
    (x3 : FVec Ideal ⟨2, ![1000, 100]⟩ .f32) (p : Fin 1024 → Fin 101000 → ℝ) (G : Fin 1024 → Fin 1000) (Y : Fin 1024 → Fin 100)
    (w : Fin 1000 → ℝ) (u : Fin 1000 → Fin 100 → ℝ) : Prop where
  preds : ∀ i k, x0 (ix2 i k) = (p i k : EReal)
  grp : ∀ i, Word.grp (x1 (ix1 i)) = BitVec.ofNat 32 (G i).val
  pos : ∀ i, Word.pos (x1 (ix1 i)) = BitVec.ofNat 32 (Y i).val
  rootW : ∀ k, x2 (ix1 k) = (w k : EReal)
  groupW : ∀ i k, x3 (ix2 i k) = (u i k : EReal)
  w0 : ∀ k, w k ≠ 0
  u0 : ∀ i k, u i k ≠ 0

variable (p : Fin 1024 → Fin 101000 → ℝ) (G : Fin 1024 → Fin 1000) (Y : Fin 1024 → Fin 100) (w : Fin 1000 → ℝ)
  (u : Fin 1000 → Fin 100 → ℝ) (al : Fin 1000 → EReal)

/-- A row's root logits. -/
def rootLogits (i : Fin 1024) (k : Fin 1000) : ℝ := p i ⟨k.val, by omega⟩

/-- A row's group logits. -/
def groupLogits (i : Fin 1024) (j : Fin 100) : ℝ := p i ⟨1000 + 100 * (G i).val + j.val, by omega⟩

/-- A row's loss. -/
def lossAt (i : Fin 1024) : EReal :=
  rowLoss (rootLogits p i) w (G i) (al (G i)) (groupLogits p G i) (u (G i)) (Y i)

/-- The mean loss. -/
def loss : EReal := (∑ i, lossAt p G Y w u al i) * ((1 / 1024 : ℝ) : EReal)

end Cert.Proof.Val
-- ==== Proof.Finite.lean ====
/-
  What the value claim's precondition says: targets in range, predictions and weights finite, weights nonzero.
-/
module

public import proofs.«01_k».proof.Pre_finite_in_range
public import proofs.«01_k».proof.Proof.Word
public import proofs.«01_k».proof.Proof.Val.Data
public import Idealize.ShloMosaic.Lib.ReduceAll
public import Idealize.ShloMosaic.PureOps.Ideal

@[expose] public section

noncomputable section

namespace Cert.Proof.Finite

open Idealize.ShloMosaic

/-- The predicate's side conditions. -/
instance facts : Cert.Pre_finite_in_range.Facts where
  bcast_S_S1024 := by decide
  reducesTo_S1024_S_d0 := by decide
  h_S_ := by decide
  bcast_S_S1024x101000 := by decide
  reducesTo_S1024x101000_S_d0_1 := by decide
  bcast_S_S1000 := by decide
  reducesTo_S1000_S_d0 := by decide
  bcast_S_S1000x100 := by decide
  reducesTo_S1000x100_S_d0_1 := by decide

/-- The pattern of infinity. -/
theorem inf_bits : Ideal.ofBits .f32 0x7F800000#32 = ⊤ := by
  simp [Ideal.ofBits, Ideal.ieee]

/-- A number whose size is below infinity is real. -/
theorem real_of_lt {x : EReal} (h : Ideal.cmp .olt (max x (-x)) (Ideal.ofBits .f32 0x7F800000#32) = 1#1) : ∃ r : ℝ, x = (r : EReal) := by
  rw [inf_bits] at h
  have h' : max x (-x) < ⊤ := by
    by_contra hn
    unfold Ideal.cmp at h
    simp only [decide_eq_false hn] at h
    exact absurd h (by decide)
  have h1 : x ≠ ⊤ := fun e => by rw [e] at h'; simp at h'
  have h2 : x ≠ ⊥ := fun e => by rw [e] at h'; simp at h'
  exact ⟨x.toReal, (EReal.coe_toReal h1 h2).symm⟩

/-- A number that differs from zero. -/
theorem ne_zero_of_ne {x : EReal} (h : Ideal.cmp .une x (Ideal.ofBits .f32 0x00000000#32) = 1#1) : x ≠ 0 := by
  intro e
  rw [e, Ideal.ofBits_zero .f32] at h
  unfold Ideal.cmp at h
  simp at h

theorem andi_one {a b : BitVec 1} (h : IntOp.andi a b = 1#1) : a = 1#1 ∧ b = 1#1 := by
  revert a b
  decide

variable (a0 : FVec Ideal ⟨2, ![1024, 101000]⟩ .f32) (a1 : IVec ⟨1, ![1024]⟩ 32) (a2 : FVec Ideal ⟨1, ![1000]⟩ .f32)
  (a3 : FVec Ideal ⟨2, ![1000, 100]⟩ .f32) (a4 : FVec Ideal ⟨1, ![1000]⟩ .f32)

/-- The precondition, part by part. -/
theorem parts (h : Cert.Pre_finite_in_range.fn a0 a1 a2 a3 a4 = fun _ => 1#1) :
    (∀ x, (a1 x).toNat < 100000) ∧ (∀ x, ∃ r : ℝ, a0 x = (r : EReal)) ∧ (∀ x, ∃ r : ℝ, a2 x = (r : EReal)) ∧ (∀ x, a2 x ≠ (0 : EReal))
      ∧ (∀ x, ∃ r : ℝ, a3 x = (r : EReal)) ∧ ∀ x, a3 x ≠ (0 : EReal) := by
  have e := congrFun h default
  dsimp only [Cert.Pre_finite_in_range.fn, Cert.Pre_finite_in_range.fn_part1] at e
  obtain ⟨e, h3'⟩ := andi_one e
  obtain ⟨e, h3⟩ := andi_one e
  obtain ⟨e, h2'⟩ := andi_one e
  obtain ⟨e, h2⟩ := andi_one e
  obtain ⟨h1, h0⟩ := andi_one e
  exact ⟨fun x => Word.in_range (Host.reduce_andi_all _ _ _ _ _ h1 x), fun x => real_of_lt (Host.reduce_andi_all _ _ _ _ _ h0 x),
    fun x => real_of_lt (Host.reduce_andi_all _ _ _ _ _ h2 x), fun x => ne_zero_of_ne (Host.reduce_andi_all _ _ _ _ _ h2' x),
    fun x => real_of_lt (Host.reduce_andi_all _ _ _ _ _ h3 x), fun x => ne_zero_of_ne (Host.reduce_andi_all _ _ _ _ _ h3' x)⟩

/-- The arguments over the reals. -/
theorem data (h : Cert.Pre_finite_in_range.fn a0 a1 a2 a3 a4 = fun _ => 1#1) : ∃ p G Y w u, Val.Data a0 a1 a2 a3 p G Y w u := by
  obtain ⟨ht, h0, h2, h2', h3, h3'⟩ := parts a0 a1 a2 a3 a4 h
  choose f0 e0 using h0
  choose f2 e2 using h2
  choose f3 e3 using h3
  refine ⟨fun i k => f0 (ix2 i k), fun i => ⟨(a1 (ix1 i)).toNat / 100, by have := ht (ix1 i); omega⟩,
    fun i => ⟨(a1 (ix1 i)).toNat % 100, by omega⟩, fun k => f2 (ix1 k), fun i k => f3 (ix2 i k),
    fun i k => e0 _, fun i => Word.grp_word (ht _), fun i => Word.pos_word (ht _), fun k => e2 _, fun i k => e3 _, fun k hk => ?_, fun i k hk => ?_⟩
  · exact h2' (ix1 k) (by rw [e2, hk]; rfl)
  · exact h3' (ix2 i k) (by rw [e3, hk]; rfl)

end Cert.Proof.Finite

end
-- ==== Proof.Val.HostVal.lean ====
/-
  What the host's arrays hold, element by element, when the pipelined call is reached.
-/
module

public import proofs.«01_k».proof.Proof.Id.Frame
public import Idealize.ShloMosaic.Lib.Pointwise

@[expose] public section

set_option maxRecDepth 16384

noncomputable section

namespace Cert.Proof.Val

open Cert.KernelIdeal Cert.KernelIdeal.Gen
open Idealize.ShloMosaic
open Idealize.ShloMosaic.TcCoe
open Idealize.ShloMosaic.StableHlo
open Cert.Proof.Id

variable (V : Valuation τ sig (Elt Ideal))

/-- The padding's value: the integer zero as a float. -/
theorem zero_f32 : (FloatOps.sitofp .f32 (0#32 : BitVec 32) : Ideal .f32) = (0 : EReal) := by
  show ((((0#32 : BitVec 32).toInt : ℝ)) : EReal) = 0
  simp

set_option maxHeartbeats 2000000 in
theorem opsM_v5 (i : Fin 1024) (k : Fin 1024) : (after opsM V (dr main_v5) : FVec Ideal S1024x1024 .f32) (ix2 i k)
    = (V (dr main_arg0) : FVec Ideal S1024x101000 .f32) (ix2 i (Fin.castLE (by omega) k)) := by
  unfold opsM
  simp only [TRef.binary, TRef.nullary, TRef.ternary, TRef.unary, TRef.toBuf, TRef.ofBuf, cast_eq]
  after_results_simp
  pointwise
  rfl

set_option maxHeartbeats 2000000 in
theorem opsM_v6 (t : Fin 8) (r : Fin 128) : (after opsM V (dr main_v6) : IVec S8x128x1 32) (ix3 t r 0)
    = (V (dr main_v0) : IVec S1024 32) (ix1 ⟨t.val * 128 + r.val, by omega⟩) := by
  unfold opsM
  simp only [TRef.binary, TRef.nullary, TRef.ternary, TRef.unary, TRef.toBuf, TRef.ofBuf, cast_eq]
  after_results_simp
  pointwise

set_option maxHeartbeats 2000000 in
theorem opsM_v7 (t : Fin 8) (r : Fin 128) : (after opsM V (dr main_v7) : IVec S8x128x1 32) (ix3 t r 0)
    = (V (dr main_v1) : IVec S1024 32) (ix1 ⟨t.val * 128 + r.val, by omega⟩) := by
  unfold opsM
  simp only [TRef.binary, TRef.nullary, TRef.ternary, TRef.unary, TRef.toBuf, TRef.ofBuf, cast_eq]
  after_results_simp
  pointwise

set_option maxHeartbeats 2000000 in
theorem opsM_v9 (k : Fin 1024) : (after opsM V (dr main_v9) : FVec Ideal S1x1024 .f32) (ix2 0 k)
    = if h : k.val < 1000 then (V (dr main_arg2) : FVec Ideal S1000 .f32) (ix1 ⟨k.val, h⟩) else (0 : EReal) := by
  unfold opsM
  simp only [TRef.binary, TRef.nullary, TRef.ternary, TRef.unary, TRef.toBuf, TRef.ofBuf, cast_eq]
  after_results_simp
  pointwise
  rw [zero_f32]

set_option maxHeartbeats 2000000 in
theorem opsM_v11 (k : Fin 1024) : (after opsM V (dr main_v11) : FVec Ideal S1x1024 .f32) (ix2 0 k)
    = if h : k.val < 1000 then (V (dr main_arg4) : FVec Ideal S1000 .f32) (ix1 ⟨k.val, h⟩) else (0 : EReal) := by
  unfold opsM
  simp only [TRef.binary, TRef.nullary, TRef.ternary, TRef.unary, TRef.toBuf, TRef.ofBuf, cast_eq]
  after_results_simp
  pointwise
  rw [zero_f32]

set_option maxHeartbeats 2000000 in
theorem opsP_v3 (i : Fin 1024) (k : Fin 101120) : (after opsP V (dr main_v3) : FVec Ideal S1024x101120 .f32) (ix2 i k)
    = if h : k.val < 101000 then (V (dr main_arg0) : FVec Ideal S1024x101000 .f32) (ix2 i ⟨k.val, h⟩) else (0 : EReal) := by
  unfold opsP
  simp only [TRef.binary, TRef.nullary, TRef.ternary, TRef.unary, TRef.toBuf, TRef.ofBuf, cast_eq]
  after_results_simp
  pointwise
  rw [zero_f32]

set_option maxHeartbeats 2000000 in
theorem opsP_v2 (i : Fin 1000) (k : Fin 128) : (after opsP V (dr main_v2) : FVec Ideal S1000x128 .f32) (ix2 i k)
    = if h : k.val < 100 then (V (dr main_arg3) : FVec Ideal S1000x100 .f32) (ix2 i ⟨k.val, h⟩) else (0 : EReal) := by
  unfold opsP
  simp only [TRef.binary, TRef.nullary, TRef.ternary, TRef.unary, TRef.toBuf, TRef.ofBuf, cast_eq]
  after_results_simp
  pointwise
  rw [zero_f32]

variable (m : (ℓ : Dev nD × DevRef τ sig) → Buf (Elt Ideal) ℓ) (d : Dev nD)

/-! ## The arguments -/

/-- The predictions, the targets, the root's weights, the groups' weights, the groups' alphas. -/
abbrev bpA : FVec Ideal S1024x101000 .f32 := m (d, dr main_arg0)
@[inherit_doc bpA] abbrev tgA : IVec S1024 32 := m (d, dr main_arg1)
@[inherit_doc bpA] abbrev rwA : FVec Ideal S1000 .f32 := m (d, dr main_arg2)
@[inherit_doc bpA] abbrev gwA : FVec Ideal S1000x100 .f32 := m (d, dr main_arg3)
@[inherit_doc bpA] abbrev alA : FVec Ideal S1000 .f32 := m (d, dr main_arg4)

/-! ## The windowed arrays -/

theorem V2_arg (r : Ref sig .tc) (hG : r ∉ WG) (hY : r ∉ WY) (hP : r ∉ WP) (h0 : r ≠ main_v4_0) (h1 : r ≠ main_v4_1) :
    V2 m d (dr r) = m (d, dr r) := by rw [V2_keep _ _ _ h0 h1, V1_keep _ _ _ hG hY hP]

theorem aa0 (i k : Fin 1024) : (AA m d 0 : FVec Ideal S1024x1024 .f32) (ix2 i k) = bpA m d (ix2 i (Fin.castLE (by omega) k)) :=
  (opsM_v5 (V2 m d) i k).trans (congrFun (V2_arg m d main_arg0 (by decide) (by decide) (by decide) (by decide) (by decide)) _)

theorem aa5 (k : Fin 1024) : (AA m d 5 : FVec Ideal S1x1024 .f32) (ix2 0 k)
    = if h : k.val < 1000 then rwA m d (ix1 ⟨k.val, h⟩) else (0 : EReal) := by
  refine (opsM_v9 (V2 m d) k).trans ?_
  rw [V2_arg m d main_arg2 (by decide) (by decide) (by decide) (by decide) (by decide)]

theorem aa6 (k : Fin 1024) : (AA m d 6 : FVec Ideal S1x1024 .f32) (ix2 0 k)
    = if h : k.val < 1000 then alA m d (ix1 ⟨k.val, h⟩) else (0 : EReal) := by
  refine (opsM_v11 (V2 m d) k).trans ?_
  rw [V2_arg m d main_arg4 (by decide) (by decide) (by decide) (by decide) (by decide)]

theorem aa3 (t : Fin 8) (r : Fin 128) : (AA m d 3 : IVec S8x128x1 32) (ix3 t r 0)
    = Word.grp (tgA m d (ix1 ⟨t.val * 128 + r.val, by omega⟩)) := by
  refine (opsM_v6 (V2 m d) t r).trans ?_
  rw [V2_keep m d main_v0 (by decide) (by decide)]
  exact g1_eq m d _

theorem y1_eq (x : S1024.Idx) : (V1 m d (dr main_v1) : IVec S1024 32) x = Word.pos (tgA m d x) := by
  unfold V1
  rw [after_pre]
  refine (congrFun (opsP_keep _ main_v1 (by decide)) x).trans ((after_opsY _ x).trans ?_)
  rw [opsG_keep _ main_arg1 (by decide)]

theorem aa4 (t : Fin 8) (r : Fin 128) : (AA m d 4 : IVec S8x128x1 32) (ix3 t r 0)
    = Word.pos (tgA m d (ix1 ⟨t.val * 128 + r.val, by omega⟩)) := by
  refine (opsM_v7 (V2 m d) t r).trans ?_
  rw [V2_keep m d main_v1 (by decide) (by decide)]
  exact y1_eq m d _

theorem bp1_at (i : Fin 1024) (k : Fin 101120) : bp1 m d (ix2 i k)
    = if h : k.val < 101000 then bpA m d (ix2 i ⟨k.val, h⟩) else (0 : EReal) := by
  unfold bp1 V1
  rw [after_pre]
  refine (opsP_v3 _ i k).trans ?_
  rw [opsY_keep _ main_arg0 (by decide), opsG_keep _ main_arg0 (by decide)]

theorem gw1_at (i : Fin 1000) (k : Fin 128) : gw1 m d (ix2 i k)
    = if h : k.val < 100 then gwA m d (ix2 i ⟨k.val, h⟩) else (0 : EReal) := by
  unfold gw1 V1
  rw [after_pre]
  refine (opsP_v2 _ i k).trans ?_
  rw [opsY_keep _ main_arg3 (by decide), opsG_keep _ main_arg3 (by decide)]

theorem aa1 (i : Fin 1024) (k : Fin 256) (G : ℕ) (hG : G < 1000) (hg : Word.grp (tgA m d (ix1 i)) = BitVec.ofNat 32 G) (j : ℕ) (hj : j < 100)
    (hk : k.val = (1000 + 100 * G) % 128 + j) :
    (AA m d 1 : FVec Ideal S1024x256 .f32) (ix2 i k) = bpA m d (ix2 i ⟨1000 + 100 * G + j, by omega⟩) := by
  have e : AA m d 1 = winVal (bp1 m d) (g1 m d) := by
    show after opsM (V2 m d) (dr main_v4_0) = _
    rw [opsM_keep _ main_v4_0 (by decide)]
    unfold V2
    rw [Function.update_of_ne (by decide), Function.update_self]
  rw [e]
  have hi : Fin.ofNat 1024 i.val = i := Fin.ext (Nat.mod_eq_of_lt i.isLt)
  show winAt (bp1 m d) (g1 m d) i.val k.val = _
  unfold winAt
  rw [hi, show g1 m d (ValueIdx.ix1 i) = BitVec.ofNat 32 G from (g1_eq m d _).trans hg]
  refine (bp1_at m d i _).trans ?_
  have hc : (Fin.ofNat 101120 (colN (BitVec.ofNat 32 G) + k.val)).val = 1000 + 100 * G + j := by
    show (colN (BitVec.ofNat 32 G) + k.val) % 101120 = _
    unfold colN
    rw [BitVec.toNat_ofNat, Nat.mod_eq_of_lt (show G < 2 ^ 32 by omega), hk]
    omega
  rw [dif_pos (by rw [hc]; omega)]
  exact congrArg (fun q => bpA m d (ix2 i q)) (Fin.ext hc)

theorem aa2 (i : Fin 1024) (k : Fin 128) (G : Fin 1000) (hg : Word.grp (tgA m d (ix1 i)) = BitVec.ofNat 32 G.val) :
    (AA m d 2 : FVec Ideal S1024x128 .f32) (ix2 i k) = if h : k.val < 100 then gwA m d (ix2 G ⟨k.val, h⟩) else (0 : EReal) := by
  have e : AA m d 2 = wgVal (gw1 m d) (g1 m d) := by
    show after opsM (V2 m d) (dr main_v4_1) = _
    rw [opsM_keep _ main_v4_1 (by decide)]
    unfold V2
    rw [Function.update_self]
  rw [e]
  show gw1 m d (ix2 (Fin.ofNat 1000 (g1 m d (ix1 i)).toNat) k) = _
  have hG : Fin.ofNat 1000 (g1 m d (ix1 i)).toNat = G := by
    refine Fin.ext ?_
    show (g1 m d (ix1 i)).toNat % 1000 = _
    rw [show g1 m d (ix1 i) = BitVec.ofNat 32 G.val from (g1_eq m d _).trans hg, BitVec.toNat_ofNat]
    have := G.isLt
    omega
  rw [hG, gw1_at]

end Cert.Proof.Val
-- ==== Proof.Val.Blocks.lean ====
/-
  What the pipelined call's windows hold at a grid point, element by element, of the arrays it streams; and that the
  array it writes ends as the accumulator after the last point.
-/
module

public import proofs.«01_k».proof.Proof.Id.Region
public import Idealize.ShloMosaic.Lib.Pipeline.ValueKit

@[expose] public section

set_option maxRecDepth 16384

noncomputable section

namespace Cert.Proof.Val

open Cert.KernelIdeal Cert.KernelIdeal.Gen
open Idealize.ShloMosaic
open Cert.Proof.Id
open Idealize.ShloMosaic.Pipeline (Dat heldIn)

variable {c : Dev nD} (A : Arrs (F := Ideal) c)

/-- An uncut block has its window's extents. -/
theorem lt_xsize (w : Fin 8) (t : Fin cfg1.N) (hc : ∀ a, (win1 w).clip (grid1.coords t) a = none) (y : (win1 w).block.Idx)
    (a : Fin (win1 w).block.rank) : (y a).val < (win1 w).xsize (grid1.coords t) a := by
  have := (y a).isLt
  unfold Pipeline.Window.xsize
  rw [hc a]
  exact this

/-- A fetched window's element is the array's at its place. -/
theorem blk_read (w : Fin 8) (t : Fin cfg1.N) (hf : (cfg1.win w).fetch t = true)
    (hc : ∀ a, (win1 w).clip (grid1.coords t) a = none) (y : (win1 w).block.Idx) :
    blkAt A w t.val t.isLt y
      = ((cfg1.win w).blk t).view.read (Elt Ideal) (A w) (fun a => ⟨(y a).val, lt_xsize w t hc y a⟩) := by
  unfold blkAt
  rw [Pipeline.heldIn_of_fetch A w t hf]
  unfold Pipeline.Window.fill
  rw [dif_pos (((cfg1.win w).moved_iff _ _).mpr fun a => lt_xsize w t hc y a)]

theorem idx : ∀ t : Fin cfg1.N, win1_0.index t = ![t.val, 0] ∧ win1_1.index t = ![t.val, 0] ∧ win1_2.index t = ![t.val, 0]
    ∧ win1_3.index t = ![t.val, 0, 0] ∧ win1_4.index t = ![t.val, 0, 0] ∧ win1_5.index t = ![0, 0] ∧ win1_6.index t = ![0, 0] := by
  decide +kernel

theorem row_lt (t : Fin cfg1.N) (r : Fin 128) : 128 * t.val + r.val < 1024 := by
  have : t.val < 8 := t.isLt
  omega

theorem blk0 (t : Fin cfg1.N) (r : Fin 128) (k : Fin 1024) :
    blkAt A 0 t.val t.isLt (ix2 r k) = A 0 (ix2 ⟨128 * t.val + r.val, row_lt t r⟩ k) := by
  rw [blk_read A 0 t (fetch1_0 t) (fun _ => rfl)]
  blk_ext [idx t]

theorem blk1 (t : Fin cfg1.N) (r : Fin 128) (k : Fin 256) :
    blkAt A 1 t.val t.isLt (ix2 r k) = A 1 (ix2 ⟨128 * t.val + r.val, row_lt t r⟩ k) := by
  rw [blk_read A 1 t (fetch1_1 t) (fun _ => rfl)]
  blk_ext [idx t]

theorem blk2 (t : Fin cfg1.N) (r : Fin 128) (k : Fin 128) :
    blkAt A 2 t.val t.isLt (ix2 r k) = A 2 (ix2 ⟨128 * t.val + r.val, row_lt t r⟩ k) := by
  rw [blk_read A 2 t (fetch1_2 t) (fun _ => rfl)]
  blk_ext [idx t]

theorem blk3 (t : Fin cfg1.N) (r : Fin 128) :
    blkAt A 3 t.val t.isLt (ix3 0 r 0) = A 3 (ix3 ⟨t.val, t.isLt⟩ r 0) := by
  rw [blk_read A 3 t (fetch1_3 t) (fun _ => rfl)]
  blk_ext [idx t]

theorem blk4 (t : Fin cfg1.N) (r : Fin 128) :
    blkAt A 4 t.val t.isLt (ix3 0 r 0) = A 4 (ix3 ⟨t.val, t.isLt⟩ r 0) := by
  rw [blk_read A 4 t (fetch1_4 t) (fun _ => rfl)]
  blk_ext [idx t]

theorem held5 : ∀ (n : ℕ) (h : n < cfg1.N), blkAt A 5 n h = blkAt A 5 0 (by decide)
  | 0, _ => rfl
  | n + 1, h => by
    have h8 : n + 1 < 8 := h
    refine (Pipeline.heldIn_of_not_fetch A 5 n h (Bool.eq_false_iff.mpr fun e => ?_)).trans (held5 n _)
    have : (n + 1) % 8 = 0 := (fetch1_5 _).mp e
    omega

theorem held6 : ∀ (n : ℕ) (h : n < cfg1.N), blkAt A 6 n h = blkAt A 6 0 (by decide)
  | 0, _ => rfl
  | n + 1, h => by
    have h8 : n + 1 < 8 := h
    refine (Pipeline.heldIn_of_not_fetch A 6 n h (Bool.eq_false_iff.mpr fun e => ?_)).trans (held6 n _)
    have : (n + 1) % 8 = 0 := (fetch1_6 _).mp e
    omega

theorem blk5 (t : Fin cfg1.N) (k : Fin 1024) : blkAt A 5 t.val t.isLt (ix2 0 k) = A 5 (ix2 0 k) := by
  rw [held5 A, show blkAt A 5 0 _ = blkAt A 5 t1_0.val t1_0.isLt from rfl, blk_read A 5 t1_0 ((fetch1_5 _).mpr rfl) (fun _ => rfl)]
  blk_ext [idx t1_0]

theorem blk6 (t : Fin cfg1.N) (k : Fin 1024) : blkAt A 6 t.val t.isLt (ix2 0 k) = A 6 (ix2 0 k) := by
  rw [held6 A, show blkAt A 6 0 _ = blkAt A 6 t1_0.val t1_0.isLt from rfl, blk_read A 6 t1_0 ((fetch1_6 _).mpr rfl) (fun _ => rfl)]
  blk_ext [idx t1_0]

/-- The result array after the run. -/
theorem final7 : finalA A 7 = accAt A 7 (by decide) := by
  unfold finalA
  refine (dat A).arrAt_eq_of_after_last 7 t1_7 (by decide +kernel) _ fun j => ?_
  rfl

end Cert.Proof.Val
-- ==== Proof.Val.Res.lean ====
/-
  The kernel's result over the reals: the mean loss.
-/
module

public import proofs.«01_k».proof.Proof.Val.Data
public import proofs.«01_k».proof.Proof.Val.HostVal
public import proofs.«01_k».proof.Proof.Val.Blocks

@[expose] public section

set_option maxRecDepth 16384

noncomputable section

namespace Cert.Proof.Val

open Cert.KernelIdeal Cert.KernelIdeal.Gen
open Idealize.ShloMosaic
open Idealize.ShloMosaic.TcCoe
open Idealize.ShloMosaic.StableHlo
open Cert.Proof.Id

variable (m : (ℓ : Dev nD × DevRef τ sig) → Buf (Elt Ideal) ℓ) (d : Dev nD)
  {p : Fin 1024 → Fin 101000 → ℝ} {G : Fin 1024 → Fin 1000} {Y : Fin 1024 → Fin 100} {w : Fin 1000 → ℝ}
  {u : Fin 1000 → Fin 100 → ℝ}

/-- The row of a block's row. -/
def rowOf (t : Fin cfg1.N) (r : Fin 128) : Fin 1024 := ⟨128 * t.val + r.val, row_lt t r⟩

theorem rowOf_eq (t : Fin cfg1.N) (r : Fin 128) : (⟨t.val * 128 + r.val, by have := row_lt t r; omega⟩ : Fin 1024) = rowOf t r :=
  Fin.ext (by show t.val * 128 + r.val = 128 * t.val + r.val; omega)

/-- What a grid point's windows hold. -/
theorem block (D : Data (bpA m d) (tgA m d) (rwA m d) (gwA m d) p G Y w u) (t : Fin cfg1.N) :
    Block (blkAt (AA m d) 0 t.val t.isLt) (blkAt (AA m d) 1 t.val t.isLt) (blkAt (AA m d) 2 t.val t.isLt)
      (blkAt (AA m d) 3 t.val t.isLt) (blkAt (AA m d) 4 t.val t.isLt) (blkAt (AA m d) 5 t.val t.isLt)
      (blkAt (AA m d) 6 t.val t.isLt) (fun r => rootLogits p (rowOf t r)) w (fun k => alA m d (ix1 k))
      (fun r => G (rowOf t r)) (fun r => groupLogits p G (rowOf t r)) (fun r => u (G (rowOf t r))) (fun r => Y (rowOf t r)) where
  xs r k := (blk0 (AA m d) t r _).trans ((aa0 m d _ _).trans (D.preds _ _))
  win r k := by
    have hk := k.isLt
    have hl : off (G (rowOf t r)).val + k.val < 256 := by unfold off; omega
    unfold lane
    rw [dif_pos hl]
    exact (blk1 (AA m d) t r _).trans ((aa1 m d (rowOf t r) ⟨_, hl⟩ (G (rowOf t r)).val (G _).isLt (D.grp _) k.val hk rfl).trans (D.preds _ _))
  wg r k := (blk2 (AA m d) t r _).trans ((aa2 m d (rowOf t r) _ (G (rowOf t r)) (D.grp _)).trans ((dif_pos k.isLt).trans (D.groupW _ _)))
  wg0 r k hk := (blk2 (AA m d) t r _).trans ((aa2 m d (rowOf t r) _ (G (rowOf t r)) (D.grp _)).trans (dif_neg (not_lt.2 hk)))
  g r := (blk3 (AA m d) t r).trans ((aa3 m d ⟨t.val, t.isLt⟩ r).trans
    ((congrArg (fun i => Word.grp (tgA m d (ix1 i))) (rowOf_eq t r)).trans (D.grp _)))
  y r := (blk4 (AA m d) t r).trans ((aa4 m d ⟨t.val, t.isLt⟩ r).trans
    ((congrArg (fun i => Word.pos (tgA m d (ix1 i))) (rowOf_eq t r)).trans (D.pos _)))
  rw k := (blk5 (AA m d) t _).trans ((aa5 m d _).trans ((dif_pos k.isLt).trans (D.rootW _)))
  rw0 k hk := (blk5 (AA m d) t _).trans ((aa5 m d _).trans (dif_neg (not_lt.2 hk)))
  alpha k := (blk6 (AA m d) t _).trans ((aa6 m d _).trans (dif_pos k.isLt))
  w0 := D.w0
  v0 r := D.u0 _

/-- The loss of a block. -/
def blockLoss (p : Fin 1024 → Fin 101000 → ℝ) (G : Fin 1024 → Fin 1000) (Y : Fin 1024 → Fin 100) (w : Fin 1000 → ℝ)
    (u : Fin 1000 → Fin 100 → ℝ) (al : Fin 1000 → EReal) (t : Fin cfg1.N) : EReal :=
  ∑ r, lossAt p G Y w u al (rowOf t r)

theorem stepAt_at (D : Data (bpA m d) (tgA m d) (rwA m d) (gwA m d) p G Y w u) (n : ℕ) (h : n < cfg1.N) (acc : Vec Ideal S1x1 .f32)
    (j : S1x1.Idx) : stepAt (AA m d) n h acc j
      = acc j + blockLoss p G Y w u (fun k => alA m d (ix1 k)) ⟨n, h⟩ * ((1 / 1024 : ℝ) : EReal) :=
  (block m d D ⟨n, h⟩).step acc j

theorem start_at (j : S1x1.Idx) : k1_pay21 (F := Ideal) j = (0 : EReal) := by
  show Ideal.ofBits .f32 0x00000000#32 = 0
  exact Ideal.ofBits_zero .f32

/-- The accumulator after a point. -/
theorem accAt_at (D : Data (bpA m d) (tgA m d) (rwA m d) (gwA m d) p G Y w u) (j : S1x1.Idx) : ∀ (n : ℕ) (h : n < cfg1.N),
    accAt (AA m d) n h j = ∑ t : Fin (n + 1), blockLoss p G Y w u (fun k => alA m d (ix1 k)) ⟨t.val, by have := t.isLt; omega⟩
      * ((1 / 1024 : ℝ) : EReal)
  | 0, h => by
    rw [Fin.sum_univ_one]
    refine (stepAt_at m d D 0 h _ j).trans ?_
    rw [start_at, zero_add]
    rfl
  | n + 1, h => by
    rw [Fin.sum_univ_castSucc]
    refine (stepAt_at m d D (n + 1) h _ j).trans ?_
    rw [accAt_at D j n]
    rfl

/-- A nonnegative real factor comes out of a sum. -/
theorem sum_mul_real {ι : Type} (s : Finset ι) (f : ι → EReal) (c : ℝ) (hc : 0 ≤ c) : ∑ k ∈ s, f k * (c : EReal) = (∑ k ∈ s, f k) * (c : EReal) := by
  classical
  induction s using Finset.induction_on with
  | empty => simp
  | insert a s ha ih =>
    rw [Finset.sum_insert ha, Finset.sum_insert ha, ih,
      EReal.right_distrib_of_nonneg_of_ne_top (EReal.coe_nonneg.2 hc) (EReal.coe_ne_top c)]

theorem sum_rows (f : Fin 1024 → EReal) : ∑ t : Fin cfg1.N, ∑ r : Fin 128, f (rowOf t r) = ∑ i, f i := by
  rw [← Fintype.sum_prod_type' (fun (t : Fin cfg1.N) (r : Fin 128) => f (rowOf t r))]
  refine Fintype.sum_equiv (finProdFinEquiv (m := 8) (n := 128)) _ f fun q => congrArg f (Fin.ext ?_)
  show 128 * q.1.val + q.2.val = q.2.val + 128 * q.1.val
  omega

set_option maxHeartbeats 2000000 in
/-- The kernel's result. -/
theorem res_at (D : Data (bpA m d) (tgA m d) (rwA m d) (gwA m d) p G Y w u) (x : S_.Idx) :
    res m d x = loss p G Y w u (fun k => alA m d (ix1 k)) := by
  have e : res m d x = V4 m d (dr main_v12) (ix2 0 0) := by
    unfold res opE
    after_results_simp
    pointwise
  rw [e]
  unfold V4
  rw [Function.update_self]
  refine (congrFun (final7 (AA m d)) _).trans ((accAt_at m d D _ 7 _).trans ?_)
  rw [sum_mul_real _ _ _ (by norm_num)]
  unfold loss
  congr 1
  exact sum_rows (fun i => lossAt p G Y w u (fun k => alA m d (ix1 k)) i)

end Cert.Proof.Val
-- ==== Proof.Val.Ref.lean ====
/-
  The reference's arrays over the reals, element by element.
-/
module

public import proofs.«01_k».proof.Proof.Val.Data
public import proofs.«01_k».proof.Proof.Gen.ReferenceIdeal.Run
public import Idealize.ShloMosaic.Lib.Pointwise
public import Idealize.ShloMosaic.Lib.ReduceAll
public import Idealize.ShloMosaic.Lib.Routing.Ops
public import Idealize.ShloMosaic.Lib.Routing.OpsSearch
public import Idealize.ShloMosaic.Lib.Routing.OpsPair

@[expose] public section

set_option maxRecDepth 16384

noncomputable section

namespace Cert.Proof.Val.Ref

open Cert.ReferenceIdeal Cert.ReferenceIdeal.Gen Cert.ReferenceIdeal.Value
open Idealize.ShloMosaic
open Idealize.ShloMosaic.TcCoe
open Idealize.ShloMosaic.StableHlo

/-- The numbers of a gather that reads, in row `i`, the columns the indices name. -/
abbrev colsDims (N C K : ℕ) (wf : GatherDims.WF ⟨2, ![N, C]⟩ ⟨3, ![N, K, 1]⟩ ⟨2, ![N, K]⟩ [] [1] [0] [1] [0] 2 ![1, 1]) :
    GatherDims ⟨2, ![N, C]⟩ ⟨3, ![N, K, 1]⟩ ⟨2, ![N, K]⟩ where
  offsetDims := []
  collapsedSliceDims := [1]
  operandBatchingDims := [0]
  startIndicesBatchingDims := [0]
  startIndexMap := [1]
  indexVectorDim := 2
  sliceSizes := ![1, 1]
  wf := wf

/-- Such a gather at an index in range. -/
theorem gather_cols {α : Type} {N C K : ℕ}
    (wf : GatherDims.WF ⟨2, ![N, C]⟩ ⟨3, ![N, K, 1]⟩ ⟨2, ![N, K]⟩ [] [1] [0] [1] [0] 2 ![1, 1])
    (x : (⟨2, ![N, C]⟩ : Shape).Idx → α) (idx : IVec ⟨3, ![N, K, 1]⟩ 32) (i : Fin N) (k : Fin K) (c : Fin C) (hC : C < 2 ^ 31)
    (h : idx (ix3 i k 0) = BitVec.ofNat 32 c.val) : Host.gather (colsDims N C K wf) x idx (ix2 i k) = x (ix2 i c) := by
  refine congrArg x (funext fun a => Fin.ext ?_)
  match a with
  | ⟨0, _⟩ =>
    show 0 + i.val + 0 = i.val
    omega
  | ⟨1, _⟩ =>
    have e : idx ((colsDims N C K wf).siIdx (ix2 i k) ⟨0, Nat.zero_lt_one⟩) = BitVec.ofNat 32 c.val := by
      rw [← h]
      refine congrArg idx (funext fun b => Fin.ext ?_)
      match b with
      | ⟨0, _⟩ => rfl
      | ⟨1, _⟩ => rfl
      | ⟨2, _⟩ => rfl
    show min (idx ((colsDims N C K wf).siIdx (ix2 i k) ⟨0, Nat.zero_lt_one⟩)).toInt.toNat (C - 1) + 0 + 0 = c.val
    have hc := c.isLt
    rw [e, BitVec.toInt_eq_toNat_of_lt (by rw [BitVec.toNat_ofNat]; omega), BitVec.toNat_ofNat]
    omega

/-- A conjunction of ones is one. -/
theorem fold_andi {ι : Type} (s : Finset ι) (f : ι → BitVec 1) (h : ∀ x, f x = 1#1) : s.fold IntOp.andi 1#1 f = 1#1 := by
  classical
  induction s using Finset.induction_on with
  | empty => rfl
  | insert a s ha ih => rw [Finset.fold_insert ha, ih, h a]; rfl

/-- A maximum over the indices of one row is one over the columns. -/
theorem fold_row {N C : ℕ} (h' : (⟨2, ![N, C]⟩ : Shape).ReducesTo [1] ⟨1, ![N]⟩) (h : (⟨2, ![N, C]⟩ : Shape).Reduces [1] ⟨1, ![N]⟩)
    (b : EReal) (f : (⟨2, ![N, C]⟩ : Shape).Idx → EReal) (i : Fin N) :
    Finset.fold max b f {x | h'.drop x = ix1 i} = Finset.univ.fold max b (fun k => f (ix2 i k)) := by
  rw [Shape.ReducesTo.drop_eq_drop h' h]
  refine (h.fold_filter_drop_single max b f (ix1 i)).trans ?_
  refine Finset.fold_congr fun k _ => congrArg f (funext fun a => ?_)
  match a with
  | ⟨0, _⟩ => rfl
  | ⟨1, _⟩ => rfl

/-- A word that is not negative is left alone by the wrap of negative indices. -/
theorem wrap (n : ℕ) (h : n < 2 ^ 31) (a : BitVec 32) : Scalar.select (IntOp.cmpi .slt (BitVec.ofNat 32 n) 0#32) a (BitVec.ofNat 32 n) = BitVec.ofNat 32 n :=
  Routing.wrap_of_lt _ _ (by rw [BitVec.toNat_ofNat]; omega)

/-- A word in range passes the range's test. -/
theorem in_range (n b : ℕ) (h : n ≤ b) (hb : b < 2 ^ 31) :
    IntOp.andi (IntOp.cmpi .sge (BitVec.ofNat 32 n) 0#32) (IntOp.cmpi .sle (BitVec.ofNat 32 n) (BitVec.ofNat 32 b)) = 1#1 := by
  have h1 : (BitVec.ofNat 32 n).toInt = n := by
    rw [BitVec.toInt_eq_toNat_of_lt (by rw [BitVec.toNat_ofNat]; omega), BitVec.toNat_ofNat]; omega
  have h2 : (BitVec.ofNat 32 b).toInt = b := by
    rw [BitVec.toInt_eq_toNat_of_lt (by rw [BitVec.toNat_ofNat]; omega), BitVec.toNat_ofNat]; omega
  have e1 : IntOp.cmpi .sge (BitVec.ofNat 32 n) 0#32 = 1#1 := IntOp.cmpi_sge.2 (by rw [h1]; simp)
  have e2 : IntOp.cmpi .sle (BitVec.ofNat 32 n) (BitVec.ofNat 32 b) = 1#1 := IntOp.cmpi_sle.2 (by rw [h1, h2]; exact_mod_cast h)
  rw [e1, e2]
  rfl

theorem select_one {α : Type} (a b : α) : Scalar.select 1#1 a b = a := if_pos rfl

theorem idx_col {N : ℕ} (x : (⟨3, ![N, 1, 1]⟩ : Shape).Idx) : ∃ i : Fin N, x = ix3 i 0 0 :=
  ⟨x 0, funext fun a => match a with
    | ⟨0, _⟩ => rfl
    | ⟨1, _⟩ => Subsingleton.elim (α := Fin 1) _ _
    | ⟨2, _⟩ => Subsingleton.elim (α := Fin 1) _ _⟩

theorem idx_box {N K : ℕ} (x : (⟨3, ![N, K, 1]⟩ : Shape).Idx) : ∃ (i : Fin N) (k : Fin K), x = ix3 i k 0 :=
  ⟨x 0, x 1, funext fun a => match a with
    | ⟨0, _⟩ => rfl
    | ⟨1, _⟩ => rfl
    | ⟨2, _⟩ => Subsingleton.elim (α := Fin 1) _ _⟩

theorem negInf : Ideal.ofBits .f32 4286578688#32 = ⊥ := Val.negInf

variable (V : Valuation τ sig (Elt Ideal)) {p : Fin 1024 → Fin 101000 → ℝ} {G : Fin 1024 → Fin 1000} {Y : Fin 1024 → Fin 100}
  {w : Fin 1000 → ℝ} {u : Fin 1000 → Fin 100 → ℝ}

/-- What the reference's arguments hold. -/
abbrev Args (V : Valuation τ sig (Elt Ideal)) (p : Fin 1024 → Fin 101000 → ℝ) (G : Fin 1024 → Fin 1000) (Y : Fin 1024 → Fin 100)
    (w : Fin 1000 → ℝ) (u : Fin 1000 → Fin 100 → ℝ) : Prop :=
  Data (V (Proc.devRef .tc main_arg0)) (V (Proc.devRef .tc main_arg1)) (V (Proc.devRef .tc main_arg2)) (V (Proc.devRef .tc main_arg3)) p G Y w u

/-- The maximum, and a row less its maximum less the logarithm of its exponentials' sum. -/
def lsm {C : ℕ} (x : Fin C → EReal) (k : Fin C) : EReal :=
  (x k - Finset.univ.fold max ⊥ x) - Ideal.log (∑ k, Ideal.exp (x k - Finset.univ.fold max ⊥ x))

/-- A row's loss in the reference's spelling. -/
theorem row {C : ℕ} (a v : Fin C → ℝ) (y : Fin C) (hv : v y ≠ 0) (c₁ c₂ : ℝ) :
    Ideal.div ((c₁ : EReal) * (v y : EReal) * lsm (fun k => (a k : EReal)) y
        + ((-c₂ : ℝ) : EReal) * ∑ k, (v k : EReal) * lsm (fun k => (a k : EReal)) k) (v y : EReal)
      = ((Math.ce a v y c₁ c₂ : ℝ) : EReal) :=
  Math.ref_ce (x := fun k => (a k : EReal)) (w := fun k => (v k : EReal)) y c₁ c₂ (fun _ => rfl) (fun _ => rfl) hv

theorem root_soft (X : FVec Ideal S1024x1000 .f32) (i : Fin 1024) (k : Fin 1000) :
    subf X (broadcastInDim S1024x1000 ![0, 1] bcast_S1024x1_S1024x1000_0_1 (Host.log (broadcastInDim S1024x1 ![0] bcast_S1024_S1024x1_0
      (Host.reduceAdd (Host.exp X) (constant S_ .f32 0x00000000#32) reducesTo_S1024x1000_S1024_d1 h_S_)))) (ix2 i k)
      = X (ix2 i k) - Ideal.log (∑ k, Ideal.exp (X (ix2 i k))) := by
  pointwise

theorem group_soft (X : FVec Ideal S1024x100 .f32) (i : Fin 1024) (k : Fin 100) :
    subf X (broadcastInDim S1024x100 ![0, 1] bcast_S1024x1_S1024x100_0_1 (Host.log (broadcastInDim S1024x1 ![0] bcast_S1024_S1024x1_0
      (Host.reduceAdd (Host.exp X) (constant S_ .f32 0x00000000#32) reducesTo_S1024x100_S1024_d1 h_S_)))) (ix2 i k)
      = X (ix2 i k) - Ideal.log (∑ k, Ideal.exp (X (ix2 i k))) := by
  pointwise

variable {V} (D : Args V p G Y w u)

include D

theorem v0_at (i : Fin 1024) : (res_main_v0 V : IVec S1024 32) (ix1 i) = BitVec.ofNat 32 (G i).val :=
  Eq.trans rfl (D.grp i)

theorem v1_at (i : Fin 1024) : (res_main_v1 V : IVec S1024 32) (ix1 i) = BitVec.ofNat 32 (Y i).val :=
  Eq.trans rfl (D.pos i)

theorem call3_at (i : Fin 1024) : (res_main_call3_v5 V : IVec S1024x1x1 32) (ix3 i 0 0) = BitVec.ofNat 32 (G i).val := by
  pointwise [res_main_call3_v5, res_main_v6]
  rw [v0_at D i]
  exact wrap _ (by omega) _

theorem call4_at (i : Fin 1024) : (res_main_call4_v5 V : IVec S1024x1x1 32) (ix3 i 0 0) = BitVec.ofNat 32 (G i).val := by
  pointwise [res_main_call4_v5, res_main_v9]
  rw [v0_at D i]
  exact wrap _ (by omega) _

theorem call7_at (i : Fin 1024) : (res_main_call7_v5 V : IVec S1024x1x1 32) (ix3 i 0 0) = BitVec.ofNat 32 (Y i).val := by
  pointwise [res_main_call7_v5, res_main_v49]
  rw [v1_at D i]
  exact wrap _ (by omega) _

theorem call8_at (i : Fin 1024) : (res_main_call8_v5 V : IVec S1024x1x1 32) (ix3 i 0 0) = BitVec.ofNat 32 (Y i).val := by
  pointwise [res_main_call8_v5, res_main_v52]
  rw [v1_at D i]
  exact wrap _ (by omega) _

theorem call5_at (i : Fin 1024) (k : Fin 100) :
    (res_main_call5_v5 V : IVec S1024x100x1 32) (ix3 i k 0) = BitVec.ofNat 32 (1000 + 100 * (G i).val + k.val) := by
  pointwise [res_main_call5_v5, res_main_v32]
  have e : IntOp.addi (IntOp.addi (1000#32) (IntOp.muli (BitVec.ofNat 32 (G i).val) 100#32)) (BitVec.ofNat 32 k.val)
      = BitVec.ofNat 32 (1000 + 100 * (G i).val + k.val) := by
    refine BitVec.eq_of_toNat_eq ?_
    have hG := (G i).isLt
    show (BitVec.ofNat 32 1000 + BitVec.ofNat 32 (G i).val * BitVec.ofNat 32 100 + BitVec.ofNat 32 k.val).toNat = _
    simp only [BitVec.toNat_add, BitVec.toNat_mul, BitVec.toNat_ofNat]
    omega
  rw [v0_at D i, e]
  exact wrap _ (by omega) _

theorem v2_at (i : Fin 1024) (k : Fin 1000) : (res_main_v2 V : FVec Ideal S1024x1000 .f32) (ix2 i k) = (rootLogits p i k : EReal) := by
  pointwise [res_main_v2]
  exact D.preds _ _

theorem v5_at (i : Fin 1024) (k : Fin 1000) : (res_main_v5 V : FVec Ideal S1024x1000 .f32) (ix2 i k) = (w k : EReal) := by
  pointwise [res_main_v5]
  exact D.rootW _

theorem v40_at (i : Fin 1024) (k : Fin 100) : (res_main_v40 V : FVec Ideal S1024x100 .f32) (ix2 i k) = (u (G i) k : EReal) := by
  unfold res_main_v40
  refine (Routing.gather_row gather_S1000x100_S1024x1_S1024x100_1_0_n_n_0_1_1100 rfl rfl rfl rfl rfl _ _ i k (G i) ?_ (by decide)).trans (D.groupW _ _)
  pointwise
  rw [v0_at D i]
  exact wrap _ (by omega) _

theorem v33_at (i : Fin 1024) (k : Fin 100) : (res_main_v33 V : FVec Ideal S1024x100 .f32) (ix2 i k) = (groupLogits p G i k : EReal) := by
  pointwise [res_main_v33]
  rw [fold_andi, select_one]
  · exact (gather_cols _ _ _ i k ⟨1000 + 100 * (G i).val + k.val, by omega⟩ (by decide) (call5_at D i k)).trans (D.preds _ _)
  · intro x
    obtain ⟨i, k, rfl⟩ := idx_box x
    rw [call5_at D]
    exact in_range _ 100999 (by omega) (by decide)

theorem call2_at (i : Fin 1024) (k : Fin 1000) : (res_main_call2_v5 V : FVec Ideal S1024x1000 .f32) (ix2 i k)
    = (rootLogits p i k : EReal) - Finset.univ.fold max ⊥ (fun k => (rootLogits p i k : EReal)) := by
  pointwise [res_main_call2_v5]
  refine congrArg₂ (fun a b : EReal => a - b) (v2_at D i k) ?_
  refine (congrArg (max _) (fold_row reducesTo_S1024x1000_S1024_d1 (by decide) _ _ i)).trans ?_
  rw [negInf, max_eq_right bot_le]
  exact Finset.fold_congr fun k _ => v2_at D i k

theorem v4_at (i : Fin 1024) (k : Fin 1000) : (res_main_v4 V : FVec Ideal S1024x1000 .f32) (ix2 i k)
    = lsm (fun k => (rootLogits p i k : EReal)) k := by
  refine (root_soft (res_main_call2_v5 V) i k).trans ?_
  rw [call2_at D, funext (fun k => congrArg Ideal.exp (call2_at D i k))]
  rfl

theorem call6_at (i : Fin 1024) (k : Fin 100) : (res_main_call6_v5 V : FVec Ideal S1024x100 .f32) (ix2 i k)
    = (groupLogits p G i k : EReal) - Finset.univ.fold max ⊥ (fun k => (groupLogits p G i k : EReal)) := by
  pointwise [res_main_call6_v5]
  refine congrArg₂ (fun a b : EReal => a - b) (v33_at D i k) ?_
  refine (congrArg (max _) (fold_row reducesTo_S1024x100_S1024_d1 (by decide) _ _ i)).trans ?_
  rw [negInf, max_eq_right bot_le]
  exact Finset.fold_congr fun k _ => v33_at D i k

theorem v48_at (i : Fin 1024) (k : Fin 100) : (res_main_v48 V : FVec Ideal S1024x100 .f32) (ix2 i k)
    = lsm (fun k => (groupLogits p G i k : EReal)) k := by
  refine (group_soft (res_main_call6_v5 V) i k).trans ?_
  rw [call6_at D, funext (fun k => congrArg Ideal.exp (call6_at D i k))]
  rfl

theorem v8_at (i : Fin 1024) : (res_main_v8 V : FVec Ideal S1024 .f32) (ix1 i) = (w (G i) : EReal) := by
  pointwise [res_main_v8]
  rw [fold_andi, select_one]
  · exact (gather_cols _ _ _ i 0 (G i) (by decide) (call3_at D i)).trans (v5_at D _ _)
  · intro x
    obtain ⟨i, rfl⟩ := idx_col x
    rw [call3_at D]
    exact in_range _ 999 (by omega) (by decide)

theorem v51_at (i : Fin 1024) : (res_main_v51 V : FVec Ideal S1024 .f32) (ix1 i) = (u (G i) (Y i) : EReal) := by
  pointwise [res_main_v51]
  rw [fold_andi, select_one]
  · exact (gather_cols _ _ _ i 0 (Y i) (by decide) (call7_at D i)).trans (v40_at D _ _)
  · intro x
    obtain ⟨i, rfl⟩ := idx_col x
    rw [call7_at D]
    exact in_range _ 99 (by omega) (by decide)

theorem test4 (x : S1024x1x1.Idx) : IntOp.andi (IntOp.cmpi .sge ((res_main_call4_v5 V : IVec S1024x1x1 32) x) 0#32)
    (IntOp.cmpi .sle ((res_main_call4_v5 V : IVec S1024x1x1 32) x) 999#32) = 1#1 := by
  obtain ⟨i, rfl⟩ := idx_col x
  rw [call4_at D]
  exact in_range _ 999 (by omega) (by decide)

theorem test8 (x : S1024x1x1.Idx) : IntOp.andi (IntOp.cmpi .sge ((res_main_call8_v5 V : IVec S1024x1x1 32) x) 0#32)
    (IntOp.cmpi .sle ((res_main_call8_v5 V : IVec S1024x1x1 32) x) 99#32) = 1#1 := by
  obtain ⟨i, rfl⟩ := idx_col x
  rw [call8_at D]
  exact in_range _ 99 (by omega) (by decide)

theorem pick4 (i : Fin 1024) : Host.gather gather_S1024x1000_S1024x1x1_S1024x1_n_1_0_0_1_2_11 (res_main_v4 V) (res_main_call4_v5 V) (ix2 i 0)
    = lsm (fun k => (rootLogits p i k : EReal)) (G i) :=
  (gather_cols _ _ _ i 0 (G i) (by decide) (call4_at D i)).trans (v4_at D _ _)

theorem pick8 (i : Fin 1024) : Host.gather gather_S1024x100_S1024x1x1_S1024x1_n_1_0_0_1_2_11 (res_main_v48 V) (res_main_call8_v5 V) (ix2 i 0)
    = lsm (fun k => (groupLogits p G i k : EReal)) (Y i) :=
  (gather_cols _ _ _ i 0 (Y i) (by decide) (call8_at D i)).trans (v48_at D _ _)

theorem alpha (i : Fin 1024) : Host.gather gather_S1000_S1024x1_S1024_n_0_n_n_0_1_1 (V (Proc.devRef .tc main_arg4))
      (broadcastInDim S1024x1 ![0] bcast_S1024_S1024x1_0
        (select (cmpi .slt (res_main_v0 V) (broadcastInDim S1024 ![] bcast_S_S1024 (constantI S_ 32 0#32)))
          (addi (res_main_v0 V) (broadcastInDim S1024 ![] bcast_S_S1024 (constantI S_ 32 1000#32))) (res_main_v0 V))) (ix1 i)
    = (V (Proc.devRef .tc main_arg4) : FVec Ideal S1000 .f32) (ix1 (G i)) := by
  refine Routing.take_ap gather_S1000_S1024x1_S1024_n_0_n_n_0_1_1 rfl rfl rfl rfl _ _ i (G i).isLt (by omega) ?_
  pointwise
  rw [v0_at D i]
  exact wrap _ (by omega) _

set_option maxHeartbeats 2000000 in
/-- The reference's result. -/
theorem result (x : S_.Idx) : (val2 V (Proc.devRef .tc main_v67) : FVec Ideal S_ .f32) x
    = loss p G Y w u (fun k => (V (Proc.devRef .tc main_arg4) : FVec Ideal S1000 .f32) (ix1 k)) := by
  rw [val2_main_v67]
  pointwise
  simp only [batch]
  rw [Ideal.div_coe (by norm_num)]
  unfold loss
  refine congrArg (fun a : EReal => a * ((1 / 1024 : ℝ) : EReal)) (Finset.sum_congr rfl fun i _ => ?_)
  rw [alpha D i, v8_at D i, v51_at D i, fold_andi, select_one, fold_andi, select_one, pick4 D i, pick8 D i]
  rotate_left
  · exact test8 D
  · exact test4 D
  simp only [v5_at D, v4_at D, v40_at D, v48_at D, c_root, s_root_neg, c_group, s_group_neg]
  exact congrArg₂ (fun a b : EReal => a + b)
    (row (rootLogits p i) w (G i) (D.w0 _) (cst 0xBF666666#32) (cst 0x38D1B717#32))
    (congrArg (fun a : EReal => _ * a) (row (groupLogits p G i) (u (G i)) (Y i) (D.u0 _ _) (cst 0xBF733333#32) (cst 0x3A03126F#32)))

end Cert.Proof.Val.Ref
-- ==== Proof.lean ====
/-
  The proof of `Cert.Claim` (proofs.«01_k».proof.Defs).

  The kernel's run is proved once, generic in the float values, in Proof/Hw (at the kernel as printed) and again in
  Proof/Id, the same text at its idealization. The value claim reads the idealized kernel's result (Proof/Val/Res) and the
  reference's (Proof/Val/Ref) over the reals: both are the mean loss of Proof/Val/Data.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_range
public import proofs.«01_k».proof.Proof.Gen.ReferenceIdeal.Run
public import proofs.«01_k».proof.Proof.Range
public import proofs.«01_k».proof.Proof.Hw.Frame
public import proofs.«01_k».proof.Proof.Id.Frame
public import proofs.«01_k».proof.Proof.Finite
public import proofs.«01_k».proof.Proof.Val.Res
public import proofs.«01_k».proof.Proof.Val.Ref
public import Idealize.ShloMosaic.Adequacy
public import Idealize.ShloMosaic.Init

@[expose] public section

noncomputable section

namespace Cert.Proof

open Idealize.ShloMosaic Idealize.SL.Sem

/-- The kernel's frame. -/
theorem frame_p : Cert.quiescent_Kernel := fun m g h =>
  Hw.frame (F := Bits) m g fun d x => Range.lt_of_in_range _ _ _ _ _ (h d) x

/-- The idealized kernel's frame. -/
theorem frame_pi : Cert.quiescent_KernelIdeal := fun m g h =>
  Id.frame (F := Ideal) m g fun d x => Range.lt_of_in_range _ _ _ _ _ (h d) x

/-- The reference's frame: its run leaves the arguments and it declares no semaphore. -/
theorem frame_ri : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The mask stands for minus infinity. -/
theorem preserves : Cert.preserves_Kernel_KernelIdeal := IdealRules.named_const.statement _ _ _ _ _ rfl

/-- The idealized kernel's frame under the value claim's precondition. -/
theorem frame_pi_finite : Cert.quiescent_KernelIdeal_pre_finite_in_range := fun m g h =>
  Id.frame (F := Ideal) m g fun d x => (Finite.parts _ _ _ _ _ (h d)).1 x

/-- The reference's frame under the value claim's precondition. -/
theorem frame_ri_finite : Cert.quiescent_ReferenceIdeal_pre_finite_in_range := fun m g _ => frame_ri m g trivial

/-- The two results agree. -/
theorem value (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (h : Cert.Pre_KernelIdeal_finite_in_range m) (d : Dev Cert.KernelIdeal.nD)
    (e0 : Val.bpA m d = StableHlo.launchContents m' d (Proc.devRef .tc Cert.ReferenceIdeal.main_arg0))
    (e1 : Val.tgA m d = StableHlo.launchContents m' d (Proc.devRef .tc Cert.ReferenceIdeal.main_arg1))
    (e2 : Val.rwA m d = StableHlo.launchContents m' d (Proc.devRef .tc Cert.ReferenceIdeal.main_arg2))
    (e3 : Val.gwA m d = StableHlo.launchContents m' d (Proc.devRef .tc Cert.ReferenceIdeal.main_arg3))
    (e4 : Val.alA m d = StableHlo.launchContents m' d (Proc.devRef .tc Cert.ReferenceIdeal.main_arg4)) :
    Cert.ReferenceIdeal.Value.val2 (StableHlo.launchContents m' d) (Proc.devRef .tc Cert.ReferenceIdeal.main_v67) = Id.res m d := by
  obtain ⟨p, G, Y, w, u, D⟩ := Finite.data _ _ _ _ _ (h d)
  have D' : Val.Ref.Args (StableHlo.launchContents m' d) p G Y w u := by
    unfold Val.Ref.Args
    rw [← e0, ← e1, ← e2, ← e3]
    exact D
  funext x
  refine (Val.Ref.result D' x).trans ?_
  rw [← e4]
  exact (Val.res_at m d D x).symm

/-- The idealized kernel computes what the idealized reference does. -/
theorem algebraic : Cert.algebraic_KernelIdeal_ReferenceIdeal_pre_finite_in_range := fun m g m' g' h ha =>
  ⟨fun d => Id.res m d,
    (θ_run Cert.KernelIdeal.defs _ _).mono (fun _ k d => ⟨(k.1 d).2, (k.1 d).1⟩)
      (Id.run_main (F := Ideal) m g (Id.preOK m fun d x => (Finite.parts _ _ _ _ _ (h d)).1 x)),
    (θ_run Cert.ReferenceIdeal.defs _ _).mono
      (fun _ k d => ⟨(k d).1.trans ((Cert.ReferenceIdeal.Value.val2_main_v67 _).symm.trans
        (value m m' h d (ha d).1.symm (ha d).2.1.symm (ha d).2.2.1.symm (ha d).2.2.2.1.symm (ha d).2.2.2.2.symm)), (k d).2⟩)
      (Cert.ReferenceIdeal.Value.run (F := Ideal) m' g')⟩

theorem claim : Cert.Claim := ⟨Cert.Kernel.Gen.facts, Cert.KernelIdeal.Gen.facts, Cert.ReferenceIdeal.Gen.facts, Cert.Pre_in_range.Gen.facts,
  Finite.facts, frame_p, frame_pi, frame_pi_finite, frame_ri, frame_ri_finite, preserves, algebraic⟩

end Cert.Proof

end
